-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "sm_scale_log2e" .f32 0x3E0293EE#32 (((Real.sqrt 128)⁻¹ * (Real.log 2)⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S4x384x5120 : Shape := ⟨3, ![4, 384, 5120]⟩
abbrev S4x8x384x128 : Shape := ⟨4, ![4, 8, 384, 128]⟩
abbrev S4x8x384 : Shape := ⟨3, ![4, 8, 384]⟩
abbrev S4x8x128 : Shape := ⟨3, ![4, 8, 128]⟩
abbrev S4 : Shape := ⟨1, ![4]⟩
abbrev S4x384x40x128 : Shape := ⟨4, ![4, 384, 40, 128]⟩
abbrev S_ : Shape := ⟨0, ![]⟩
abbrev S4x384x40 : Shape := ⟨3, ![4, 384, 40]⟩

class Facts : Prop where
  shapeCasts_S4x384x5120_S4x384x40x128 : S4x384x5120.ShapeCasts S4x384x40x128
  reducesTo_S4x384x40x128_S4x384x40_d3 : S4x384x40x128.ReducesTo [3] S4x384x40
  h_S_ : 0 < S_.numel
  bitsLt_bf16_f32 : FTy.bits .bf16 < FTy.bits .f32
  bcast_S_S4x384x40 : S_.BroadcastsInDim S4x384x40 (![] : Fin 0 → Fin S4x384x40.rank)
  reducesTo_S4x384x40_S_d0_1_2 : S4x384x40.ReducesTo [0, 1, 2] S_
  bcast_S_S4 : S_.BroadcastsInDim S4 (![] : Fin 0 → Fin S4.rank)
  reducesTo_S4_S_d0 : S4.ReducesTo [0] S_

variable [Facts]

def fn {F : FTy → Type} [FloatOps F] (main_arg0 : FVec F S4x384x5120 .bf16) (main_arg1 : FVec F S4x8x384x128 .fp8e4m3) (main_arg2 : FVec F S4x8x384 .f32) (main_arg3 : FVec F S4x8x384x128 .fp8e4m3) (main_arg4 : FVec F S4x8x128 .f32) (main_arg5 : IVec S4 32) : IVec S_ 1 :=
  let main_v0 : FVec F S4x384x40x128 .bf16 := shapeCast S4x384x40x128 main_arg0 shapeCasts_S4x384x5120_S4x384x40x128
  let main_v1 : FVec F S4x384x40x128 .bf16 := Host.absf main_v0
  let main_cst : FVec F S_ .bf16 := constant S_ .bf16 0xFF80#16
  let main_v2 : FVec F S4x384x40 .bf16 := (fun x v => Host.reduce FloatOps.maximumf x v reducesTo_S4x384x40x128_S4x384x40_d3 h_S_) main_v1 main_cst
  let main_v3 : FVec F S4x384x40 .f32 := (extf .f32 · bitsLt_bf16_f32) main_v2
  let main_cst_0 : FVec F S_ .f32 := constant S_ .f32 0x00000000#32
  let main_v4 : FVec F S4x384x40 .f32 := broadcastInDim S4x384x40 ![] bcast_S_S4x384x40 main_cst_0
  let main_v5 : IVec S4x384x40 1 := cmpf .oeq main_v3 main_v4
  let main_cst_1 : FVec F S_ .f32 := constant S_ .f32 0x05000000#32
  let main_v6 : FVec F S4x384x40 .f32 := broadcastInDim S4x384x40 ![] bcast_S_S4x384x40 main_cst_1
  let main_v7 : IVec S4x384x40 1 := cmpf .oge main_v3 main_v6
  let main_cst_2 : FVec F S_ .f32 := constant S_ .f32 0x7F7F0000#32
  let main_v8 : FVec F S4x384x40 .f32 := broadcastInDim S4x384x40 ![] bcast_S_S4x384x40 main_cst_2
  let main_v9 : IVec S4x384x40 1 := cmpf .ole main_v3 main_v8
  let main_v10 : IVec S4x384x40 1 := andi main_v7 main_v9
  let main_v11 : IVec S4x384x40 1 := ori main_v5 main_v10
  let main_c : IVec S_ 1 := constantI S_ 1 1#1
  let main_v12 : IVec S_ 1 := (fun x v => Host.reduce IntOp.andi x v reducesTo_S4x384x40_S_d0_1_2 h_S_) main_v11 main_c
  let main_c_3 : IVec S_ 32 := constantI S_ 32 384#32
  let main_v13 : IVec S4 32 := broadcastInDim S4 ![] bcast_S_S4 main_c_3
  let main_v14 : IVec S4 1 := cmpi .sle main_arg5 main_v13
  let main_c_4 : IVec S_ 1 := constantI S_ 1 1#1
  let main_v15 : IVec S_ 1 := (fun x v => Host.reduce IntOp.andi x v reducesTo_S4_S_d0 h_S_) main_v14 main_c_4
  let main_v16 : IVec S_ 1 := andi main_v12 main_v15
  main_v16
-- ==== Kernel.lean ====
abbrev S4x384x5120 : Shape := ⟨3, ![4, 384, 5120]⟩
abbrev S4x8x384x128 : Shape := ⟨4, ![4, 8, 384, 128]⟩
abbrev S4x8x384 : Shape := ⟨3, ![4, 8, 384]⟩
abbrev S4x8x128 : Shape := ⟨3, ![4, 8, 128]⟩
abbrev S4 : Shape := ⟨1, ![4]⟩
abbrev S61440x128 : Shape := ⟨2, ![61440, 128]⟩
abbrev S4x40x384 : Shape := ⟨3, ![4, 40, 384]⟩
abbrev S1x128x5120 : Shape := ⟨3, ![1, 128, 5120]⟩
abbrev S1x8x384x128 : Shape := ⟨4, ![1, 8, 384, 128]⟩
abbrev S1x8x384 : Shape := ⟨3, ![1, 8, 384]⟩
abbrev S1x8x128 : Shape := ⟨3, ![1, 8, 128]⟩
abbrev S5120x128 : Shape := ⟨2, ![5120, 128]⟩
abbrev S1x40x128 : Shape := ⟨3, ![1, 40, 128]⟩
abbrev S8x384x128 : Shape := ⟨3, ![8, 384, 128]⟩
abbrev S8x128x128 : Shape := ⟨3, ![8, 128, 128]⟩
abbrev S8x128x384 : Shape := ⟨3, ![8, 128, 384]⟩
abbrev S40x128x128 : Shape := ⟨3, ![40, 128, 128]⟩
abbrev S8x128 : Shape := ⟨2, ![8, 128]⟩
abbrev S128x128 : Shape := ⟨2, ![128, 128]⟩
abbrev S1 : Shape := ⟨1, ![1]⟩
abbrev S1x1x384 : Shape := ⟨3, ![1, 1, 384]⟩
abbrev S1x384 : Shape := ⟨2, ![1, 384]⟩
abbrev S1x128 : Shape := ⟨2, ![1, 128]⟩
abbrev S1x128x128 : Shape := ⟨3, ![1, 128, 128]⟩
abbrev S1x1x128 : Shape := ⟨3, ![1, 1, 128]⟩
abbrev S1x1x128x128 : Shape := ⟨4, ![1, 1, 128, 128]⟩
abbrev S128 : Shape := ⟨1, ![128]⟩
abbrev S128x40x128 : Shape := ⟨3, ![128, 40, 128]⟩
abbrev S1x1x256x128 : Shape := ⟨4, ![1, 1, 256, 128]⟩
abbrev S256x128 : Shape := ⟨2, ![256, 128]⟩
abbrev S1x256x128 : Shape := ⟨3, ![1, 256, 128]⟩
abbrev S1x128x256 : Shape := ⟨3, ![1, 128, 256]⟩
abbrev S128x256 : Shape := ⟨2, ![128, 256]⟩
abbrev S1x1x384x128 : Shape := ⟨4, ![1, 1, 384, 128]⟩
abbrev S384x128 : Shape := ⟨2, ![384, 128]⟩
abbrev S1x384x128 : Shape := ⟨3, ![1, 384, 128]⟩
abbrev S1x128x384 : Shape := ⟨3, ![1, 128, 384]⟩
abbrev S128x384 : Shape := ⟨2, ![128, 384]⟩

abbrev nBuf : Space → Nat
  | .hbm => 8
  | .vmem => 22
  | .smem => 1
  | _ => 0

abbrev bufTy : (tb : Table) → Fin (tcTables nBuf tb) → BufTy
  | .hbm, ⟨0, _⟩ => ⟨S4x384x5120, .bf16⟩
  | .hbm, ⟨1, _⟩ => ⟨S4x8x384x128, .fp8e4m3⟩
  | .hbm, ⟨2, _⟩ => ⟨S4x8x384, .f32⟩
  | .hbm, ⟨3, _⟩ => ⟨S4x8x384x128, .fp8e4m3⟩
  | .hbm, ⟨4, _⟩ => ⟨S4x8x128, .f32⟩
  | .hbm, ⟨5, _⟩ => ⟨S4x384x5120, .bf16⟩
  | .hbm, ⟨6, _⟩ => ⟨S61440x128, .fp8e4m3⟩
  | .hbm, ⟨7, _⟩ => ⟨S4x40x384, .f32⟩
  | .local _ .vmem, ⟨0, _⟩ => ⟨S1x128x5120, .bf16⟩
  | .local _ .vmem, ⟨1, _⟩ => ⟨S1x128x5120, .bf16⟩
  | .local _ .vmem, ⟨2, _⟩ => ⟨S1x8x384x128, .fp8e4m3⟩
  | .local _ .vmem, ⟨3, _⟩ => ⟨S1x8x384x128, .fp8e4m3⟩
  | .local _ .vmem, ⟨4, _⟩ => ⟨S1x8x384, .f32⟩
  | .local _ .vmem, ⟨5, _⟩ => ⟨S1x8x384, .f32⟩
  | .local _ .vmem, ⟨6, _⟩ => ⟨S1x8x384x128, .fp8e4m3⟩
  | .local _ .vmem, ⟨7, _⟩ => ⟨S1x8x384x128, .fp8e4m3⟩
  | .local _ .vmem, ⟨8, _⟩ => ⟨S1x8x128, .f32⟩
  | .local _ .vmem, ⟨9, _⟩ => ⟨S1x8x128, .f32⟩
  | .local _ .vmem, ⟨10, _⟩ => ⟨S1x128x5120, .bf16⟩
  | .local _ .vmem, ⟨11, _⟩ => ⟨S1x128x5120, .bf16⟩
  | .local _ .vmem, ⟨12, _⟩ => ⟨S5120x128, .fp8e4m3⟩
  | .local _ .vmem, ⟨13, _⟩ => ⟨S5120x128, .fp8e4m3⟩
  | .local _ .vmem, ⟨14, _⟩ => ⟨S1x40x128, .f32⟩
  | .local _ .vmem, ⟨15, _⟩ => ⟨S1x40x128, .f32⟩
  | .local _ .vmem, ⟨16, _⟩ => ⟨S8x384x128, .f32⟩
  | .local _ .vmem, ⟨17, _⟩ => ⟨S8x128x128, .f32⟩
  | .local _ .vmem, ⟨18, _⟩ => ⟨S8x128x384, .fp8e4m3⟩
  | .local _ .vmem, ⟨19, _⟩ => ⟨S40x128x128, .fp8e4m3⟩
  | .local _ .vmem, ⟨20, _⟩ => ⟨S8x128, .f32⟩
  | .local _ .vmem, ⟨21, _⟩ => ⟨S128x128, .i32⟩
  | .local _ .smem, ⟨0, _⟩ => ⟨S4, .i32⟩
  | _, _ => ⟨S4x384x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 3], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop : Scf.Loop 32 :=
  let c0_i32_891 : BitVec 32 := 0#32
  let c8_i32 : BitVec 32 := 8#32
  let v2116 : BitVec 32 := Scalar.addi c0_i32_891 c8_i32
  let c1_i32_892 : BitVec 32 := 1#32
  ⟨c0_i32_891, v2116, c1_i32_892⟩
def k0_off2 (k0_t1 : Fin k0_t1_loop.trips) : Fin 4 → Nat :=
  let c0_895 : Index := 0#32
  let c0_i32_891 : BitVec 32 := 0#32
  let c1_i32_892 : BitVec 32 := 1#32
  let arg17 : BitVec 32 := Scf.iv c0_i32_891 c1_i32_892 k0_t1
  let v2119 : Index := Scalar.indexCast arg17
  let c0_896 : Index := 0#32
  let c0_897 : Index := 0#32
  ![0, v2119.toNat, 0, 0]
def k0_off3 (k0_t1 : Fin k0_t1_loop.trips) (c0_i32_894 : BitVec 32) : Fin 3 → Nat :=
  let c0_i32_891 : BitVec 32 := 0#32
  let c1_i32_892 : BitVec 32 := 1#32
  let arg17 : BitVec 32 := Scf.iv c0_i32_891 c1_i32_892 k0_t1
  let c5_i32 : BitVec 32 := 5#32
  let v2117 : BitVec 32 := Scalar.muli arg17 c5_i32
  let v2118 : BitVec 32 := Scalar.addi v2117 c0_i32_894
  let v2122 : Index := Scalar.indexCast v2118
  let c0_898 : Index := 0#32
  let c0_899 : Index := 0#32
  ![v2122.toNat, 0, 0]
def k0_off4 (k0_t1 : Fin k0_t1_loop.trips) : Fin 3 → Nat :=
  let c0_i32_891 : BitVec 32 := 0#32
  let c1_i32_892 : BitVec 32 := 1#32
  let arg17 : BitVec 32 := Scf.iv c0_i32_891 c1_i32_892 k0_t1
  let v2126 : Index := Scalar.indexCast arg17
  let c0_901 : Index := 0#32
  let c0_902 : Index := 0#32
  ![v2126.toNat, 0, 0]
def k0_off5 (k0_t1 : Fin k0_t1_loop.trips) (c0_i32_894 : BitVec 32) : Fin 3 → Nat :=
  let c0_905 : Index := 0#32
  let c0_i32_891 : BitVec 32 := 0#32
  let c1_i32_892 : BitVec 32 := 1#32
  let arg17 : BitVec 32 := Scf.iv c0_i32_891 c1_i32_892 k0_t1
  let c5_i32 : BitVec 32 := 5#32
  let v2117 : BitVec 32 := Scalar.muli arg17 c5_i32
  let v2118 : BitVec 32 := Scalar.addi v2117 c0_i32_894
  let v2134 : Index := Scalar.indexCast v2118
  let c0_906 : Index := 0#32
  ![0, v2134.toNat, 0]
def k0_off6 (k0_t1 : Fin k0_t1_loop.trips) : Fin 3 → Nat :=
  let c0_i32_891 : BitVec 32 := 0#32
  let c1_i32_892 : BitVec 32 := 1#32
  let arg17 : BitVec 32 := Scf.iv c0_i32_891 c1_i32_892 k0_t1
  let v2150 : Index := Scalar.indexCast arg17
  let c0_910 : Index := 0#32
  let c0_911 : Index := 0#32
  ![v2150.toNat, 0, 0]
def k0_off7 (k0_t1 : Fin k0_t1_loop.trips) : Fin 3 → Nat :=
  let c0_i32_891 : BitVec 32 := 0#32
  let c1_i32_892 : BitVec 32 := 1#32
  let arg17 : BitVec 32 := Scf.iv c0_i32_891 c1_i32_892 k0_t1
  let v2154 : Index := Scalar.indexCast arg17
  let c0_913 : Index := 0#32
  let c0_914 : Index := 0#32
  ![v2154.toNat, 0, 0]
def k0_mult1 (k0_t1 : Fin k0_t1_loop.trips) : BitVec 32 :=
  let c0_i32_891 : BitVec 32 := 0#32
  let c1_i32_892 : BitVec 32 := 1#32
  let arg17 : BitVec 32 := Scf.iv c0_i32_891 c1_i32_892 k0_t1
  let c5_i32 : BitVec 32 := 5#32
  let v2117 : BitVec 32 := Scalar.muli arg17 c5_i32
  let c0_i32_894 : BitVec 32 := 0#32
  let v2118 : BitVec 32 := Scalar.addi v2117 c0_i32_894
  let c128_i32_916 : BitVec 32 := 128#32
  let v2164 : BitVec 32 := Scalar.muli v2118 c128_i32_916
  v2164
def k0_off8 (k0_t1 : Fin k0_t1_loop.trips) (c0_i32_894 : BitVec 32) : Fin 3 → Nat :=
  let c0_917 : Index := 0#32
  let c0_918 : Index := 0#32
  let c0_i32_891 : BitVec 32 := 0#32
  let c1_i32_892 : BitVec 32 := 1#32
  let arg17 : BitVec 32 := Scf.iv c0_i32_891 c1_i32_892 k0_t1
  let c5_i32 : BitVec 32 := 5#32
  let v2117 : BitVec 32 := Scalar.muli arg17 c5_i32
  let v2118 : BitVec 32 := Scalar.addi v2117 c0_i32_894
  let c128_i32_916 : BitVec 32 := 128#32
  let v2164 : BitVec 32 := Scalar.muli v2118 c128_i32_916
  let v2165 : BitVec 32 := v2164
  let v2166 : Index := Scalar.indexCast v2165
  ![0, 0, v2166.toNat]
def k0_mult2 (k0_t1 : Fin k0_t1_loop.trips) : BitVec 32 :=
  let c0_i32_891 : BitVec 32 := 0#32
  let c1_i32_892 : BitVec 32 := 1#32
  let arg17 : BitVec 32 := Scf.iv c0_i32_891 c1_i32_892 k0_t1
  let c5_i32_919 : BitVec 32 := 5#32
  let v2170 : BitVec 32 := Scalar.muli arg17 c5_i32_919
  let c1_i32_920 : BitVec 32 := 1#32
  let v2171 : BitVec 32 := Scalar.addi v2170 c1_i32_920
  let c128_i32_942 : BitVec 32 := 128#32
  let v2217 : BitVec 32 := Scalar.muli v2171 c128_i32_942
  v2217
def k0_mult3 (k0_t1 : Fin k0_t1_loop.trips) : BitVec 32 :=
  let c0_i32_891 : BitVec 32 := 0#32
  let c1_i32_892 : BitVec 32 := 1#32
  let arg17 : BitVec 32 := Scf.iv c0_i32_891 c1_i32_892 k0_t1
  let c5_i32_945 : BitVec 32 := 5#32
  let v2223 : BitVec 32 := Scalar.muli arg17 c5_i32_945
  let c2_i32_946 : BitVec 32 := 2#32
  let v2224 : BitVec 32 := Scalar.addi v2223 c2_i32_946
  let c128_i32_968 : BitVec 32 := 128#32
  let v2270 : BitVec 32 := Scalar.muli v2224 c128_i32_968
  v2270
def k0_mult4 (k0_t1 : Fin k0_t1_loop.trips) : BitVec 32 :=
  let c0_i32_891 : BitVec 32 := 0#32
  let c1_i32_892 : BitVec 32 := 1#32
  let arg17 : BitVec 32 := Scf.iv c0_i32_891 c1_i32_892 k0_t1
  let c5_i32_971 : BitVec 32 := 5#32
  let v2276 : BitVec 32 := Scalar.muli arg17 c5_i32_971
  let c3_i32_972 : BitVec 32 := 3#32
  let v2277 : BitVec 32 := Scalar.addi v2276 c3_i32_972
  let c128_i32_994 : BitVec 32 := 128#32
  let v2323 : BitVec 32 := Scalar.muli v2277 c128_i32_994
  v2323
def k0_mult5 (k0_t1 : Fin k0_t1_loop.trips) : BitVec 32 :=
  let c0_i32_891 : BitVec 32 := 0#32
  let c1_i32_892 : BitVec 32 := 1#32
  let arg17 : BitVec 32 := Scf.iv c0_i32_891 c1_i32_892 k0_t1
  let c5_i32_997 : BitVec 32 := 5#32
  let v2329 : BitVec 32 := Scalar.muli arg17 c5_i32_997
  let c4_i32 : BitVec 32 := 4#32
  let v2330 : BitVec 32 := Scalar.addi v2329 c4_i32
  let c128_i32_1019 : BitVec 32 := 128#32
  let v2376 : BitVec 32 := Scalar.muli v2330 c128_i32_1019
  v2376
@[reducible] def k0_t2_loop : Scf.Loop 32 :=
  let c0_i32_891 : BitVec 32 := 0#32
  let c8_i32 : BitVec 32 := 8#32
  let v2116 : BitVec 32 := Scalar.addi c0_i32_891 c8_i32
  let c1_i32_892 : BitVec 32 := 1#32
  ⟨c0_i32_891, v2116, c1_i32_892⟩
def k0_off9 (k0_t2 : Fin k0_t2_loop.trips) : Fin 4 → Nat :=
  let c0_895 : Index := 0#32
  let c0_i32_891 : BitVec 32 := 0#32
  let c1_i32_892 : BitVec 32 := 1#32
  let arg17 : BitVec 32 := Scf.iv c0_i32_891 c1_i32_892 k0_t2
  let v2119 : Index := Scalar.indexCast arg17
  let c0_896 : Index := 0#32
  let c0_897 : Index := 0#32
  ![0, v2119.toNat, 0, 0]
def k0_off10 (k0_t2 : Fin k0_t2_loop.trips) (c0_i32_894 : BitVec 32) : Fin 3 → Nat :=
  let c0_i32_891 : BitVec 32 := 0#32
  let c1_i32_892 : BitVec 32 := 1#32
  let arg17 : BitVec 32 := Scf.iv c0_i32_891 c1_i32_892 k0_t2
  let c5_i32 : BitVec 32 := 5#32
  let v2117 : BitVec 32 := Scalar.muli arg17 c5_i32
  let v2118 : BitVec 32 := Scalar.addi v2117 c0_i32_894
  let v2122 : Index := Scalar.indexCast v2118
  let c0_898 : Index := 0#32
  let c0_899 : Index := 0#32
  ![v2122.toNat, 0, 0]
def k0_off11 (k0_t2 : Fin k0_t2_loop.trips) : Fin 3 → Nat :=
  let c0_i32_891 : BitVec 32 := 0#32
  let c1_i32_892 : BitVec 32 := 1#32
  let arg17 : BitVec 32 := Scf.iv c0_i32_891 c1_i32_892 k0_t2
  let v2126 : Index := Scalar.indexCast arg17
  let c0_901 : Index := 0#32
  let c0_902 : Index := 0#32
  ![v2126.toNat, 0, 0]
def k0_off12 (k0_t2 : Fin k0_t2_loop.trips) (c0_i32_894 : BitVec 32) : Fin 3 → Nat :=
  let c0_905 : Index := 0#32
  let c0_i32_891 : BitVec 32 := 0#32
  let c1_i32_892 : BitVec 32 := 1#32
  let arg17 : BitVec 32 := Scf.iv c0_i32_891 c1_i32_892 k0_t2
  let c5_i32 : BitVec 32 := 5#32
  let v2117 : BitVec 32 := Scalar.muli arg17 c5_i32
  let v2118 : BitVec 32 := Scalar.addi v2117 c0_i32_894
  let v2137 : Index := Scalar.indexCast v2118
  let c0_906 : Index := 0#32
  ![0, v2137.toNat, 0]
def k0_off13 (k0_t2 : Fin k0_t2_loop.trips) : Fin 3 → Nat :=
  let c0_i32_891 : BitVec 32 := 0#32
  let c1_i32_892 : BitVec 32 := 1#32
  let arg17 : BitVec 32 := Scf.iv c0_i32_891 c1_i32_892 k0_t2
  let v2153 : Index := Scalar.indexCast arg17
  let c0_910 : Index := 0#32
  let c0_911 : Index := 0#32
  ![v2153.toNat, 0, 0]
def k0_off14 (k0_t2 : Fin k0_t2_loop.trips) : Fin 3 → Nat :=
  let c0_i32_891 : BitVec 32 := 0#32
  let c1_i32_892 : BitVec 32 := 1#32
  let arg17 : BitVec 32 := Scf.iv c0_i32_891 c1_i32_892 k0_t2
  let v2157 : Index := Scalar.indexCast arg17
  let c0_913 : Index := 0#32
  let c0_914 : Index := 0#32
  ![v2157.toNat, 0, 0]
def k0_mult6 (k0_t2 : Fin k0_t2_loop.trips) : BitVec 32 :=
  let c0_i32_891 : BitVec 32 := 0#32
  let c1_i32_892 : BitVec 32 := 1#32
  let arg17 : BitVec 32 := Scf.iv c0_i32_891 c1_i32_892 k0_t2
  let c5_i32 : BitVec 32 := 5#32
  let v2117 : BitVec 32 := Scalar.muli arg17 c5_i32
  let c0_i32_894 : BitVec 32 := 0#32
  let v2118 : BitVec 32 := Scalar.addi v2117 c0_i32_894
  let c128_i32_916 : BitVec 32 := 128#32
  let v2167 : BitVec 32 := Scalar.muli v2118 c128_i32_916
  v2167
def k0_off15 (k0_t2 : Fin k0_t2_loop.trips) (c0_i32_894 : BitVec 32) : Fin 3 → Nat :=
  let c0_917 : Index := 0#32
  let c0_918 : Index := 0#32
  let c0_i32_891 : BitVec 32 := 0#32
  let c1_i32_892 : BitVec 32 := 1#32
  let arg17 : BitVec 32 := Scf.iv c0_i32_891 c1_i32_892 k0_t2
  let c5_i32 : BitVec 32 := 5#32
  let v2117 : BitVec 32 := Scalar.muli arg17 c5_i32
  let v2118 : BitVec 32 := Scalar.addi v2117 c0_i32_894
  let c128_i32_916 : BitVec 32 := 128#32
  let v2167 : BitVec 32 := Scalar.muli v2118 c128_i32_916
  let v2168 : BitVec 32 := v2167
  let v2169 : Index := Scalar.indexCast v2168
  ![0, 0, v2169.toNat]
def k0_mult7 (k0_t2 : Fin k0_t2_loop.trips) : BitVec 32 :=
  let c0_i32_891 : BitVec 32 := 0#32
  let c1_i32_892 : BitVec 32 := 1#32
  let arg17 : BitVec 32 := Scf.iv c0_i32_891 c1_i32_892 k0_t2
  let c5_i32_919 : BitVec 32 := 5#32
  let v2173 : BitVec 32 := Scalar.muli arg17 c5_i32_919
  let c1_i32_920 : BitVec 32 := 1#32
  let v2174 : BitVec 32 := Scalar.addi v2173 c1_i32_920
  let c128_i32_942 : BitVec 32 := 128#32
  let v2223 : BitVec 32 := Scalar.muli v2174 c128_i32_942
  v2223
def k0_mult8 (k0_t2 : Fin k0_t2_loop.trips) : BitVec 32 :=
  let c0_i32_891 : BitVec 32 := 0#32
  let c1_i32_892 : BitVec 32 := 1#32
  let arg17 : BitVec 32 := Scf.iv c0_i32_891 c1_i32_892 k0_t2
  let c5_i32_945 : BitVec 32 := 5#32
  let v2229 : BitVec 32 := Scalar.muli arg17 c5_i32_945
  let c2_i32_946 : BitVec 32 := 2#32
  let v2230 : BitVec 32 := Scalar.addi v2229 c2_i32_946
  let c128_i32_968 : BitVec 32 := 128#32
  let v2279 : BitVec 32 := Scalar.muli v2230 c128_i32_968
  v2279
def k0_mult9 (k0_t2 : Fin k0_t2_loop.trips) : BitVec 32 :=
  let c0_i32_891 : BitVec 32 := 0#32
  let c1_i32_892 : BitVec 32 := 1#32
  let arg17 : BitVec 32 := Scf.iv c0_i32_891 c1_i32_892 k0_t2
  let c5_i32_971 : BitVec 32 := 5#32
  let v2285 : BitVec 32 := Scalar.muli arg17 c5_i32_971
  let c3_i32_972 : BitVec 32 := 3#32
  let v2286 : BitVec 32 := Scalar.addi v2285 c3_i32_972
  let c128_i32_994 : BitVec 32 := 128#32
  let v2335 : BitVec 32 := Scalar.muli v2286 c128_i32_994
  v2335
def k0_mult10 (k0_t2 : Fin k0_t2_loop.trips) : BitVec 32 :=
  let c0_i32_891 : BitVec 32 := 0#32
  let c1_i32_892 : BitVec 32 := 1#32
  let arg17 : BitVec 32 := Scf.iv c0_i32_891 c1_i32_892 k0_t2
  let c5_i32_997 : BitVec 32 := 5#32
  let v2341 : BitVec 32 := Scalar.muli arg17 c5_i32_997
  let c4_i32 : BitVec 32 := 4#32
  let v2342 : BitVec 32 := Scalar.addi v2341 c4_i32
  let c128_i32_1019 : BitVec 32 := 128#32
  let v2391 : BitVec 32 := Scalar.muli v2342 c128_i32_1019
  v2391
@[reducible] def k0_t3_loop : Scf.Loop 32 :=
  let c0_i32_890 : BitVec 32 := 0#32
  let c8_i32 : BitVec 32 := 8#32
  let v2116 : BitVec 32 := Scalar.addi c0_i32_890 c8_i32
  let c1_i32_891 : BitVec 32 := 1#32
  ⟨c0_i32_890, v2116, c1_i32_891⟩
def k0_off16 (k0_t3 : Fin k0_t3_loop.trips) : Fin 4 → Nat :=
  let c0_894 : Index := 0#32
  let c0_i32_890 : BitVec 32 := 0#32
  let c1_i32_891 : BitVec 32 := 1#32
  let arg17 : BitVec 32 := Scf.iv c0_i32_890 c1_i32_891 k0_t3
  let v2119 : Index := Scalar.indexCast arg17
  let c0_895 : Index := 0#32
  let c0_896 : Index := 0#32
  ![0, v2119.toNat, 0, 0]
def k0_off17 (k0_t3 : Fin k0_t3_loop.trips) (c0_i32_893 : BitVec 32) : Fin 3 → Nat :=
  let c0_i32_890 : BitVec 32 := 0#32
  let c1_i32_891 : BitVec 32 := 1#32
  let arg17 : BitVec 32 := Scf.iv c0_i32_890 c1_i32_891 k0_t3
  let c5_i32 : BitVec 32 := 5#32
  let v2117 : BitVec 32 := Scalar.muli arg17 c5_i32
  let v2118 : BitVec 32 := Scalar.addi v2117 c0_i32_893
  let v2122 : Index := Scalar.indexCast v2118
  let c0_897 : Index := 0#32
  let c0_898 : Index := 0#32
  ![v2122.toNat, 0, 0]
def k0_off18 (k0_t3 : Fin k0_t3_loop.trips) : Fin 3 → Nat :=
  let c0_i32_890 : BitVec 32 := 0#32
  let c1_i32_891 : BitVec 32 := 1#32
  let arg17 : BitVec 32 := Scf.iv c0_i32_890 c1_i32_891 k0_t3
  let v2126 : Index := Scalar.indexCast arg17
  let c0_900 : Index := 0#32
  let c0_901 : Index := 0#32
  ![v2126.toNat, 0, 0]
def k0_off19 (k0_t3 : Fin k0_t3_loop.trips) (c0_i32_893 : BitVec 32) : Fin 3 → Nat :=
  let c0_904 : Index := 0#32
  let c0_i32_890 : BitVec 32 := 0#32
  let c1_i32_891 : BitVec 32 := 1#32
  let arg17 : BitVec 32 := Scf.iv c0_i32_890 c1_i32_891 k0_t3
  let c5_i32 : BitVec 32 := 5#32
  let v2117 : BitVec 32 := Scalar.muli arg17 c5_i32
  let v2118 : BitVec 32 := Scalar.addi v2117 c0_i32_893
  let v2137 : Index := Scalar.indexCast v2118
  let c0_905 : Index := 0#32
  ![0, v2137.toNat, 0]
def k0_off20 (k0_t3 : Fin k0_t3_loop.trips) : Fin 3 → Nat :=
  let c0_i32_890 : BitVec 32 := 0#32
  let c1_i32_891 : BitVec 32 := 1#32
  let arg17 : BitVec 32 := Scf.iv c0_i32_890 c1_i32_891 k0_t3
  let v2153 : Index := Scalar.indexCast arg17
  let c0_909 : Index := 0#32
  let c0_910 : Index := 0#32
  ![v2153.toNat, 0, 0]
def k0_off21 (k0_t3 : Fin k0_t3_loop.trips) : Fin 3 → Nat :=
  let c0_i32_890 : BitVec 32 := 0#32
  let c1_i32_891 : BitVec 32 := 1#32
  let arg17 : BitVec 32 := Scf.iv c0_i32_890 c1_i32_891 k0_t3
  let v2157 : Index := Scalar.indexCast arg17
  let c0_912 : Index := 0#32
  let c0_913 : Index := 0#32
  ![v2157.toNat, 0, 0]
def k0_mult11 (k0_t3 : Fin k0_t3_loop.trips) : BitVec 32 :=
  let c0_i32_890 : BitVec 32 := 0#32
  let c1_i32_891 : BitVec 32 := 1#32
  let arg17 : BitVec 32 := Scf.iv c0_i32_890 c1_i32_891 k0_t3
  let c5_i32 : BitVec 32 := 5#32
  let v2117 : BitVec 32 := Scalar.muli arg17 c5_i32
  let c0_i32_893 : BitVec 32 := 0#32
  let v2118 : BitVec 32 := Scalar.addi v2117 c0_i32_893
  let c128_i32_915 : BitVec 32 := 128#32
  let v2167 : BitVec 32 := Scalar.muli v2118 c128_i32_915
  v2167
def k0_off22 (k0_t3 : Fin k0_t3_loop.trips) (c0_i32_893 : BitVec 32) : Fin 3 → Nat :=
  let c0_916 : Index := 0#32
  let c0_917 : Index := 0#32
  let c0_i32_890 : BitVec 32 := 0#32
  let c1_i32_891 : BitVec 32 := 1#32
  let arg17 : BitVec 32 := Scf.iv c0_i32_890 c1_i32_891 k0_t3
  let c5_i32 : BitVec 32 := 5#32
  let v2117 : BitVec 32 := Scalar.muli arg17 c5_i32
  let v2118 : BitVec 32 := Scalar.addi v2117 c0_i32_893
  let c128_i32_915 : BitVec 32 := 128#32
  let v2167 : BitVec 32 := Scalar.muli v2118 c128_i32_915
  let v2168 : BitVec 32 := v2167
  let v2169 : Index := Scalar.indexCast v2168
  ![0, 0, v2169.toNat]
def k0_mult12 (k0_t3 : Fin k0_t3_loop.trips) : BitVec 32 :=
  let c0_i32_890 : BitVec 32 := 0#32
  let c1_i32_891 : BitVec 32 := 1#32
  let arg17 : BitVec 32 := Scf.iv c0_i32_890 c1_i32_891 k0_t3
  let c5_i32_918 : BitVec 32 := 5#32
  let v2173 : BitVec 32 := Scalar.muli arg17 c5_i32_918
  let c1_i32_919 : BitVec 32 := 1#32
  let v2174 : BitVec 32 := Scalar.addi v2173 c1_i32_919
  let c128_i32_941 : BitVec 32 := 128#32
  let v2223 : BitVec 32 := Scalar.muli v2174 c128_i32_941
  v2223
def k0_mult13 (k0_t3 : Fin k0_t3_loop.trips) : BitVec 32 :=
  let c0_i32_890 : BitVec 32 := 0#32
  let c1_i32_891 : BitVec 32 := 1#32
  let arg17 : BitVec 32 := Scf.iv c0_i32_890 c1_i32_891 k0_t3
  let c5_i32_944 : BitVec 32 := 5#32
  let v2229 : BitVec 32 := Scalar.muli arg17 c5_i32_944
  let c2_i32_945 : BitVec 32 := 2#32
  let v2230 : BitVec 32 := Scalar.addi v2229 c2_i32_945
  let c128_i32_967 : BitVec 32 := 128#32
  let v2279 : BitVec 32 := Scalar.muli v2230 c128_i32_967
  v2279
def k0_mult14 (k0_t3 : Fin k0_t3_loop.trips) : BitVec 32 :=
  let c0_i32_890 : BitVec 32 := 0#32
  let c1_i32_891 : BitVec 32 := 1#32
  let arg17 : BitVec 32 := Scf.iv c0_i32_890 c1_i32_891 k0_t3
  let c5_i32_970 : BitVec 32 := 5#32
  let v2285 : BitVec 32 := Scalar.muli arg17 c5_i32_970
  let c3_i32_971 : BitVec 32 := 3#32
  let v2286 : BitVec 32 := Scalar.addi v2285 c3_i32_971
  let c128_i32_993 : BitVec 32 := 128#32
  let v2335 : BitVec 32 := Scalar.muli v2286 c128_i32_993
  v2335
def k0_mult15 (k0_t3 : Fin k0_t3_loop.trips) : BitVec 32 :=
  let c0_i32_890 : BitVec 32 := 0#32
  let c1_i32_891 : BitVec 32 := 1#32
  let arg17 : BitVec 32 := Scf.iv c0_i32_890 c1_i32_891 k0_t3
  let c5_i32_996 : BitVec 32 := 5#32
  let v2341 : BitVec 32 := Scalar.muli arg17 c5_i32_996
  let c4_i32 : BitVec 32 := 4#32
  let v2342 : BitVec 32 := Scalar.addi v2341 c4_i32
  let c128_i32_1018 : BitVec 32 := 128#32
  let v2391 : BitVec 32 := Scalar.muli v2342 c128_i32_1018
  v2391
def k0_cond2 (i : grid0.Coords) (v1 : BitVec 32) : BitVec 1 :=
  let arg1 : BitVec 32 := BitVec.ofNat 32 (i 1).val
  let c1_i32 : BitVec 32 := 1#32
  let v2091 : BitVec 32 := Scalar.addi arg1 c1_i32
  let c128_i32 : BitVec 32 := 128#32
  let v2092 : BitVec 32 := Scalar.muli v2091 c128_i32
  let v2093 : BitVec 32 := Scalar.maxsi v1 v2092
  let c127_i32_883 : BitVec 32 := 127#32
  let v2094 : BitVec 32 := Scalar.addi v2093 c127_i32_883
  let c128_i32_884 : BitVec 32 := 128#32
  let v2095 : BitVec 32 := Scalar.divsi v2094 c128_i32_884
  let c1_i32_885 : BitVec 32 := 1#32
  let v2096 : BitVec 1 := Scalar.cmpi .eq v2095 c1_i32_885
  let v2097 : BitVec 32 := Scalar.extui v2096
  let c0_i32_886 : BitVec 32 := 0#32
  let v2098 : BitVec 1 := Scalar.cmpi .ne v2097 c0_i32_886
  v2098

def k0_cond3 (i : grid0.Coords) (v1 : BitVec 32) : BitVec 1 :=
  let arg1 : BitVec 32 := BitVec.ofNat 32 (i 1).val
  let c1_i32 : BitVec 32 := 1#32
  let v2091 : BitVec 32 := Scalar.addi arg1 c1_i32
  let c128_i32 : BitVec 32 := 128#32
  let v2092 : BitVec 32 := Scalar.muli v2091 c128_i32
  let v2093 : BitVec 32 := Scalar.maxsi v1 v2092
  let c127_i32_883 : BitVec 32 := 127#32
  let v2094 : BitVec 32 := Scalar.addi v2093 c127_i32_883
  let c128_i32_884 : BitVec 32 := 128#32
  let v2095 : BitVec 32 := Scalar.divsi v2094 c128_i32_884
  let c2_i32 : BitVec 32 := 2#32
  let v2099 : BitVec 1 := Scalar.cmpi .eq v2095 c2_i32
  let v2100 : BitVec 32 := Scalar.extui v2099
  let c0_i32_887 : BitVec 32 := 0#32
  let v2101 : BitVec 1 := Scalar.cmpi .ne v2100 c0_i32_887
  v2101

def k0_cond4 (i : grid0.Coords) (v1 : BitVec 32) : BitVec 1 :=
  let arg1 : BitVec 32 := BitVec.ofNat 32 (i 1).val
  let c1_i32 : BitVec 32 := 1#32
  let v2091 : BitVec 32 := Scalar.addi arg1 c1_i32
  let c128_i32 : BitVec 32 := 128#32
  let v2092 : BitVec 32 := Scalar.muli v2091 c128_i32
  let v2093 : BitVec 32 := Scalar.maxsi v1 v2092
  let c127_i32_883 : BitVec 32 := 127#32
  let v2094 : BitVec 32 := Scalar.addi v2093 c127_i32_883
  let c128_i32_884 : BitVec 32 := 128#32
  let v2095 : BitVec 32 := Scalar.divsi v2094 c128_i32_884
  let c3_i32 : BitVec 32 := 3#32
  let v2102 : BitVec 1 := Scalar.cmpi .eq v2095 c3_i32
  let v2103 : BitVec 32 := Scalar.extui v2102
  let c0_i32_888 : BitVec 32 := 0#32
  let v2104 : BitVec 1 := Scalar.cmpi .ne v2103 c0_i32_888
  v2104

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x128x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x384x128 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x384x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128x5120 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S5120x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x40x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "log2e" => some (((Real.log 2)⁻¹ : ℝ) : EReal)
  | "sm_scale_log2e" => some (((Real.sqrt 128)⁻¹ * (Real.log 2)⁻¹ : ℝ) : EReal)
  | _ => none
-- ==== ReferenceIdeal.lean ====
abbrev S4x384x5120 : Shape := ⟨3, ![4, 384, 5120]⟩
abbrev S4x8x384x128 : Shape := ⟨4, ![4, 8, 384, 128]⟩
abbrev S4x8x384 : Shape := ⟨3, ![4, 8, 384]⟩
abbrev S4x8x128 : Shape := ⟨3, ![4, 8, 128]⟩
abbrev S4 : Shape := ⟨1, ![4]⟩
abbrev S61440x128 : Shape := ⟨2, ![61440, 128]⟩
abbrev S4x40x384 : Shape := ⟨3, ![4, 40, 384]⟩
abbrev S4x384x8x5x128 : Shape := ⟨5, ![4, 384, 8, 5, 128]⟩
abbrev S4x384x8x5 : Shape := ⟨4, ![4, 384, 8, 5]⟩
abbrev S4x384x8x5x1 : Shape := ⟨5, ![4, 384, 8, 5, 1]⟩
abbrev S4x384x40 : Shape := ⟨3, ![4, 384, 40]⟩
abbrev S4x8x5x384x128 : Shape := ⟨5, ![4, 8, 5, 384, 128]⟩
abbrev S32x1920x128 : Shape := ⟨3, ![32, 1920, 128]⟩
abbrev S32x384x128 : Shape := ⟨3, ![32, 384, 128]⟩
abbrev S32x1920x384 : Shape := ⟨3, ![32, 1920, 384]⟩
abbrev S4x8x5x384x384 : Shape := ⟨5, ![4, 8, 5, 384, 384]⟩
abbrev S4x8x5x384x1 : Shape := ⟨5, ![4, 8, 5, 384, 1]⟩
abbrev S4x8x1x1x384 : Shape := ⟨5, ![4, 8, 1, 1, 384]⟩
abbrev S4x1x1x1x1 : Shape := ⟨5, ![4, 1, 1, 1, 1]⟩
abbrev S4x8x5x384 : Shape := ⟨4, ![4, 8, 5, 384]⟩
abbrev S4x8x1x1x128 : Shape := ⟨5, ![4, 8, 1, 1, 128]⟩

abbrev nBuf : Space → Nat
  | .hbm => 9
  | .vmem => 9
  | .smem => 0
  | _ => 0

abbrev bufTy : (tb : Table) → Fin (tcTables nBuf tb) → BufTy
  | .hbm, ⟨0, _⟩ => ⟨S4x384x5120, .bf16⟩
  | .hbm, ⟨1, _⟩ => ⟨S4x8x384x128, .fp8e4m3⟩
  | .hbm, ⟨2, _⟩ => ⟨S4x8x384, .f32⟩
  | .hbm, ⟨3, _⟩ => ⟨S4x8x384x128, .fp8e4m3⟩
  | .hbm, ⟨4, _⟩ => ⟨S4x8x128, .f32⟩
  | .hbm, ⟨5, _⟩ => ⟨S4, .i32⟩
  | .hbm, ⟨6, _⟩ => ⟨S4x384x5120, .bf16⟩
  | .hbm, ⟨7, _⟩ => ⟨S61440x128, .fp8e4m3⟩
  | .hbm, ⟨8, _⟩ => ⟨S4x40x384, .f32⟩
  | .local _ .vmem, ⟨0, _⟩ => ⟨S4x384x5120, .bf16⟩
  | .local _ .vmem, ⟨1, _⟩ => ⟨S4x8x384x128, .fp8e4m3⟩
  | .local _ .vmem, ⟨2, _⟩ => ⟨S4x8x384, .f32⟩
  | .local _ .vmem, ⟨3, _⟩ => ⟨S4x8x384x128, .fp8e4m3⟩
  | .local _ .vmem, ⟨4, _⟩ => ⟨S4x8x128, .f32⟩
  | .local _ .vmem, ⟨5, _⟩ => ⟨S4, .i32⟩
  | .local _ .vmem, ⟨6, _⟩ => ⟨S4x384x5120, .bf16⟩
  | .local _ .vmem, ⟨7, _⟩ => ⟨S61440x128, .fp8e4m3⟩
  | .local _ .vmem, ⟨8, _⟩ => ⟨S4x40x384, .f32⟩
  | _, _ => ⟨S4x384x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F] [Named F]

def κ : String → Option EReal := fun
  | "log2e" => some (((Real.log 2)⁻¹ : ℝ) : EReal)
  | "sm_scale" => some (((Real.sqrt 128)⁻¹ : ℝ) : EReal)
  | _ => none

abbrev grid0 : Pipeline.Grid := .none

abbrev stage0_0 : Fin 1 → Memref sig .tc .vmem S4x384x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x8x384x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x8x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x8x384x128 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x384x5120 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S61440x128 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x40x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.KRun.lean ====
module

public import proofs.«01_k».proof.Proof.Gen.Kernel.Skeleton
public import proofs.«01_k».proof.Proof.Gen.Kernel.Loops
public import proofs.«01_k».proof.Proof.Gen.Kernel.Launch
public import Idealize.ShloMosaic.Lib.Pipeline.FrameBody
public import Idealize.ShloMosaic.Lib.Pipeline.Frame

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What the body does after the quantiser: the three guarded loops over the key/value heads, one per number of
    live key tiles. -/
def tailProg (i : grid0.Coords) (arg2 : Memref sig .tc .smem S4 .i32) (harg2 : arg2.IsWhole) (arg3 : Memref sig .tc .vmem S1x128x5120 .bf16) (harg3 : arg3.IsWhole) (arg4 : Memref sig .tc .vmem S1x8x384x128 .fp8e4m3) (harg4 : arg4.IsWhole) (arg5 : Memref sig .tc .vmem S1x8x384 .f32) (harg5 : arg5.IsWhole) (arg6 : Memref sig .tc .vmem S1x8x384x128 .fp8e4m3) (harg6 : arg6.IsWhole) (arg7 : Memref sig .tc .vmem S1x8x128 .f32) (harg7 : arg7.IsWhole) (arg8 : Memref sig .tc .vmem S1x128x5120 .bf16) (harg8 : arg8.IsWhole) (arg9 : Memref sig .tc .vmem S5120x128 .fp8e4m3) (harg9 : arg9.IsWhole) (arg10 : Memref sig .tc .vmem S1x40x128 .f32) (harg10 : arg10.IsWhole) (arg11 : Memref sig .tc .vmem S8x384x128 .f32) (harg11 : arg11.IsWhole) (arg12 : Memref sig .tc .vmem S8x128x128 .f32) (harg12 : arg12.IsWhole) (arg13 : Memref sig .tc .vmem S8x128x384 .fp8e4m3) (harg13 : arg13.IsWhole) (arg14 : Memref sig .tc .vmem S40x128x128 .fp8e4m3) (harg14 : arg14.IsWhole) (arg15 : Memref sig .tc .vmem S8x128 .f32) (harg15 : arg15.IsWhole) (arg16 : Memref sig .tc .vmem S128x128 .i32) (harg16 : arg16.IsWhole) (arg1 : BitVec 32) (v1 : Elt F .i32) :
    Prog (TpuEff nD τ sig (Elt F) Λ₀ .tc) PUnit := do
  if k0_h2 : k0_cond2 i v1 = 1#1 then do
    Scf.Loop.for k0_t1_loop k0_t1_ok ⟨⟩ (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v1)
    pure ⟨⟩
  else do
    pure ⟨⟩
  if k0_h3 : k0_cond3 i v1 = 1#1 then do
    Scf.Loop.for k0_t2_loop k0_t2_ok ⟨⟩ (k0_t2_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v1)
    pure ⟨⟩
  else do
    pure ⟨⟩
  if k0_h4 : k0_cond4 i v1 = 1#1 then do
    Scf.Loop.for k0_t3_loop k0_t3_ok ⟨⟩ (k0_t3_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v1)
    pure ⟨⟩
  else do
    pure ⟨⟩
  pure ⟨⟩

/-- The body's test that this is the first query block of a batch. -/
abbrev first (i : grid0.Coords) : Prop :=
  Scalar.cmpi .ne (Scalar.extui (Scalar.cmpi .eq (BitVec.ofNat 32 (i 1).val) 0#32) : BitVec 32) 0#32 = 1#1

/-- The first half of the body at the first query block of a batch: the scales and the values of the batch are laid
    out in the scratch buffers, then all forty heads are quantised. The pieces written are the run's own. -/
@[irreducible] def headTrue (c : Dev nD) (i : grid0.Coords) (arg2 : Memref sig .tc .smem S4 .i32) (harg2 : arg2.IsWhole) (arg3 : Memref sig .tc .vmem S1x128x5120 .bf16) (harg3 : arg3.IsWhole) (arg4 : Memref sig .tc .vmem S1x8x384x128 .fp8e4m3) (harg4 : arg4.IsWhole) (arg5 : Memref sig .tc .vmem S1x8x384 .f32) (harg5 : arg5.IsWhole) (arg6 : Memref sig .tc .vmem S1x8x384x128 .fp8e4m3) (harg6 : arg6.IsWhole) (arg7 : Memref sig .tc .vmem S1x8x128 .f32) (harg7 : arg7.IsWhole) (arg8 : Memref sig .tc .vmem S1x128x5120 .bf16) (harg8 : arg8.IsWhole) (arg9 : Memref sig .tc .vmem S5120x128 .fp8e4m3) (harg9 : arg9.IsWhole) (arg10 : Memref sig .tc .vmem S1x40x128 .f32) (harg10 : arg10.IsWhole) (arg11 : Memref sig .tc .vmem S8x384x128 .f32) (harg11 : arg11.IsWhole) (arg12 : Memref sig .tc .vmem S8x128x128 .f32) (harg12 : arg12.IsWhole) (arg13 : Memref sig .tc .vmem S8x128x384 .fp8e4m3) (harg13 : arg13.IsWhole) (arg14 : Memref sig .tc .vmem S40x128x128 .fp8e4m3) (harg14 : arg14.IsWhole) (arg15 : Memref sig .tc .vmem S8x128 .f32) (harg15 : arg15.IsWhole) (arg16 : Memref sig .tc .vmem S128x128 .i32) (harg16 : arg16.IsWhole) (q : PosShare TreeShare) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty)
    (h : first i) :
    { L : Elt F .i32 × (List (View.Piece (Elt F) S5120x128 .fp8e4m3)) × (List (View.Piece (Elt F) S1x40x128 .f32)) × (List (View.Piece (Elt F) S8x384x128 .f32)) × (List (View.Piece (Elt F) S8x128x128 .f32)) × (List (View.Piece (Elt F) S8x128x384 .fp8e4m3)) × (List (View.Piece (Elt F) S40x128x128 .fp8e4m3)) // ∀ (E : Set ℕ) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (K : PUnit → sProp 𝕄),
      iprop((arg2.view.loc (c : Thread nD τ) ↦[arg2.view.set]{q} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14)
        ∗ (iprop((arg2.view.loc (c : Thread nD τ) ↦[arg2.view.set]{q} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg9.view.loc (c : Thread nD τ) ↦[arg9.view.set]{fullShare} (arg9.view.writes (Elt F) f9 L.2.1)) ∗ (arg10.view.loc (c : Thread nD τ) ↦[arg10.view.set]{fullShare} (arg10.view.writes (Elt F) f10 L.2.2.1)) ∗ (arg11.view.loc (c : Thread nD τ) ↦[arg11.view.set]{fullShare} (arg11.view.writes (Elt F) f11 L.2.2.2.1)) ∗ (arg12.view.loc (c : Thread nD τ) ↦[arg12.view.set]{fullShare} (arg12.view.writes (Elt F) f12 L.2.2.2.2.1)) ∗ (arg13.view.loc (c : Thread nD τ) ↦[arg13.view.set]{fullShare} (arg13.view.writes (Elt F) f13 L.2.2.2.2.2.1)) ∗ (arg14.view.loc (c : Thread nD τ) ↦[arg14.view.set]{fullShare} (arg14.view.writes (Elt F) f14 L.2.2.2.2.2.2))) -∗ wp frame (wpE (defs₀ (F := F)) Variants.none c none) E (tailProg i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) L.1) K))
      ⊢ wp frame (wpE (defs₀ (F := F)) Variants.none c none) E (cc0_prefix_attention i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨⟨?v, ?l9, ?l10, ?l11, ?l12, ?l13, ?l14⟩, fun E f9 f10 f11 f12 f13 f14 K => ?run⟩
  case run =>
    simp only [cc0_prefix_attention_eq_skeleton]; unfold cc0_prefix_attention_skel tailProg
    iintro ⟨H2, H3, H4, H5, H6, H7, H9, H10, H11, H12, H13, H14, Hk⟩
    set_option sl_exec.stopBefore "k0_cond2" in sl_exec
    iapply Hk
    sl_close

/-- The first half of the body at a later query block of a batch: all forty heads are quantised; the batch's scratch
    buffers are left alone. -/
@[irreducible] def headFalse (c : Dev nD) (i : grid0.Coords) (arg2 : Memref sig .tc .smem S4 .i32) (harg2 : arg2.IsWhole) (arg3 : Memref sig .tc .vmem S1x128x5120 .bf16) (harg3 : arg3.IsWhole) (arg4 : Memref sig .tc .vmem S1x8x384x128 .fp8e4m3) (harg4 : arg4.IsWhole) (arg5 : Memref sig .tc .vmem S1x8x384 .f32) (harg5 : arg5.IsWhole) (arg6 : Memref sig .tc .vmem S1x8x384x128 .fp8e4m3) (harg6 : arg6.IsWhole) (arg7 : Memref sig .tc .vmem S1x8x128 .f32) (harg7 : arg7.IsWhole) (arg8 : Memref sig .tc .vmem S1x128x5120 .bf16) (harg8 : arg8.IsWhole) (arg9 : Memref sig .tc .vmem S5120x128 .fp8e4m3) (harg9 : arg9.IsWhole) (arg10 : Memref sig .tc .vmem S1x40x128 .f32) (harg10 : arg10.IsWhole) (arg11 : Memref sig .tc .vmem S8x384x128 .f32) (harg11 : arg11.IsWhole) (arg12 : Memref sig .tc .vmem S8x128x128 .f32) (harg12 : arg12.IsWhole) (arg13 : Memref sig .tc .vmem S8x128x384 .fp8e4m3) (harg13 : arg13.IsWhole) (arg14 : Memref sig .tc .vmem S40x128x128 .fp8e4m3) (harg14 : arg14.IsWhole) (arg15 : Memref sig .tc .vmem S8x128 .f32) (harg15 : arg15.IsWhole) (arg16 : Memref sig .tc .vmem S128x128 .i32) (harg16 : arg16.IsWhole) (q : PosShare TreeShare) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty)
    (h : ¬ first i) :
    { L : Elt F .i32 × (List (View.Piece (Elt F) S5120x128 .fp8e4m3)) × (List (View.Piece (Elt F) S1x40x128 .f32)) × (List (View.Piece (Elt F) S40x128x128 .fp8e4m3)) // ∀ (E : Set ℕ) (f9 : BufTy.Contents (Elt F) arg9.view.ty) (f10 : BufTy.Contents (Elt F) arg10.view.ty) (f14 : BufTy.Contents (Elt F) arg14.view.ty) (K : PUnit → sProp 𝕄),
      iprop((arg2.view.loc (c : Thread nD τ) ↦[arg2.view.set]{q} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg9.view.loc (c : Thread nD τ) ↦[arg9.view.set]{fullShare} f9) ∗ (arg10.view.loc (c : Thread nD τ) ↦[arg10.view.set]{fullShare} f10) ∗ (arg14.view.loc (c : Thread nD τ) ↦[arg14.view.set]{fullShare} f14)
        ∗ (iprop((arg2.view.loc (c : Thread nD τ) ↦[arg2.view.set]{q} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg9.view.loc (c : Thread nD τ) ↦[arg9.view.set]{fullShare} (arg9.view.writes (Elt F) f9 L.2.1)) ∗ (arg10.view.loc (c : Thread nD τ) ↦[arg10.view.set]{fullShare} (arg10.view.writes (Elt F) f10 L.2.2.1)) ∗ (arg14.view.loc (c : Thread nD τ) ↦[arg14.view.set]{fullShare} (arg14.view.writes (Elt F) f14 L.2.2.2))) -∗ wp frame (wpE (defs₀ (F := F)) Variants.none c none) E (tailProg i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) L.1) K))
      ⊢ wp frame (wpE (defs₀ (F := F)) Variants.none c none) E (cc0_prefix_attention i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨⟨?v, ?l9, ?l10, ?l14⟩, fun E f9 f10 f14 K => ?run⟩
  case run =>
    simp only [cc0_prefix_attention_eq_skeleton]; unfold cc0_prefix_attention_skel tailProg
    iintro ⟨H2, H3, H4, H5, H6, H7, H9, H10, H14, Hk⟩
    set_option sl_exec.stopBefore "k0_cond2" in sl_exec
    iapply Hk
    sl_close

/-- The second half of the body when 1 key tile is live: the loop over the key/value heads writes the attention output. -/
theorem tail1 (c : Dev nD) (i : grid0.Coords) (arg2 : Memref sig .tc .smem S4 .i32) (harg2 : arg2.IsWhole) (arg3 : Memref sig .tc .vmem S1x128x5120 .bf16) (harg3 : arg3.IsWhole) (arg4 : Memref sig .tc .vmem S1x8x384x128 .fp8e4m3) (harg4 : arg4.IsWhole) (arg5 : Memref sig .tc .vmem S1x8x384 .f32) (harg5 : arg5.IsWhole) (arg6 : Memref sig .tc .vmem S1x8x384x128 .fp8e4m3) (harg6 : arg6.IsWhole) (arg7 : Memref sig .tc .vmem S1x8x128 .f32) (harg7 : arg7.IsWhole) (arg8 : Memref sig .tc .vmem S1x128x5120 .bf16) (harg8 : arg8.IsWhole) (arg9 : Memref sig .tc .vmem S5120x128 .fp8e4m3) (harg9 : arg9.IsWhole) (arg10 : Memref sig .tc .vmem S1x40x128 .f32) (harg10 : arg10.IsWhole) (arg11 : Memref sig .tc .vmem S8x384x128 .f32) (harg11 : arg11.IsWhole) (arg12 : Memref sig .tc .vmem S8x128x128 .f32) (harg12 : arg12.IsWhole) (arg13 : Memref sig .tc .vmem S8x128x384 .fp8e4m3) (harg13 : arg13.IsWhole) (arg14 : Memref sig .tc .vmem S40x128x128 .fp8e4m3) (harg14 : arg14.IsWhole) (arg15 : Memref sig .tc .vmem S8x128 .f32) (harg15 : arg15.IsWhole) (arg16 : Memref sig .tc .vmem S128x128 .i32) (harg16 : arg16.IsWhole) (arg1 : BitVec 32) (v1 : Elt F .i32) (X4 : BufTy.Contents (Elt F) arg4.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty)
    (h2 : k0_cond2 i v1 = 1#1) (h3 : ¬ k0_cond3 i v1 = 1#1) (h4 : ¬ k0_cond4 i v1 = 1#1) (E : Set ℕ) (f8 : BufTy.Contents (Elt F) arg8.view.ty) (K : PUnit → sProp 𝕄) :
      iprop((arg4.view.loc (c : Thread nD τ) ↦[arg4.view.set]{fullShare} X4) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg8.view.loc (c : Thread nD τ) ↦[arg8.view.set]{fullShare} f8)
        ∗ (iprop((arg4.view.loc (c : Thread nD τ) ↦[arg4.view.set]{fullShare} X4) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg8.view.loc (c : Thread nD τ) ↦[arg8.view.set]{fullShare} (arg8.view.writes (Elt F) f8 (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v1 X4 X10 X11 X12 X13 X14 k0_t1_loop.trips)))) -∗ K ⟨⟩))
      ⊢ wp frame (wpE (defs₀ (F := F)) Variants.none c none) E (tailProg i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v1) K := by
  unfold tailProg
  iintro ⟨H4, H10, H11, H12, H13, H14, H8, Hk⟩
  sl_exec
  sl_step
  iapply Hk
  sl_close

/-- The second half of the body when 2 key tiles are live: the loop over the key/value heads writes the attention output. -/
theorem tail2 (c : Dev nD) (i : grid0.Coords) (arg2 : Memref sig .tc .smem S4 .i32) (harg2 : arg2.IsWhole) (arg3 : Memref sig .tc .vmem S1x128x5120 .bf16) (harg3 : arg3.IsWhole) (arg4 : Memref sig .tc .vmem S1x8x384x128 .fp8e4m3) (harg4 : arg4.IsWhole) (arg5 : Memref sig .tc .vmem S1x8x384 .f32) (harg5 : arg5.IsWhole) (arg6 : Memref sig .tc .vmem S1x8x384x128 .fp8e4m3) (harg6 : arg6.IsWhole) (arg7 : Memref sig .tc .vmem S1x8x128 .f32) (harg7 : arg7.IsWhole) (arg8 : Memref sig .tc .vmem S1x128x5120 .bf16) (harg8 : arg8.IsWhole) (arg9 : Memref sig .tc .vmem S5120x128 .fp8e4m3) (harg9 : arg9.IsWhole) (arg10 : Memref sig .tc .vmem S1x40x128 .f32) (harg10 : arg10.IsWhole) (arg11 : Memref sig .tc .vmem S8x384x128 .f32) (harg11 : arg11.IsWhole) (arg12 : Memref sig .tc .vmem S8x128x128 .f32) (harg12 : arg12.IsWhole) (arg13 : Memref sig .tc .vmem S8x128x384 .fp8e4m3) (harg13 : arg13.IsWhole) (arg14 : Memref sig .tc .vmem S40x128x128 .fp8e4m3) (harg14 : arg14.IsWhole) (arg15 : Memref sig .tc .vmem S8x128 .f32) (harg15 : arg15.IsWhole) (arg16 : Memref sig .tc .vmem S128x128 .i32) (harg16 : arg16.IsWhole) (arg1 : BitVec 32) (v1 : Elt F .i32) (X4 : BufTy.Contents (Elt F) arg4.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty)
    (h2 : ¬ k0_cond2 i v1 = 1#1) (h3 : k0_cond3 i v1 = 1#1) (h4 : ¬ k0_cond4 i v1 = 1#1) (E : Set ℕ) (f8 : BufTy.Contents (Elt F) arg8.view.ty) (K : PUnit → sProp 𝕄) :
      iprop((arg4.view.loc (c : Thread nD τ) ↦[arg4.view.set]{fullShare} X4) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg8.view.loc (c : Thread nD τ) ↦[arg8.view.set]{fullShare} f8)
        ∗ (iprop((arg4.view.loc (c : Thread nD τ) ↦[arg4.view.set]{fullShare} X4) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg8.view.loc (c : Thread nD τ) ↦[arg8.view.set]{fullShare} (arg8.view.writes (Elt F) f8 (pb_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v1 X4 X10 X11 X12 X13 X14 k0_t2_loop.trips)))) -∗ K ⟨⟩))
      ⊢ wp frame (wpE (defs₀ (F := F)) Variants.none c none) E (tailProg i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v1) K := by
  unfold tailProg
  iintro ⟨H4, H10, H11, H12, H13, H14, H8, Hk⟩
  sl_exec
  sl_step
  iapply Hk
  sl_close

/-- The second half of the body when 3 key tiles are live: the loop over the key/value heads writes the attention output. -/
theorem tail3 (c : Dev nD) (i : grid0.Coords) (arg2 : Memref sig .tc .smem S4 .i32) (harg2 : arg2.IsWhole) (arg3 : Memref sig .tc .vmem S1x128x5120 .bf16) (harg3 : arg3.IsWhole) (arg4 : Memref sig .tc .vmem S1x8x384x128 .fp8e4m3) (harg4 : arg4.IsWhole) (arg5 : Memref sig .tc .vmem S1x8x384 .f32) (harg5 : arg5.IsWhole) (arg6 : Memref sig .tc .vmem S1x8x384x128 .fp8e4m3) (harg6 : arg6.IsWhole) (arg7 : Memref sig .tc .vmem S1x8x128 .f32) (harg7 : arg7.IsWhole) (arg8 : Memref sig .tc .vmem S1x128x5120 .bf16) (harg8 : arg8.IsWhole) (arg9 : Memref sig .tc .vmem S5120x128 .fp8e4m3) (harg9 : arg9.IsWhole) (arg10 : Memref sig .tc .vmem S1x40x128 .f32) (harg10 : arg10.IsWhole) (arg11 : Memref sig .tc .vmem S8x384x128 .f32) (harg11 : arg11.IsWhole) (arg12 : Memref sig .tc .vmem S8x128x128 .f32) (harg12 : arg12.IsWhole) (arg13 : Memref sig .tc .vmem S8x128x384 .fp8e4m3) (harg13 : arg13.IsWhole) (arg14 : Memref sig .tc .vmem S40x128x128 .fp8e4m3) (harg14 : arg14.IsWhole) (arg15 : Memref sig .tc .vmem S8x128 .f32) (harg15 : arg15.IsWhole) (arg16 : Memref sig .tc .vmem S128x128 .i32) (harg16 : arg16.IsWhole) (arg1 : BitVec 32) (v1 : Elt F .i32) (X4 : BufTy.Contents (Elt F) arg4.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty)
    (h2 : ¬ k0_cond2 i v1 = 1#1) (h3 : ¬ k0_cond3 i v1 = 1#1) (h4 : k0_cond4 i v1 = 1#1) (E : Set ℕ) (f8 : BufTy.Contents (Elt F) arg8.view.ty) (K : PUnit → sProp 𝕄) :
      iprop((arg4.view.loc (c : Thread nD τ) ↦[arg4.view.set]{fullShare} X4) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg8.view.loc (c : Thread nD τ) ↦[arg8.view.set]{fullShare} f8)
        ∗ (iprop((arg4.view.loc (c : Thread nD τ) ↦[arg4.view.set]{fullShare} X4) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg8.view.loc (c : Thread nD τ) ↦[arg8.view.set]{fullShare} (arg8.view.writes (Elt F) f8 (pb_k0_t3 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v1 X4 X10 X11 X12 X13 X14 k0_t3_loop.trips)))) -∗ K ⟨⟩))
      ⊢ wp frame (wpE (defs₀ (F := F)) Variants.none c none) E (tailProg i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v1) K := by
  unfold tailProg
  iintro ⟨H4, H10, H11, H12, H13, H14, H8, Hk⟩
  sl_exec
  sl_step
  iapply Hk
  sl_close

/-- The second half of the body when no tile count applies: nothing is written. -/
theorem tail0 (c : Dev nD) (i : grid0.Coords) (arg2 : Memref sig .tc .smem S4 .i32) (harg2 : arg2.IsWhole) (arg3 : Memref sig .tc .vmem S1x128x5120 .bf16) (harg3 : arg3.IsWhole) (arg4 : Memref sig .tc .vmem S1x8x384x128 .fp8e4m3) (harg4 : arg4.IsWhole) (arg5 : Memref sig .tc .vmem S1x8x384 .f32) (harg5 : arg5.IsWhole) (arg6 : Memref sig .tc .vmem S1x8x384x128 .fp8e4m3) (harg6 : arg6.IsWhole) (arg7 : Memref sig .tc .vmem S1x8x128 .f32) (harg7 : arg7.IsWhole) (arg8 : Memref sig .tc .vmem S1x128x5120 .bf16) (harg8 : arg8.IsWhole) (arg9 : Memref sig .tc .vmem S5120x128 .fp8e4m3) (harg9 : arg9.IsWhole) (arg10 : Memref sig .tc .vmem S1x40x128 .f32) (harg10 : arg10.IsWhole) (arg11 : Memref sig .tc .vmem S8x384x128 .f32) (harg11 : arg11.IsWhole) (arg12 : Memref sig .tc .vmem S8x128x128 .f32) (harg12 : arg12.IsWhole) (arg13 : Memref sig .tc .vmem S8x128x384 .fp8e4m3) (harg13 : arg13.IsWhole) (arg14 : Memref sig .tc .vmem S40x128x128 .fp8e4m3) (harg14 : arg14.IsWhole) (arg15 : Memref sig .tc .vmem S8x128 .f32) (harg15 : arg15.IsWhole) (arg16 : Memref sig .tc .vmem S128x128 .i32) (harg16 : arg16.IsWhole) (arg1 : BitVec 32) (v1 : Elt F .i32) (X4 : BufTy.Contents (Elt F) arg4.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty)
    (h2 : ¬ k0_cond2 i v1 = 1#1) (h3 : ¬ k0_cond3 i v1 = 1#1) (h4 : ¬ k0_cond4 i v1 = 1#1) (E : Set ℕ) (f8 : BufTy.Contents (Elt F) arg8.view.ty) (K : PUnit → sProp 𝕄) :
      iprop((arg4.view.loc (c : Thread nD τ) ↦[arg4.view.set]{fullShare} X4) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg8.view.loc (c : Thread nD τ) ↦[arg8.view.set]{fullShare} f8)
        ∗ (iprop((arg4.view.loc (c : Thread nD τ) ↦[arg4.view.set]{fullShare} X4) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg8.view.loc (c : Thread nD τ) ↦[arg8.view.set]{fullShare} f8)) -∗ K ⟨⟩))
      ⊢ wp frame (wpE (defs₀ (F := F)) Variants.none c none) E (tailProg i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v1) K := by
  unfold tailProg
  iintro ⟨H4, H10, H11, H12, H13, H14, H8, Hk⟩
  sl_exec
  sl_step
  iapply Hk
  sl_close

/-- At most one of the three tile counts applies. -/
theorem cond_excl (i : grid0.Coords) (v1 : BitVec 32) :
    ¬ (k0_cond2 i v1 = 1#1 ∧ k0_cond3 i v1 = 1#1) ∧ ¬ (k0_cond2 i v1 = 1#1 ∧ k0_cond4 i v1 = 1#1)
      ∧ ¬ (k0_cond3 i v1 = 1#1 ∧ k0_cond4 i v1 = 1#1) := by
  unfold k0_cond2 k0_cond3 k0_cond4
  dsimp only
  generalize Scalar.divsi _ 128#32 = x
  have e : ∀ n : BitVec 32, (Scalar.cmpi .ne (Scalar.extui (Scalar.cmpi .eq x n) : BitVec 32) 0#32 = 1#1) → x = n := by
    intro n h
    by_contra hx
    simp only [Scalar.cmpi, Scalar.extui, IntOp.cmpi, beq_eq_false_iff_ne.2 hx] at h
    exact absurd h (by decide)
  refine ⟨?_, ?_, ?_⟩ <;>
  · rintro ⟨h, h'⟩
    have := (e _ h).symm.trans (e _ h')
    revert this; decide

end Cert.Kernel.Run

end
-- ==== Proof.KBody.lean ====
module

public import proofs.«01_k».proof.Proof.Gen.Kernel.Skeleton
public import proofs.«01_k».proof.Proof.Gen.Kernel.Loops
public import proofs.«01_k».proof.Proof.Gen.Kernel.Launch
public import Idealize.ShloMosaic.Lib.Pipeline.FrameBody
public import Idealize.ShloMosaic.Lib.Pipeline.Frame
public import proofs.«01_k».proof.Proof.KRun

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What the second half of the body leaves in the output's buffer, by the number of live key tiles. -/
def TailPost (c : Dev nD) (i : grid0.Coords) (arg2 : Memref sig .tc .smem S4 .i32) (harg2 : arg2.IsWhole) (arg3 : Memref sig .tc .vmem S1x128x5120 .bf16) (harg3 : arg3.IsWhole) (arg4 : Memref sig .tc .vmem S1x8x384x128 .fp8e4m3) (harg4 : arg4.IsWhole) (arg5 : Memref sig .tc .vmem S1x8x384 .f32) (harg5 : arg5.IsWhole) (arg6 : Memref sig .tc .vmem S1x8x384x128 .fp8e4m3) (harg6 : arg6.IsWhole) (arg7 : Memref sig .tc .vmem S1x8x128 .f32) (harg7 : arg7.IsWhole) (arg8 : Memref sig .tc .vmem S1x128x5120 .bf16) (harg8 : arg8.IsWhole) (arg9 : Memref sig .tc .vmem S5120x128 .fp8e4m3) (harg9 : arg9.IsWhole) (arg10 : Memref sig .tc .vmem S1x40x128 .f32) (harg10 : arg10.IsWhole) (arg11 : Memref sig .tc .vmem S8x384x128 .f32) (harg11 : arg11.IsWhole) (arg12 : Memref sig .tc .vmem S8x128x128 .f32) (harg12 : arg12.IsWhole) (arg13 : Memref sig .tc .vmem S8x128x384 .fp8e4m3) (harg13 : arg13.IsWhole) (arg14 : Memref sig .tc .vmem S40x128x128 .fp8e4m3) (harg14 : arg14.IsWhole) (arg15 : Memref sig .tc .vmem S8x128 .f32) (harg15 : arg15.IsWhole) (arg16 : Memref sig .tc .vmem S128x128 .i32) (harg16 : arg16.IsWhole) (arg1 : BitVec 32) (v1 : Elt F .i32) (X4 : BufTy.Contents (Elt F) arg4.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (f8 f8' : BufTy.Contents (Elt F) arg8.view.ty) : Prop :=
  (k0_cond2 i v1 = 1#1 → f8' = arg8.view.writes (Elt F) f8 (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v1 X4 X10 X11 X12 X13 X14 k0_t1_loop.trips)) ∧
  (k0_cond3 i v1 = 1#1 → f8' = arg8.view.writes (Elt F) f8 (pb_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v1 X4 X10 X11 X12 X13 X14 k0_t2_loop.trips)) ∧
  (k0_cond4 i v1 = 1#1 → f8' = arg8.view.writes (Elt F) f8 (pb_k0_t3 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v1 X4 X10 X11 X12 X13 X14 k0_t3_loop.trips))

set_option maxHeartbeats 4000000 in
/-- The second half of the body, whatever the number of live key tiles. -/
theorem tail_core (c : Dev nD) (i : grid0.Coords) (arg2 : Memref sig .tc .smem S4 .i32) (harg2 : arg2.IsWhole) (arg3 : Memref sig .tc .vmem S1x128x5120 .bf16) (harg3 : arg3.IsWhole) (arg4 : Memref sig .tc .vmem S1x8x384x128 .fp8e4m3) (harg4 : arg4.IsWhole) (arg5 : Memref sig .tc .vmem S1x8x384 .f32) (harg5 : arg5.IsWhole) (arg6 : Memref sig .tc .vmem S1x8x384x128 .fp8e4m3) (harg6 : arg6.IsWhole) (arg7 : Memref sig .tc .vmem S1x8x128 .f32) (harg7 : arg7.IsWhole) (arg8 : Memref sig .tc .vmem S1x128x5120 .bf16) (harg8 : arg8.IsWhole) (arg9 : Memref sig .tc .vmem S5120x128 .fp8e4m3) (harg9 : arg9.IsWhole) (arg10 : Memref sig .tc .vmem S1x40x128 .f32) (harg10 : arg10.IsWhole) (arg11 : Memref sig .tc .vmem S8x384x128 .f32) (harg11 : arg11.IsWhole) (arg12 : Memref sig .tc .vmem S8x128x128 .f32) (harg12 : arg12.IsWhole) (arg13 : Memref sig .tc .vmem S8x128x384 .fp8e4m3) (harg13 : arg13.IsWhole) (arg14 : Memref sig .tc .vmem S40x128x128 .fp8e4m3) (harg14 : arg14.IsWhole) (arg15 : Memref sig .tc .vmem S8x128 .f32) (harg15 : arg15.IsWhole) (arg16 : Memref sig .tc .vmem S128x128 .i32) (harg16 : arg16.IsWhole) (arg1 : BitVec 32) (v1 : Elt F .i32) (X4 : BufTy.Contents (Elt F) arg4.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (E : Set ℕ) (f8 : BufTy.Contents (Elt F) arg8.view.ty) (K : PUnit → sProp 𝕄) :
      iprop((arg4.view.loc (c : Thread nD τ) ↦[arg4.view.set]{fullShare} X4) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg8.view.loc (c : Thread nD τ) ↦[arg8.view.set]{fullShare} f8)
        ∗ (iprop(∃ f8', ⌜TailPost c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v1 X4 X10 X11 X12 X13 X14 f8 f8'⌝ ∗ (arg4.view.loc (c : Thread nD τ) ↦[arg4.view.set]{fullShare} X4) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg8.view.loc (c : Thread nD τ) ↦[arg8.view.set]{fullShare} f8')) -∗ K ⟨⟩))
      ⊢ wp frame (wpE (defs₀ (F := F)) Variants.none c none) E (tailProg i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v1) K := by
  obtain ⟨e23, e24, e34⟩ := cond_excl i v1
  by_cases h2 : k0_cond2 i v1 = 1#1
  · have h3 : ¬ k0_cond3 i v1 = 1#1 := fun h => e23 ⟨h2, h⟩
    have h4 : ¬ k0_cond4 i v1 = 1#1 := fun h => e24 ⟨h2, h⟩
    iintro ⟨H4, H10, H11, H12, H13, H14, H8, Hk⟩
    iapply (tail1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v1 X4 X10 X11 X12 X13 X14 h2 h3 h4 E f8 K)
    isplitl [H4]; · iexact H4
    isplitl [H10]; · iexact H10
    isplitl [H11]; · iexact H11
    isplitl [H12]; · iexact H12
    isplitl [H13]; · iexact H13
    isplitl [H14]; · iexact H14
    isplitl [H8]; · iexact H8
    iintro ⟨H4, H10, H11, H12, H13, H14, H8⟩
    iapply Hk
    iexists _
    isplitl []
    rotate_left
    · isplitl [H4]; · iexact H4
      isplitl [H10]; · iexact H10
      isplitl [H11]; · iexact H11
      isplitl [H12]; · iexact H12
      isplitl [H13]; · iexact H13
      isplitl [H14]; · iexact H14
      iexact H8
    ipureintro
    exact ⟨fun h => rfl, fun h => absurd h h3, fun h => absurd h h4⟩
  by_cases h3 : k0_cond3 i v1 = 1#1
  · have h4 : ¬ k0_cond4 i v1 = 1#1 := fun h => e34 ⟨h3, h⟩
    iintro ⟨H4, H10, H11, H12, H13, H14, H8, Hk⟩
    iapply (tail2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v1 X4 X10 X11 X12 X13 X14 h2 h3 h4 E f8 K)
    isplitl [H4]; · iexact H4
    isplitl [H10]; · iexact H10
    isplitl [H11]; · iexact H11
    isplitl [H12]; · iexact H12
    isplitl [H13]; · iexact H13
    isplitl [H14]; · iexact H14
    isplitl [H8]; · iexact H8
    iintro ⟨H4, H10, H11, H12, H13, H14, H8⟩
    iapply Hk
    iexists _
    isplitl []
    rotate_left
    · isplitl [H4]; · iexact H4
      isplitl [H10]; · iexact H10
      isplitl [H11]; · iexact H11
      isplitl [H12]; · iexact H12
      isplitl [H13]; · iexact H13
      isplitl [H14]; · iexact H14
      iexact H8
    ipureintro
    exact ⟨fun h => absurd h h2, fun h => rfl, fun h => absurd h h4⟩
  by_cases h4 : k0_cond4 i v1 = 1#1
  · iintro ⟨H4, H10, H11, H12, H13, H14, H8, Hk⟩
    iapply (tail3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v1 X4 X10 X11 X12 X13 X14 h2 h3 h4 E f8 K)
    isplitl [H4]; · iexact H4
    isplitl [H10]; · iexact H10
    isplitl [H11]; · iexact H11
    isplitl [H12]; · iexact H12
    isplitl [H13]; · iexact H13
    isplitl [H14]; · iexact H14
    isplitl [H8]; · iexact H8
    iintro ⟨H4, H10, H11, H12, H13, H14, H8⟩
    iapply Hk
    iexists _
    isplitl []
    rotate_left
    · isplitl [H4]; · iexact H4
      isplitl [H10]; · iexact H10
      isplitl [H11]; · iexact H11
      isplitl [H12]; · iexact H12
      isplitl [H13]; · iexact H13
      isplitl [H14]; · iexact H14
      iexact H8
    ipureintro
    exact ⟨fun h => absurd h h2, fun h => absurd h h3, fun h => rfl⟩
  · iintro ⟨H4, H10, H11, H12, H13, H14, H8, Hk⟩
    iapply (tail0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v1 X4 X10 X11 X12 X13 X14 h2 h3 h4 E f8 K)
    isplitl [H4]; · iexact H4
    isplitl [H10]; · iexact H10
    isplitl [H11]; · iexact H11
    isplitl [H12]; · iexact H12
    isplitl [H13]; · iexact H13
    isplitl [H14]; · iexact H14
    isplitl [H8]; · iexact H8
    iintro ⟨H4, H10, H11, H12, H13, H14, H8⟩
    iapply Hk
    iexists _
    isplitl []
    rotate_left
    · isplitl [H4]; · iexact H4
      isplitl [H10]; · iexact H10
      isplitl [H11]; · iexact H11
      isplitl [H12]; · iexact H12
      isplitl [H13]; · iexact H13
      isplitl [H14]; · iexact H14
      iexact H8
    ipureintro
    exact ⟨fun h => absurd h h2, fun h => absurd h h3, fun h => absurd h h4⟩

/-- What the body leaves in every buffer it writes, over what it found. -/
def BodyPost (c : Dev nD) (i : grid0.Coords) (arg2 : Memref sig .tc .smem S4 .i32) (harg2 : arg2.IsWhole) (arg3 : Memref sig .tc .vmem S1x128x5120 .bf16) (harg3 : arg3.IsWhole) (arg4 : Memref sig .tc .vmem S1x8x384x128 .fp8e4m3) (harg4 : arg4.IsWhole) (arg5 : Memref sig .tc .vmem S1x8x384 .f32) (harg5 : arg5.IsWhole) (arg6 : Memref sig .tc .vmem S1x8x384x128 .fp8e4m3) (harg6 : arg6.IsWhole) (arg7 : Memref sig .tc .vmem S1x8x128 .f32) (harg7 : arg7.IsWhole) (arg8 : Memref sig .tc .vmem S1x128x5120 .bf16) (harg8 : arg8.IsWhole) (arg9 : Memref sig .tc .vmem S5120x128 .fp8e4m3) (harg9 : arg9.IsWhole) (arg10 : Memref sig .tc .vmem S1x40x128 .f32) (harg10 : arg10.IsWhole) (arg11 : Memref sig .tc .vmem S8x384x128 .f32) (harg11 : arg11.IsWhole) (arg12 : Memref sig .tc .vmem S8x128x128 .f32) (harg12 : arg12.IsWhole) (arg13 : Memref sig .tc .vmem S8x128x384 .fp8e4m3) (harg13 : arg13.IsWhole) (arg14 : Memref sig .tc .vmem S40x128x128 .fp8e4m3) (harg14 : arg14.IsWhole) (arg15 : Memref sig .tc .vmem S8x128 .f32) (harg15 : arg15.IsWhole) (arg16 : Memref sig .tc .vmem S128x128 .i32) (harg16 : arg16.IsWhole) (q : PosShare TreeShare) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty)
    (f8' : BufTy.Contents (Elt F) arg8.view.ty) (f9' : BufTy.Contents (Elt F) arg9.view.ty) (f10' : BufTy.Contents (Elt F) arg10.view.ty) (f11' : BufTy.Contents (Elt F) arg11.view.ty) (f12' : BufTy.Contents (Elt F) arg12.view.ty) (f13' : BufTy.Contents (Elt F) arg13.view.ty) (f14' : BufTy.Contents (Elt F) arg14.view.ty) : Prop :=
  (∃ h : first i, f9' = arg9.view.writes (Elt F) f9 (headTrue c i arg2 harg2 arg3 harg3 arg4 harg4 arg5 harg5 arg6 harg6 arg7 harg7 arg8 harg8 arg9 harg9 arg10 harg10 arg11 harg11 arg12 harg12 arg13 harg13 arg14 harg14 arg15 harg15 arg16 harg16 q X2 X3 X4 X5 X6 X7 h).1.2.1 ∧ f10' = arg10.view.writes (Elt F) f10 (headTrue c i arg2 harg2 arg3 harg3 arg4 harg4 arg5 harg5 arg6 harg6 arg7 harg7 arg8 harg8 arg9 harg9 arg10 harg10 arg11 harg11 arg12 harg12 arg13 harg13 arg14 harg14 arg15 harg15 arg16 harg16 q X2 X3 X4 X5 X6 X7 h).1.2.2.1 ∧ f11' = arg11.view.writes (Elt F) f11 (headTrue c i arg2 harg2 arg3 harg3 arg4 harg4 arg5 harg5 arg6 harg6 arg7 harg7 arg8 harg8 arg9 harg9 arg10 harg10 arg11 harg11 arg12 harg12 arg13 harg13 arg14 harg14 arg15 harg15 arg16 harg16 q X2 X3 X4 X5 X6 X7 h).1.2.2.2.1 ∧ f12' = arg12.view.writes (Elt F) f12 (headTrue c i arg2 harg2 arg3 harg3 arg4 harg4 arg5 harg5 arg6 harg6 arg7 harg7 arg8 harg8 arg9 harg9 arg10 harg10 arg11 harg11 arg12 harg12 arg13 harg13 arg14 harg14 arg15 harg15 arg16 harg16 q X2 X3 X4 X5 X6 X7 h).1.2.2.2.2.1 ∧ f13' = arg13.view.writes (Elt F) f13 (headTrue c i arg2 harg2 arg3 harg3 arg4 harg4 arg5 harg5 arg6 harg6 arg7 harg7 arg8 harg8 arg9 harg9 arg10 harg10 arg11 harg11 arg12 harg12 arg13 harg13 arg14 harg14 arg15 harg15 arg16 harg16 q X2 X3 X4 X5 X6 X7 h).1.2.2.2.2.2.1 ∧ f14' = arg14.view.writes (Elt F) f14 (headTrue c i arg2 harg2 arg3 harg3 arg4 harg4 arg5 harg5 arg6 harg6 arg7 harg7 arg8 harg8 arg9 harg9 arg10 harg10 arg11 harg11 arg12 harg12 arg13 harg13 arg14 harg14 arg15 harg15 arg16 harg16 q X2 X3 X4 X5 X6 X7 h).1.2.2.2.2.2.2
      ∧ TailPost c i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (headTrue c i arg2 harg2 arg3 harg3 arg4 harg4 arg5 harg5 arg6 harg6 arg7 harg7 arg8 harg8 arg9 harg9 arg10 harg10 arg11 harg11 arg12 harg12 arg13 harg13 arg14 harg14 arg15 harg15 arg16 harg16 q X2 X3 X4 X5 X6 X7 h).1.1 X4 f10' f11' f12' f13' f14' f8 f8')
  ∨ (∃ h : ¬ first i, f9' = arg9.view.writes (Elt F) f9 (headFalse c i arg2 harg2 arg3 harg3 arg4 harg4 arg5 harg5 arg6 harg6 arg7 harg7 arg8 harg8 arg9 harg9 arg10 harg10 arg11 harg11 arg12 harg12 arg13 harg13 arg14 harg14 arg15 harg15 arg16 harg16 q X2 X3 X4 X5 X6 X7 h).1.2.1 ∧ f10' = arg10.view.writes (Elt F) f10 (headFalse c i arg2 harg2 arg3 harg3 arg4 harg4 arg5 harg5 arg6 harg6 arg7 harg7 arg8 harg8 arg9 harg9 arg10 harg10 arg11 harg11 arg12 harg12 arg13 harg13 arg14 harg14 arg15 harg15 arg16 harg16 q X2 X3 X4 X5 X6 X7 h).1.2.2.1 ∧ f11' = f11 ∧ f12' = f12 ∧ f13' = f13 ∧ f14' = arg14.view.writes (Elt F) f14 (headFalse c i arg2 harg2 arg3 harg3 arg4 harg4 arg5 harg5 arg6 harg6 arg7 harg7 arg8 harg8 arg9 harg9 arg10 harg10 arg11 harg11 arg12 harg12 arg13 harg13 arg14 harg14 arg15 harg15 arg16 harg16 q X2 X3 X4 X5 X6 X7 h).1.2.2.2
      ∧ TailPost c i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (headFalse c i arg2 harg2 arg3 harg3 arg4 harg4 arg5 harg5 arg6 harg6 arg7 harg7 arg8 harg8 arg9 harg9 arg10 harg10 arg11 harg11 arg12 harg12 arg13 harg13 arg14 harg14 arg15 harg15 arg16 harg16 q X2 X3 X4 X5 X6 X7 h).1.1 X4 f10' f11' f12' f13' f14' f8 f8')

set_option maxHeartbeats 4000000 in
/-- The body, at any grid point: it ends, holding what it held with the written buffers as `BodyPost` says. -/
theorem body_core (c : Dev nD) (i : grid0.Coords) (arg2 : Memref sig .tc .smem S4 .i32) (harg2 : arg2.IsWhole) (arg3 : Memref sig .tc .vmem S1x128x5120 .bf16) (harg3 : arg3.IsWhole) (arg4 : Memref sig .tc .vmem S1x8x384x128 .fp8e4m3) (harg4 : arg4.IsWhole) (arg5 : Memref sig .tc .vmem S1x8x384 .f32) (harg5 : arg5.IsWhole) (arg6 : Memref sig .tc .vmem S1x8x384x128 .fp8e4m3) (harg6 : arg6.IsWhole) (arg7 : Memref sig .tc .vmem S1x8x128 .f32) (harg7 : arg7.IsWhole) (arg8 : Memref sig .tc .vmem S1x128x5120 .bf16) (harg8 : arg8.IsWhole) (arg9 : Memref sig .tc .vmem S5120x128 .fp8e4m3) (harg9 : arg9.IsWhole) (arg10 : Memref sig .tc .vmem S1x40x128 .f32) (harg10 : arg10.IsWhole) (arg11 : Memref sig .tc .vmem S8x384x128 .f32) (harg11 : arg11.IsWhole) (arg12 : Memref sig .tc .vmem S8x128x128 .f32) (harg12 : arg12.IsWhole) (arg13 : Memref sig .tc .vmem S8x128x384 .fp8e4m3) (harg13 : arg13.IsWhole) (arg14 : Memref sig .tc .vmem S40x128x128 .fp8e4m3) (harg14 : arg14.IsWhole) (arg15 : Memref sig .tc .vmem S8x128 .f32) (harg15 : arg15.IsWhole) (arg16 : Memref sig .tc .vmem S128x128 .i32) (harg16 : arg16.IsWhole) (q : PosShare TreeShare) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (E : Set ℕ) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (K : PUnit → sProp 𝕄) :
      iprop((arg2.view.loc (c : Thread nD τ) ↦[arg2.view.set]{q} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14)
        ∗ (iprop(∃ f8' f9' f10' f11' f12' f13' f14', ⌜BodyPost c i arg2 harg2 arg3 harg3 arg4 harg4 arg5 harg5 arg6 harg6 arg7 harg7 arg8 harg8 arg9 harg9 arg10 harg10 arg11 harg11 arg12 harg12 arg13 harg13 arg14 harg14 arg15 harg15 arg16 harg16 q X2 X3 X4 X5 X6 X7 f8 f9 f10 f11 f12 f13 f14 f8' f9' f10' f11' f12' f13' f14'⌝ ∗ (arg2.view.loc (c : Thread nD τ) ↦[arg2.view.set]{q} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} f8') ∗ (arg9.view.loc (c : Thread nD τ) ↦[arg9.view.set]{fullShare} f9') ∗ (arg10.view.loc (c : Thread nD τ) ↦[arg10.view.set]{fullShare} f10') ∗ (arg11.view.loc (c : Thread nD τ) ↦[arg11.view.set]{fullShare} f11') ∗ (arg12.view.loc (c : Thread nD τ) ↦[arg12.view.set]{fullShare} f12') ∗ (arg13.view.loc (c : Thread nD τ) ↦[arg13.view.set]{fullShare} f13') ∗ (arg14.view.loc (c : Thread nD τ) ↦[arg14.view.set]{fullShare} f14')) -∗ K ⟨⟩))
      ⊢ wp frame (wpE (defs₀ (F := F)) Variants.none c none) E (cc0_prefix_attention i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  by_cases h : first i
  · iintro ⟨H2, H3, H4, H5, H6, H7, H8, H9, H10, H11, H12, H13, H14, Hk⟩
    iapply ((headTrue c i arg2 harg2 arg3 harg3 arg4 harg4 arg5 harg5 arg6 harg6 arg7 harg7 arg8 harg8 arg9 harg9 arg10 harg10 arg11 harg11 arg12 harg12 arg13 harg13 arg14 harg14 arg15 harg15 arg16 harg16 q X2 X3 X4 X5 X6 X7 h).2 E f9 f10 f11 f12 f13 f14 K)
    isplitl [H2]; · iexact H2
    isplitl [H3]; · iexact H3
    isplitl [H4]; · iexact H4
    isplitl [H5]; · iexact H5
    isplitl [H6]; · iexact H6
    isplitl [H7]; · iexact H7
    isplitl [H9]; · iexact H9
    isplitl [H10]; · iexact H10
    isplitl [H11]; · iexact H11
    isplitl [H12]; · iexact H12
    isplitl [H13]; · iexact H13
    isplitl [H14]; · iexact H14
    iintro ⟨H2, H3, H4, H5, H6, H7, H9, H10, H11, H12, H13, H14⟩
    iapply (tail_core c i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (headTrue c i arg2 harg2 arg3 harg3 arg4 harg4 arg5 harg5 arg6 harg6 arg7 harg7 arg8 harg8 arg9 harg9 arg10 harg10 arg11 harg11 arg12 harg12 arg13 harg13 arg14 harg14 arg15 harg15 arg16 harg16 q X2 X3 X4 X5 X6 X7 h).1.1 X4 (arg10.view.writes (Elt F) f10 (headTrue c i arg2 harg2 arg3 harg3 arg4 harg4 arg5 harg5 arg6 harg6 arg7 harg7 arg8 harg8 arg9 harg9 arg10 harg10 arg11 harg11 arg12 harg12 arg13 harg13 arg14 harg14 arg15 harg15 arg16 harg16 q X2 X3 X4 X5 X6 X7 h).1.2.2.1) (arg11.view.writes (Elt F) f11 (headTrue c i arg2 harg2 arg3 harg3 arg4 harg4 arg5 harg5 arg6 harg6 arg7 harg7 arg8 harg8 arg9 harg9 arg10 harg10 arg11 harg11 arg12 harg12 arg13 harg13 arg14 harg14 arg15 harg15 arg16 harg16 q X2 X3 X4 X5 X6 X7 h).1.2.2.2.1) (arg12.view.writes (Elt F) f12 (headTrue c i arg2 harg2 arg3 harg3 arg4 harg4 arg5 harg5 arg6 harg6 arg7 harg7 arg8 harg8 arg9 harg9 arg10 harg10 arg11 harg11 arg12 harg12 arg13 harg13 arg14 harg14 arg15 harg15 arg16 harg16 q X2 X3 X4 X5 X6 X7 h).1.2.2.2.2.1) (arg13.view.writes (Elt F) f13 (headTrue c i arg2 harg2 arg3 harg3 arg4 harg4 arg5 harg5 arg6 harg6 arg7 harg7 arg8 harg8 arg9 harg9 arg10 harg10 arg11 harg11 arg12 harg12 arg13 harg13 arg14 harg14 arg15 harg15 arg16 harg16 q X2 X3 X4 X5 X6 X7 h).1.2.2.2.2.2.1) (arg14.view.writes (Elt F) f14 (headTrue c i arg2 harg2 arg3 harg3 arg4 harg4 arg5 harg5 arg6 harg6 arg7 harg7 arg8 harg8 arg9 harg9 arg10 harg10 arg11 harg11 arg12 harg12 arg13 harg13 arg14 harg14 arg15 harg15 arg16 harg16 q X2 X3 X4 X5 X6 X7 h).1.2.2.2.2.2.2) E f8 K)
    isplitl [H4]; · iexact H4
    isplitl [H10]; · iexact H10
    isplitl [H11]; · iexact H11
    isplitl [H12]; · iexact H12
    isplitl [H13]; · iexact H13
    isplitl [H14]; · iexact H14
    isplitl [H8]; · iexact H8
    iintro ⟨%f8', %hp, H4, H10, H11, H12, H13, H14, H8⟩
    iapply Hk
    iexists f8', (arg9.view.writes (Elt F) f9 (headTrue c i arg2 harg2 arg3 harg3 arg4 harg4 arg5 harg5 arg6 harg6 arg7 harg7 arg8 harg8 arg9 harg9 arg10 harg10 arg11 harg11 arg12 harg12 arg13 harg13 arg14 harg14 arg15 harg15 arg16 harg16 q X2 X3 X4 X5 X6 X7 h).1.2.1), (arg10.view.writes (Elt F) f10 (headTrue c i arg2 harg2 arg3 harg3 arg4 harg4 arg5 harg5 arg6 harg6 arg7 harg7 arg8 harg8 arg9 harg9 arg10 harg10 arg11 harg11 arg12 harg12 arg13 harg13 arg14 harg14 arg15 harg15 arg16 harg16 q X2 X3 X4 X5 X6 X7 h).1.2.2.1), (arg11.view.writes (Elt F) f11 (headTrue c i arg2 harg2 arg3 harg3 arg4 harg4 arg5 harg5 arg6 harg6 arg7 harg7 arg8 harg8 arg9 harg9 arg10 harg10 arg11 harg11 arg12 harg12 arg13 harg13 arg14 harg14 arg15 harg15 arg16 harg16 q X2 X3 X4 X5 X6 X7 h).1.2.2.2.1), (arg12.view.writes (Elt F) f12 (headTrue c i arg2 harg2 arg3 harg3 arg4 harg4 arg5 harg5 arg6 harg6 arg7 harg7 arg8 harg8 arg9 harg9 arg10 harg10 arg11 harg11 arg12 harg12 arg13 harg13 arg14 harg14 arg15 harg15 arg16 harg16 q X2 X3 X4 X5 X6 X7 h).1.2.2.2.2.1), (arg13.view.writes (Elt F) f13 (headTrue c i arg2 harg2 arg3 harg3 arg4 harg4 arg5 harg5 arg6 harg6 arg7 harg7 arg8 harg8 arg9 harg9 arg10 harg10 arg11 harg11 arg12 harg12 arg13 harg13 arg14 harg14 arg15 harg15 arg16 harg16 q X2 X3 X4 X5 X6 X7 h).1.2.2.2.2.2.1), (arg14.view.writes (Elt F) f14 (headTrue c i arg2 harg2 arg3 harg3 arg4 harg4 arg5 harg5 arg6 harg6 arg7 harg7 arg8 harg8 arg9 harg9 arg10 harg10 arg11 harg11 arg12 harg12 arg13 harg13 arg14 harg14 arg15 harg15 arg16 harg16 q X2 X3 X4 X5 X6 X7 h).1.2.2.2.2.2.2)
    isplitl []
    rotate_left
    · isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14
    ipureintro
    exact .inl ⟨h, rfl, rfl, rfl, rfl, rfl, rfl, hp⟩
  · iintro ⟨H2, H3, H4, H5, H6, H7, H8, H9, H10, H11, H12, H13, H14, Hk⟩
    iapply ((headFalse c i arg2 harg2 arg3 harg3 arg4 harg4 arg5 harg5 arg6 harg6 arg7 harg7 arg8 harg8 arg9 harg9 arg10 harg10 arg11 harg11 arg12 harg12 arg13 harg13 arg14 harg14 arg15 harg15 arg16 harg16 q X2 X3 X4 X5 X6 X7 h).2 E f9 f10 f14 K)
    isplitl [H2]; · iexact H2
    isplitl [H3]; · iexact H3
    isplitl [H4]; · iexact H4
    isplitl [H5]; · iexact H5
    isplitl [H6]; · iexact H6
    isplitl [H7]; · iexact H7
    isplitl [H9]; · iexact H9
    isplitl [H10]; · iexact H10
    isplitl [H14]; · iexact H14
    iintro ⟨H2, H3, H4, H5, H6, H7, H9, H10, H14⟩
    iapply (tail_core c i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (headFalse c i arg2 harg2 arg3 harg3 arg4 harg4 arg5 harg5 arg6 harg6 arg7 harg7 arg8 harg8 arg9 harg9 arg10 harg10 arg11 harg11 arg12 harg12 arg13 harg13 arg14 harg14 arg15 harg15 arg16 harg16 q X2 X3 X4 X5 X6 X7 h).1.1 X4 (arg10.view.writes (Elt F) f10 (headFalse c i arg2 harg2 arg3 harg3 arg4 harg4 arg5 harg5 arg6 harg6 arg7 harg7 arg8 harg8 arg9 harg9 arg10 harg10 arg11 harg11 arg12 harg12 arg13 harg13 arg14 harg14 arg15 harg15 arg16 harg16 q X2 X3 X4 X5 X6 X7 h).1.2.2.1) f11 f12 f13 (arg14.view.writes (Elt F) f14 (headFalse c i arg2 harg2 arg3 harg3 arg4 harg4 arg5 harg5 arg6 harg6 arg7 harg7 arg8 harg8 arg9 harg9 arg10 harg10 arg11 harg11 arg12 harg12 arg13 harg13 arg14 harg14 arg15 harg15 arg16 harg16 q X2 X3 X4 X5 X6 X7 h).1.2.2.2) E f8 K)
    isplitl [H4]; · iexact H4
    isplitl [H10]; · iexact H10
    isplitl [H11]; · iexact H11
    isplitl [H12]; · iexact H12
    isplitl [H13]; · iexact H13
    isplitl [H14]; · iexact H14
    isplitl [H8]; · iexact H8
    iintro ⟨%f8', %hp, H4, H10, H11, H12, H13, H14, H8⟩
    iapply Hk
    iexists f8', (arg9.view.writes (Elt F) f9 (headFalse c i arg2 harg2 arg3 harg3 arg4 harg4 arg5 harg5 arg6 harg6 arg7 harg7 arg8 harg8 arg9 harg9 arg10 harg10 arg11 harg11 arg12 harg12 arg13 harg13 arg14 harg14 arg15 harg15 arg16 harg16 q X2 X3 X4 X5 X6 X7 h).1.2.1), (arg10.view.writes (Elt F) f10 (headFalse c i arg2 harg2 arg3 harg3 arg4 harg4 arg5 harg5 arg6 harg6 arg7 harg7 arg8 harg8 arg9 harg9 arg10 harg10 arg11 harg11 arg12 harg12 arg13 harg13 arg14 harg14 arg15 harg15 arg16 harg16 q X2 X3 X4 X5 X6 X7 h).1.2.2.1), f11, f12, f13, (arg14.view.writes (Elt F) f14 (headFalse c i arg2 harg2 arg3 harg3 arg4 harg4 arg5 harg5 arg6 harg6 arg7 harg7 arg8 harg8 arg9 harg9 arg10 harg10 arg11 harg11 arg12 harg12 arg13 harg13 arg14 harg14 arg15 harg15 arg16 harg16 q X2 X3 X4 X5 X6 X7 h).1.2.2.2)
    isplitl []
    rotate_left
    · isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14
    ipureintro
    exact .inr ⟨h, rfl, rfl, rfl, rfl, rfl, rfl, hp⟩

end Cert.Kernel.Run

end
-- ==== Proof.KFrame.lean ====
module

public import proofs.«01_k».proof.Proof.Gen.Kernel.Skeleton
public import proofs.«01_k».proof.Proof.Gen.Kernel.Loops
public import proofs.«01_k».proof.Proof.Gen.Kernel.Launch
public import Idealize.ShloMosaic.Lib.Pipeline.FrameBody
public import Idealize.ShloMosaic.Lib.Pipeline.Frame
public import proofs.«01_k».proof.Proof.KBody

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
def V (c : Dev nD) (b : Ref sig .tc) : Buf (Elt F) ((c : Thread nD τ).loc b) := m ((c : Thread nD τ).loc b)

/-- The prefetched table's contents at launch: the prefix lengths. -/
def pf : pre0.Contents (Elt F) := fun k => V m (0 : Dev nD) (pre0.ref k)

/-- They are admissible: no index map reads them. -/
def adm : (pcfg0 (F := F)).Adm := ⟨pf m, trivial⟩

/-- The pipeline at them. -/
abbrev cfgA : Pipeline.Cfg sig Λ₀ := cfg0 (adm m)

/-- What a proof says of the run: of each output block after each grid point (`A5`, `A6`, `A7`), and of the batch's
    scratch buffers before each point (`S`). -/
structure Rel where
  A5 : Fin grid0.N → (S1x128x5120.Idx → Elt F .bf16) → Prop
  A6 : Fin grid0.N → (S5120x128.Idx → Elt F .fp8e4m3) → Prop
  A7 : Fin grid0.N → (S1x40x128.Idx → Elt F .f32) → Prop
  S : ℕ → (S8x384x128.Idx → Elt F .f32) → (S8x128x128.Idx → Elt F .f32) → (S8x128x384.Idx → Elt F .fp8e4m3) → Prop

/-- Window `w`'s block at point `t`, read off its array at launch. -/
def iblk (c : Dev nD) (w : Fin (cfgA m).W) (t : Fin (cfgA m).N) : (((cfgA m).win w).xblock ((cfgA m).grid.coords t)).Idx → Elt F ((cfgA m).win w).elt :=
  (((cfgA m).win w).blk t).view.read (Elt F) (V m c (Pipeline.arrRef spec0 w))

/-- The step a proof owes: the body, on the blocks of a point, keeps the relations. -/
def Rel.Step (R : Rel (F := F)) (c : Dev nD) : Prop :=
  ∀ (t : Fin grid0.N) (s : (w : Fin 8) → Fin (spec0 w).nbuf) (X3 : BufTy.Contents (Elt F) (spec0_0.stage (s 0)).view.ty) (X4 : BufTy.Contents (Elt F) (spec0_1.stage (s 1)).view.ty) (X5 : BufTy.Contents (Elt F) (spec0_2.stage (s 2)).view.ty) (X6 : BufTy.Contents (Elt F) (spec0_3.stage (s 3)).view.ty) (X7 : BufTy.Contents (Elt F) (spec0_4.stage (s 4)).view.ty) (f8 : BufTy.Contents (Elt F) (spec0_5.stage (s 5)).view.ty) (f9 : BufTy.Contents (Elt F) (spec0_6.stage (s 6)).view.ty) (f10 : BufTy.Contents (Elt F) (spec0_7.stage (s 7)).view.ty) (f11 : BufTy.Contents (Elt F) (Memref.whole cc0_scratch0).view.ty) (f12 : BufTy.Contents (Elt F) (Memref.whole cc0_scratch1).view.ty) (f13 : BufTy.Contents (Elt F) (Memref.whole cc0_scratch2).view.ty) (f14 : BufTy.Contents (Elt F) (Memref.whole cc0_scratch3).view.ty) (f8' : BufTy.Contents (Elt F) (spec0_5.stage (s 5)).view.ty) (f9' : BufTy.Contents (Elt F) (spec0_6.stage (s 6)).view.ty) (f10' : BufTy.Contents (Elt F) (spec0_7.stage (s 7)).view.ty) (f11' : BufTy.Contents (Elt F) (Memref.whole cc0_scratch0).view.ty) (f12' : BufTy.Contents (Elt F) (Memref.whole cc0_scratch1).view.ty) (f13' : BufTy.Contents (Elt F) (Memref.whole cc0_scratch2).view.ty) (f14' : BufTy.Contents (Elt F) (Memref.whole cc0_scratch3).view.ty),
    (spec0_0.stage (s 0)).view.read (Elt F) X3 = iblk m c 0 t → (spec0_1.stage (s 1)).view.read (Elt F) X4 = iblk m c 1 t → (spec0_2.stage (s 2)).view.read (Elt F) X5 = iblk m c 2 t → (spec0_3.stage (s 3)).view.read (Elt F) X6 = iblk m c 3 t → (spec0_4.stage (s 4)).view.read (Elt F) X7 = iblk m c 4 t →
    R.S t.val ((Memref.whole cc0_scratch0).view.read (Elt F) f11) ((Memref.whole cc0_scratch1).view.read (Elt F) f12) ((Memref.whole cc0_scratch2).view.read (Elt F) f13) →
    BodyPost c (grid0.coords t) (Memref.whole main_arg5) (Memref.isWhole_whole _) (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (spec0_4.stage (s 4)) (hstage0_4 ((s 4).cast nbuf0_4)) (spec0_5.stage (s 5)) (hstage0_5 ((s 5).cast nbuf0_5)) (spec0_6.stage (s 6)) (hstage0_6 ((s 6).cast nbuf0_6)) (spec0_7.stage (s 7)) (hstage0_7 ((s 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) fullShare.right (pf m 0) X3 X4 X5 X6 X7 f8 f9 f10 f11 f12 f13 f14 f8' f9' f10' f11' f12' f13' f14' →
    R.A5 t ((spec0_5.stage (s 5)).view.read (Elt F) f8') ∧ R.A6 t ((spec0_6.stage (s 6)).view.read (Elt F) f9') ∧ R.A7 t ((spec0_7.stage (s 7)).view.read (Elt F) f10')
      ∧ R.S (t.val + 1) ((Memref.whole cc0_scratch0).view.read (Elt F) f11') ((Memref.whole cc0_scratch1).view.read (Elt F) f12') ((Memref.whole cc0_scratch2).view.read (Elt F) f13')

/-- The body's invariant before point `n`: the scratch buffers as the relation says, the table's half, the generator. -/
def inv (R : Rel (F := F)) (c : Dev nD) (n : ℕ) : sProp 𝕄 :=
  iprop((∃ f11 f12 f13, ⌜R.S n ((Memref.whole cc0_scratch0).view.read (Elt F) f11) ((Memref.whole cc0_scratch1).view.read (Elt F) f12) ((Memref.whole cc0_scratch2).view.read (Elt F) f13)⌝
      ∗ ((c : Thread nD τ).loc cc0_scratch0 ↦{fullShare} f11) ∗ ((c : Thread nD τ).loc cc0_scratch1 ↦{fullShare} f12) ∗ ((c : Thread nD τ).loc cc0_scratch2 ↦{fullShare} f13))
    ∗ (∃ f, (c : Thread nD τ).loc cc0_scratch3 ↦{fullShare} f) ∗ (∃ f, (c : Thread nD τ).loc cc0_scratch4 ↦{fullShare} f) ∗ (∃ f, (c : Thread nD τ).loc cc0_scratch5 ↦{fullShare} f)
    ∗ (∃ r, prngReg c r) ∗ ((c : Thread nD τ).loc main_arg5 ↦{fullShare.right} pf m 0))

/-- The proof data: inputs stay their blocks, outputs are as the relation says. -/
def rdat (R : Rel (F := F)) (c : Dev nD) : Pipeline.RDat τ (Elt F) Unit ℕ (UR sig nD τ) ℕ (cfgA m) c where
  A w := V m c (Pipeline.arrRef spec0 w)
  after w t Y X := match w with
    | ⟨0, _⟩ => X = Y
    | ⟨1, _⟩ => X = Y
    | ⟨2, _⟩ => X = Y
    | ⟨3, _⟩ => X = Y
    | ⟨4, _⟩ => X = Y
    | ⟨5, _⟩ => R.A5 t X
    | ⟨6, _⟩ => R.A6 t X
    | ⟨7, _⟩ => R.A7 t X
  Φ t := inv m R c t.val
  q _ := fullShare
  owed _ := 0

/-- A whole buffer is the whole of its memref's view. -/
theorem pts_whole (c : Dev nD) (b : Ref sig .tc) (q : PosShare TreeShare) (f : Buf (Elt F) ((c : Thread nD τ).loc b)) :
    ((c : Thread nD τ).loc b ↦{q} f : sProp 𝕄) = ((Memref.whole b).view.loc (c : Thread nD τ) ↦[(Memref.whole b).view.set]{q} f) := by
  have h : (Memref.whole b).view.set = Finset.univ := View.set_whole b
  rw [h]

theorem finds0 (R : Rel (F := F)) (c : Dev nD) (t : Fin (cfgA m).N) (X) (h : (rdat m R c).Finds 0 t X) : X = iblk m c 0 t :=
  let ⟨_, e⟩ := (rdat m R c).finds_in_eq_fetched 0 rfl (fun _ _ _ => rfl) (fun _ _ _ h => h) t X h
  e.trans rfl
theorem finds1 (R : Rel (F := F)) (c : Dev nD) (t : Fin (cfgA m).N) (X) (h : (rdat m R c).Finds 1 t X) : X = iblk m c 1 t :=
  let ⟨_, e⟩ := (rdat m R c).finds_in_eq_fetched 1 rfl (fun _ _ _ => rfl) (fun _ _ _ h => h) t X h
  e.trans rfl
theorem finds2 (R : Rel (F := F)) (c : Dev nD) (t : Fin (cfgA m).N) (X) (h : (rdat m R c).Finds 2 t X) : X = iblk m c 2 t :=
  let ⟨_, e⟩ := (rdat m R c).finds_in_eq_fetched 2 rfl (fun _ _ _ => rfl) (fun _ _ _ h => h) t X h
  e.trans rfl
theorem finds3 (R : Rel (F := F)) (c : Dev nD) (t : Fin (cfgA m).N) (X) (h : (rdat m R c).Finds 3 t X) : X = iblk m c 3 t :=
  let ⟨_, e⟩ := (rdat m R c).finds_in_eq_fetched 3 rfl (fun _ _ _ => rfl) (fun _ _ _ h => h) t X h
  e.trans rfl
theorem finds4 (R : Rel (F := F)) (c : Dev nD) (t : Fin (cfgA m).N) (X) (h : (rdat m R c).Finds 4 t X) : X = iblk m c 4 t :=
  let ⟨_, e⟩ := (rdat m R c).finds_in_eq_fetched 4 rfl (fun _ _ _ => rfl) (fun _ _ _ h => h) t X h
  e.trans rfl

set_option maxHeartbeats 8000000 in
/-- The body obligation, at every point. -/
theorem obligation (R : Rel (F := F)) (c : Dev nD) (hstep : R.Step m c) :
    (rdat m R c).BodyObligation (defs₀ (F := F)) Variants.none () Set.univ := by
  intro t Y hY
  have y0 := finds0 m R c t _ (hY 0)
  have y1 := finds1 m R c t _ (hY 1)
  have y2 := finds2 m R c t _ (hY 2)
  have y3 := finds3 m R c t _ (hY 3)
  have y4 := finds4 m R c t _ (hY 4)
  rw [bigSep_W0, bigSep_W0]
  generalize hs : (cfgA m).slots t = s
  have hrow : defs₀ (F := F) .tc (cfgA m).body ((cfgA m).bodyArgs t s) = cc0_prefix_attention (grid0.coords t) (Memref.whole main_arg5) (Memref.isWhole_whole _) (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (spec0_4.stage (s 4)) (hstage0_4 ((s 4).cast nbuf0_4)) (spec0_5.stage (s 5)) (hstage0_5 ((s 5).cast nbuf0_5)) (spec0_6.stage (s 6)) (hstage0_6 ((s 6).cast nbuf0_6)) (spec0_7.stage (s 7)) (hstage0_7 ((s 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) := by
    unfold defs₀; rw [Defs.onTc_tc]
  rw [hrow]
  have key : iprop(inv m R c t.val ∗ (rdat m R c).owesAt () t.castSucc ∗ owns (c : Thread nD τ) (spec0_0.stage (s 0)) fullShare (Y 0) ∗ owns (c : Thread nD τ) (spec0_1.stage (s 1)) fullShare (Y 1) ∗ owns (c : Thread nD τ) (spec0_2.stage (s 2)) fullShare (Y 2) ∗ owns (c : Thread nD τ) (spec0_3.stage (s 3)) fullShare (Y 3) ∗ owns (c : Thread nD τ) (spec0_4.stage (s 4)) fullShare (Y 4) ∗ owns (c : Thread nD τ) (spec0_5.stage (s 5)) fullShare (Y 5) ∗ owns (c : Thread nD τ) (spec0_6.stage (s 6)) fullShare (Y 6) ∗ owns (c : Thread nD τ) (spec0_7.stage (s 7)) fullShare (Y 7))
      ⊢ wp frame (wpE (defs₀ (F := F)) Variants.none c none) Set.univ (cc0_prefix_attention (grid0.coords t) (Memref.whole main_arg5) (Memref.isWhole_whole _) (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (spec0_4.stage (s 4)) (hstage0_4 ((s 4).cast nbuf0_4)) (spec0_5.stage (s 5)) (hstage0_5 ((s 5).cast nbuf0_5)) (spec0_6.stage (s 6)) (hstage0_6 ((s 6).cast nbuf0_6)) (spec0_7.stage (s 7)) (hstage0_7 ((s 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)) fun _ =>
        iprop(inv m R c (t.val + 1) ∗ (rdat m R c).owesAt () t.castSucc ∗ (∃ X, ⌜X = Y 0⌝ ∗ owns (c : Thread nD τ) (spec0_0.stage (s 0)) fullShare X) ∗ (∃ X, ⌜X = Y 1⌝ ∗ owns (c : Thread nD τ) (spec0_1.stage (s 1)) fullShare X) ∗ (∃ X, ⌜X = Y 2⌝ ∗ owns (c : Thread nD τ) (spec0_2.stage (s 2)) fullShare X) ∗ (∃ X, ⌜X = Y 3⌝ ∗ owns (c : Thread nD τ) (spec0_3.stage (s 3)) fullShare X) ∗ (∃ X, ⌜X = Y 4⌝ ∗ owns (c : Thread nD τ) (spec0_4.stage (s 4)) fullShare X) ∗ (∃ X, ⌜R.A5 t X⌝ ∗ owns (c : Thread nD τ) (spec0_5.stage (s 5)) fullShare X) ∗ (∃ X, ⌜R.A6 t X⌝ ∗ owns (c : Thread nD τ) (spec0_6.stage (s 6)) fullShare X) ∗ (∃ X, ⌜R.A7 t X⌝ ∗ owns (c : Thread nD τ) (spec0_7.stage (s 7)) fullShare X)) := by
    unfold inv owns
    simp only [pts_whole]
    iintro ⟨⟨⟨%f11, %f12, %f13, %hS, H11, H12, H13⟩, ⟨%f14, H14⟩, H15, H16, Hr, H2⟩, Ho, ⟨%X3, %e3, H3⟩, ⟨%X4, %e4, H4⟩, ⟨%X5, %e5, H5⟩, ⟨%X6, %e6, H6⟩, ⟨%X7, %e7, H7⟩, ⟨%X8, %e8, H8⟩, ⟨%X9, %e9, H9⟩, ⟨%X10, %e10, H10⟩⟩
    iapply (body_core c (grid0.coords t) (Memref.whole main_arg5) (Memref.isWhole_whole _) (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (spec0_4.stage (s 4)) (hstage0_4 ((s 4).cast nbuf0_4)) (spec0_5.stage (s 5)) (hstage0_5 ((s 5).cast nbuf0_5)) (spec0_6.stage (s 6)) (hstage0_6 ((s 6).cast nbuf0_6)) (spec0_7.stage (s 7)) (hstage0_7 ((s 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) fullShare.right (pf m 0) X3 X4 X5 X6 X7 Set.univ X8 X9 X10 f11 f12 f13 f14 _)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iintro ⟨%f8', %f9', %f10', %f11', %f12', %f13', %f14', %hp, H2, H3, H4, H5, H6, H7, H8, H9, H10, H11, H12, H13, H14⟩
    obtain ⟨a5, a6, a7, hS'⟩ := hstep t s X3 X4 X5 X6 X7 X8 X9 X10 f11 f12 f13 f14 f8' f9' f10' f11' f12' f13' f14'
      (e3.trans y0) (e4.trans y1) (e5.trans y2) (e6.trans y3) (e7.trans y4) hS hp
    isplitl [H11 H12 H13 H14 H15 H16 Hr H2]
    · isplitl [H11 H12 H13]
      · iexists f11', f12', f13'
        isplitl []; · ipureintro; exact hS'
        isplitl [H11]; · iexact H11
        isplitl [H12]; · iexact H12
        iexact H13
      isplitl [H14]; · iexists f14'; iexact H14
      isplitl [H15]; · iexact H15
      isplitl [H16]; · iexact H16
      isplitl [Hr]; · iexact Hr
      iexact H2
    isplitl [Ho]; · iexact Ho
    isplitl [H3]
    · iexists _
      isplitl []
      rotate_left
      · iexists X3
        isplitl []; · ipureintro; rfl
        iexact H3
      ipureintro
      exact e3
    isplitl [H4]
    · iexists _
      isplitl []
      rotate_left
      · iexists X4
        isplitl []; · ipureintro; rfl
        iexact H4
      ipureintro
      exact e4
    isplitl [H5]
    · iexists _
      isplitl []
      rotate_left
      · iexists X5
        isplitl []; · ipureintro; rfl
        iexact H5
      ipureintro
      exact e5
    isplitl [H6]
    · iexists _
      isplitl []
      rotate_left
      · iexists X6
        isplitl []; · ipureintro; rfl
        iexact H6
      ipureintro
      exact e6
    isplitl [H7]
    · iexists _
      isplitl []
      rotate_left
      · iexists X7
        isplitl []; · ipureintro; rfl
        iexact H7
      ipureintro
      exact e7
    isplitl [H8]
    · iexists _
      isplitl []
      rotate_left
      · iexists f8'
        isplitl []; · ipureintro; rfl
        iexact H8
      ipureintro
      exact a5
    isplitl [H9]
    · iexists _
      isplitl []
      rotate_left
      · iexists f9'
        isplitl []; · ipureintro; rfl
        iexact H9
      ipureintro
      exact a6
    iexists _
    isplitl []
    rotate_left
    · iexists f10'
      isplitl []; · ipureintro; rfl
      iexact H10
    ipureintro
    exact a7
  exact key

/-- What the region hands the body at the start is the invariant before the first point. -/
theorem inv_in (R : Rel (F := F)) (h0 : ∀ x y z, R.S 0 x y z) (c : Dev nD) :
    iprop(Pipeline.ΦA spec0 c ∗ Pipeline.ΦT pre0 (pf m) c) ⊢ (inv m R c 0 : sProp 𝕄) := by
  unfold Pipeline.ΦA Pipeline.ΦT Pipeline.prefHeld inv
  rw [scopedRest0_eq, show (bigSep Finset.univ fun k : Fin pre0.K => (((c : Thread nD τ).loc (pre0.ref k)) ↦{fullShare.right} pf m k : sProp 𝕄))
    = iprop(((c : Thread nD τ).loc main_arg5) ↦{fullShare.right} pf m 0) from
    bigSep_univ_eq_bigSepL [(0 : Fin 1)] (by decide) (by decide) _]
  iintro ⟨⟨⟨⟨%f11, H11⟩, ⟨%f12, H12⟩, ⟨%f13, H13⟩, H14, H15, H16⟩, Hr⟩, H2⟩
  isplitl [H11 H12 H13]
  · iexists f11, f12, f13
    isplitl []; · ipureintro; exact h0 _ _ _
    isplitl [H11]; · iexact H11
    isplitl [H12]; · iexact H12
    iexact H13
  isplitl [H14]; · iexact H14
  isplitl [H15]; · iexact H15
  isplitl [H16]; · iexact H16
  isplitl [Hr]; · iexact Hr
  iexact H2

/-- The invariant after the last point gives the scratch buffers back. -/
theorem inv_out (R : Rel (F := F)) (c : Dev nD) (n : ℕ) :
    (inv m R c n : sProp 𝕄) ⊢ Pipeline.ΦA spec0 c := by
  unfold Pipeline.ΦA inv
  rw [scopedRest0_eq]
  iintro ⟨⟨%f11, %f12, %f13, %hS, H11, H12, H13⟩, H14, H15, H16, Hr, H2⟩
  isplitr [Hr]
  · isplitl [H11]; · iexists f11; iexact H11
    isplitl [H12]; · iexists f12; iexact H12
    isplitl [H13]; · iexists f13; iexact H13
    isplitl [H14]; · iexact H14
    isplitl [H15]; · iexact H15
    iexact H16
  iexact Hr

/-- @main is the region alone. -/
theorem hmain : Pipeline.HMainP (Ix := Unit) (Name := ℕ) (U := UR sig nD τ) (Lvl := ℕ) pcfgs 0 defs₀ Variants.none m (main (F := F)) (V m) :=
  Pipeline.hmainP_region pcfgs 0 defs₀ Variants.none m main fun c => (main_chain c).trans rfl

set_option backward.isDefEq.respectTransparency.types false in
set_option maxHeartbeats 800000 in
/-- The launch: for relations the body keeps, every run of @main ends with every array as they say and every counter
    at zero. -/
theorem run_main (R : Rel (F := F)) (h0 : ∀ x y z, R.S 0 x y z) (hstep : ∀ c, R.Step m c) :
    θ_run defs (onTc (τ := τ) (main (F := F))) (s₀ m ρ)
      (fun r => Pipeline.RDat.FramePost (cfgA m) (rdat m R) (V m) r ∧ r.2.sem = fun _ => 0) :=
  Pipeline.RDat.θ_run_frameP_track (Q' := _) pcfgs (fun _ => adm m) (0 : Fin 1) launch0 defs₀ Variants.none (rdat m R) m ρ main
    (hbody := fun c => obligation m R c (hstep c)) (hshare := fun c w => by unfold Pipeline.RDat.share; split <;> rfl)
    (howed := fun _ _ => rfl) (V := V m) (hmain := hmain m) (hA := fun _ _ => rfl)
    (hpf := fun c k => by
      obtain rfl : c = 0 := Subsingleton.elim _ _
      rfl)
    (hin := fun c => inv_in m R h0 c) (hout := fun c => inv_out m R c _)

/-- The inputs' arrays end as they were, and the counters at zero. -/
theorem unchanged (R : Rel (F := F)) {r : PUnit × MemSt nD τ sig (Elt F)}
    (h : Pipeline.RDat.FramePost (cfgA m) (rdat m R) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  have e : ∀ w : Fin (cfgA m).W, ((cfgA m).win w).isOut = false →
      r.2.mem (((cfgA m).spec w).arr.view.loc (c.tc : Thread nD τ)) = V m c (Pipeline.arrRef spec0 w) := fun w hw => by
    have := (h c).1 w
    rw [(rdat m R c).ArrAt_in w hw] at this
    exact this
  exact ⟨e 0 rfl, e 1 rfl, e 2 rfl, e 3 rfl, e 4 rfl, (h c).2 main_arg5 (show main_arg5 ∈ Pipeline.restRefs sig spec0 by decide)⟩

/-- The relation that says nothing. -/
def anyRel : Rel (F := F) := ⟨fun _ _ => True, fun _ _ => True, fun _ _ => True, fun _ _ _ _ => True⟩

/-- The frame: every run terminates, leaves the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ h => ⟨unchanged m anyRel h.1, h.2⟩)
    (run_main m ρ anyRel (fun _ _ _ => trivial) fun _ => by
      unfold Rel.Step; intros; exact ⟨trivial, trivial, trivial, trivial⟩)

end Cert.Kernel.Run

end
-- ==== Proof.IRun.lean ====
module

public import proofs.«01_k».proof.Proof.Gen.KernelIdeal.Skeleton
public import proofs.«01_k».proof.Proof.Gen.KernelIdeal.Loops
public import proofs.«01_k».proof.Proof.Gen.KernelIdeal.Launch
public import Idealize.ShloMosaic.Lib.Pipeline.FrameBody
public import Idealize.ShloMosaic.Lib.Pipeline.Frame

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- What the body does after the quantiser: the three guarded loops over the key/value heads, one per number of
    live key tiles. -/
def tailProg (i : grid0.Coords) (arg2 : Memref sig .tc .smem S4 .i32) (harg2 : arg2.IsWhole) (arg3 : Memref sig .tc .vmem S1x128x5120 .bf16) (harg3 : arg3.IsWhole) (arg4 : Memref sig .tc .vmem S1x8x384x128 .fp8e4m3) (harg4 : arg4.IsWhole) (arg5 : Memref sig .tc .vmem S1x8x384 .f32) (harg5 : arg5.IsWhole) (arg6 : Memref sig .tc .vmem S1x8x384x128 .fp8e4m3) (harg6 : arg6.IsWhole) (arg7 : Memref sig .tc .vmem S1x8x128 .f32) (harg7 : arg7.IsWhole) (arg8 : Memref sig .tc .vmem S1x128x5120 .bf16) (harg8 : arg8.IsWhole) (arg9 : Memref sig .tc .vmem S5120x128 .fp8e4m3) (harg9 : arg9.IsWhole) (arg10 : Memref sig .tc .vmem S1x40x128 .f32) (harg10 : arg10.IsWhole) (arg11 : Memref sig .tc .vmem S8x384x128 .f32) (harg11 : arg11.IsWhole) (arg12 : Memref sig .tc .vmem S8x128x128 .f32) (harg12 : arg12.IsWhole) (arg13 : Memref sig .tc .vmem S8x128x384 .fp8e4m3) (harg13 : arg13.IsWhole) (arg14 : Memref sig .tc .vmem S40x128x128 .fp8e4m3) (harg14 : arg14.IsWhole) (arg15 : Memref sig .tc .vmem S8x128 .f32) (harg15 : arg15.IsWhole) (arg16 : Memref sig .tc .vmem S128x128 .i32) (harg16 : arg16.IsWhole) (arg1 : BitVec 32) (v1 : Elt F .i32) :
    Prog (TpuEff nD τ sig (Elt F) Λ₀ .tc) PUnit := do
  if k0_h2 : k0_cond2 i v1 = 1#1 then do
    Scf.Loop.for k0_t1_loop k0_t1_ok ⟨⟩ (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v1)
    pure ⟨⟩
  else do
    pure ⟨⟩
  if k0_h3 : k0_cond3 i v1 = 1#1 then do
    Scf.Loop.for k0_t2_loop k0_t2_ok ⟨⟩ (k0_t2_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v1)
    pure ⟨⟩
  else do
    pure ⟨⟩
  if k0_h4 : k0_cond4 i v1 = 1#1 then do
    Scf.Loop.for k0_t3_loop k0_t3_ok ⟨⟩ (k0_t3_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v1)
    pure ⟨⟩
  else do
    pure ⟨⟩
  pure ⟨⟩

/-- The body's test that this is the first query block of a batch. -/
abbrev first (i : grid0.Coords) : Prop :=
  Scalar.cmpi .ne (Scalar.extui (Scalar.cmpi .eq (BitVec.ofNat 32 (i 1).val) 0#32) : BitVec 32) 0#32 = 1#1

/-- The first half of the body at the first query block of a batch: the scales and the values of the batch are laid
    out in the scratch buffers, then all forty heads are quantised. The pieces written are the run's own. -/
@[irreducible] def headTrue (c : Dev nD) (i : grid0.Coords) (arg2 : Memref sig .tc .smem S4 .i32) (harg2 : arg2.IsWhole) (arg3 : Memref sig .tc .vmem S1x128x5120 .bf16) (harg3 : arg3.IsWhole) (arg4 : Memref sig .tc .vmem S1x8x384x128 .fp8e4m3) (harg4 : arg4.IsWhole) (arg5 : Memref sig .tc .vmem S1x8x384 .f32) (harg5 : arg5.IsWhole) (arg6 : Memref sig .tc .vmem S1x8x384x128 .fp8e4m3) (harg6 : arg6.IsWhole) (arg7 : Memref sig .tc .vmem S1x8x128 .f32) (harg7 : arg7.IsWhole) (arg8 : Memref sig .tc .vmem S1x128x5120 .bf16) (harg8 : arg8.IsWhole) (arg9 : Memref sig .tc .vmem S5120x128 .fp8e4m3) (harg9 : arg9.IsWhole) (arg10 : Memref sig .tc .vmem S1x40x128 .f32) (harg10 : arg10.IsWhole) (arg11 : Memref sig .tc .vmem S8x384x128 .f32) (harg11 : arg11.IsWhole) (arg12 : Memref sig .tc .vmem S8x128x128 .f32) (harg12 : arg12.IsWhole) (arg13 : Memref sig .tc .vmem S8x128x384 .fp8e4m3) (harg13 : arg13.IsWhole) (arg14 : Memref sig .tc .vmem S40x128x128 .fp8e4m3) (harg14 : arg14.IsWhole) (arg15 : Memref sig .tc .vmem S8x128 .f32) (harg15 : arg15.IsWhole) (arg16 : Memref sig .tc .vmem S128x128 .i32) (harg16 : arg16.IsWhole) (q : PosShare TreeShare) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty)
    (h : first i) :
    { L : Elt F .i32 × (List (View.Piece (Elt F) S5120x128 .fp8e4m3)) × (List (View.Piece (Elt F) S1x40x128 .f32)) × (List (View.Piece (Elt F) S8x384x128 .f32)) × (List (View.Piece (Elt F) S8x128x128 .f32)) × (List (View.Piece (Elt F) S8x128x384 .fp8e4m3)) × (List (View.Piece (Elt F) S40x128x128 .fp8e4m3)) // ∀ (E : Set ℕ) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (K : PUnit → sProp 𝕄),
      iprop((arg2.view.loc (c : Thread nD τ) ↦[arg2.view.set]{q} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14)
        ∗ (iprop((arg2.view.loc (c : Thread nD τ) ↦[arg2.view.set]{q} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg9.view.loc (c : Thread nD τ) ↦[arg9.view.set]{fullShare} (arg9.view.writes (Elt F) f9 L.2.1)) ∗ (arg10.view.loc (c : Thread nD τ) ↦[arg10.view.set]{fullShare} (arg10.view.writes (Elt F) f10 L.2.2.1)) ∗ (arg11.view.loc (c : Thread nD τ) ↦[arg11.view.set]{fullShare} (arg11.view.writes (Elt F) f11 L.2.2.2.1)) ∗ (arg12.view.loc (c : Thread nD τ) ↦[arg12.view.set]{fullShare} (arg12.view.writes (Elt F) f12 L.2.2.2.2.1)) ∗ (arg13.view.loc (c : Thread nD τ) ↦[arg13.view.set]{fullShare} (arg13.view.writes (Elt F) f13 L.2.2.2.2.2.1)) ∗ (arg14.view.loc (c : Thread nD τ) ↦[arg14.view.set]{fullShare} (arg14.view.writes (Elt F) f14 L.2.2.2.2.2.2))) -∗ wp frame (wpE (defs₀ (F := F)) Variants.none c none) E (tailProg i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) L.1) K))
      ⊢ wp frame (wpE (defs₀ (F := F)) Variants.none c none) E (cc0_prefix_attention i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨⟨?v, ?l9, ?l10, ?l11, ?l12, ?l13, ?l14⟩, fun E f9 f10 f11 f12 f13 f14 K => ?run⟩
  case run =>
    simp only [cc0_prefix_attention_eq_skeleton]; unfold cc0_prefix_attention_skel tailProg
    iintro ⟨H2, H3, H4, H5, H6, H7, H9, H10, H11, H12, H13, H14, Hk⟩
    set_option sl_exec.stopBefore "k0_cond2" in sl_exec
    iapply Hk
    sl_close

/-- The first half of the body at a later query block of a batch: all forty heads are quantised; the batch's scratch
    buffers are left alone. -/
@[irreducible] def headFalse (c : Dev nD) (i : grid0.Coords) (arg2 : Memref sig .tc .smem S4 .i32) (harg2 : arg2.IsWhole) (arg3 : Memref sig .tc .vmem S1x128x5120 .bf16) (harg3 : arg3.IsWhole) (arg4 : Memref sig .tc .vmem S1x8x384x128 .fp8e4m3) (harg4 : arg4.IsWhole) (arg5 : Memref sig .tc .vmem S1x8x384 .f32) (harg5 : arg5.IsWhole) (arg6 : Memref sig .tc .vmem S1x8x384x128 .fp8e4m3) (harg6 : arg6.IsWhole) (arg7 : Memref sig .tc .vmem S1x8x128 .f32) (harg7 : arg7.IsWhole) (arg8 : Memref sig .tc .vmem S1x128x5120 .bf16) (harg8 : arg8.IsWhole) (arg9 : Memref sig .tc .vmem S5120x128 .fp8e4m3) (harg9 : arg9.IsWhole) (arg10 : Memref sig .tc .vmem S1x40x128 .f32) (harg10 : arg10.IsWhole) (arg11 : Memref sig .tc .vmem S8x384x128 .f32) (harg11 : arg11.IsWhole) (arg12 : Memref sig .tc .vmem S8x128x128 .f32) (harg12 : arg12.IsWhole) (arg13 : Memref sig .tc .vmem S8x128x384 .fp8e4m3) (harg13 : arg13.IsWhole) (arg14 : Memref sig .tc .vmem S40x128x128 .fp8e4m3) (harg14 : arg14.IsWhole) (arg15 : Memref sig .tc .vmem S8x128 .f32) (harg15 : arg15.IsWhole) (arg16 : Memref sig .tc .vmem S128x128 .i32) (harg16 : arg16.IsWhole) (q : PosShare TreeShare) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty)
    (h : ¬ first i) :
    { L : Elt F .i32 × (List (View.Piece (Elt F) S5120x128 .fp8e4m3)) × (List (View.Piece (Elt F) S1x40x128 .f32)) × (List (View.Piece (Elt F) S40x128x128 .fp8e4m3)) // ∀ (E : Set ℕ) (f9 : BufTy.Contents (Elt F) arg9.view.ty) (f10 : BufTy.Contents (Elt F) arg10.view.ty) (f14 : BufTy.Contents (Elt F) arg14.view.ty) (K : PUnit → sProp 𝕄),
      iprop((arg2.view.loc (c : Thread nD τ) ↦[arg2.view.set]{q} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg9.view.loc (c : Thread nD τ) ↦[arg9.view.set]{fullShare} f9) ∗ (arg10.view.loc (c : Thread nD τ) ↦[arg10.view.set]{fullShare} f10) ∗ (arg14.view.loc (c : Thread nD τ) ↦[arg14.view.set]{fullShare} f14)
        ∗ (iprop((arg2.view.loc (c : Thread nD τ) ↦[arg2.view.set]{q} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg9.view.loc (c : Thread nD τ) ↦[arg9.view.set]{fullShare} (arg9.view.writes (Elt F) f9 L.2.1)) ∗ (arg10.view.loc (c : Thread nD τ) ↦[arg10.view.set]{fullShare} (arg10.view.writes (Elt F) f10 L.2.2.1)) ∗ (arg14.view.loc (c : Thread nD τ) ↦[arg14.view.set]{fullShare} (arg14.view.writes (Elt F) f14 L.2.2.2))) -∗ wp frame (wpE (defs₀ (F := F)) Variants.none c none) E (tailProg i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) L.1) K))
      ⊢ wp frame (wpE (defs₀ (F := F)) Variants.none c none) E (cc0_prefix_attention i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨⟨?v, ?l9, ?l10, ?l14⟩, fun E f9 f10 f14 K => ?run⟩
  case run =>
    simp only [cc0_prefix_attention_eq_skeleton]; unfold cc0_prefix_attention_skel tailProg
    iintro ⟨H2, H3, H4, H5, H6, H7, H9, H10, H14, Hk⟩
    set_option sl_exec.stopBefore "k0_cond2" in sl_exec
    iapply Hk
    sl_close

/-- The second half of the body when 1 key tile is live: the loop over the key/value heads writes the attention output. -/
theorem tail1 (c : Dev nD) (i : grid0.Coords) (arg2 : Memref sig .tc .smem S4 .i32) (harg2 : arg2.IsWhole) (arg3 : Memref sig .tc .vmem S1x128x5120 .bf16) (harg3 : arg3.IsWhole) (arg4 : Memref sig .tc .vmem S1x8x384x128 .fp8e4m3) (harg4 : arg4.IsWhole) (arg5 : Memref sig .tc .vmem S1x8x384 .f32) (harg5 : arg5.IsWhole) (arg6 : Memref sig .tc .vmem S1x8x384x128 .fp8e4m3) (harg6 : arg6.IsWhole) (arg7 : Memref sig .tc .vmem S1x8x128 .f32) (harg7 : arg7.IsWhole) (arg8 : Memref sig .tc .vmem S1x128x5120 .bf16) (harg8 : arg8.IsWhole) (arg9 : Memref sig .tc .vmem S5120x128 .fp8e4m3) (harg9 : arg9.IsWhole) (arg10 : Memref sig .tc .vmem S1x40x128 .f32) (harg10 : arg10.IsWhole) (arg11 : Memref sig .tc .vmem S8x384x128 .f32) (harg11 : arg11.IsWhole) (arg12 : Memref sig .tc .vmem S8x128x128 .f32) (harg12 : arg12.IsWhole) (arg13 : Memref sig .tc .vmem S8x128x384 .fp8e4m3) (harg13 : arg13.IsWhole) (arg14 : Memref sig .tc .vmem S40x128x128 .fp8e4m3) (harg14 : arg14.IsWhole) (arg15 : Memref sig .tc .vmem S8x128 .f32) (harg15 : arg15.IsWhole) (arg16 : Memref sig .tc .vmem S128x128 .i32) (harg16 : arg16.IsWhole) (arg1 : BitVec 32) (v1 : Elt F .i32) (X4 : BufTy.Contents (Elt F) arg4.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty)
    (h2 : k0_cond2 i v1 = 1#1) (h3 : ¬ k0_cond3 i v1 = 1#1) (h4 : ¬ k0_cond4 i v1 = 1#1) (E : Set ℕ) (f8 : BufTy.Contents (Elt F) arg8.view.ty) (K : PUnit → sProp 𝕄) :
      iprop((arg4.view.loc (c : Thread nD τ) ↦[arg4.view.set]{fullShare} X4) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg8.view.loc (c : Thread nD τ) ↦[arg8.view.set]{fullShare} f8)
        ∗ (iprop((arg4.view.loc (c : Thread nD τ) ↦[arg4.view.set]{fullShare} X4) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg8.view.loc (c : Thread nD τ) ↦[arg8.view.set]{fullShare} (arg8.view.writes (Elt F) f8 (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v1 X4 X10 X11 X12 X13 X14 k0_t1_loop.trips)))) -∗ K ⟨⟩))
      ⊢ wp frame (wpE (defs₀ (F := F)) Variants.none c none) E (tailProg i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v1) K := by
  unfold tailProg
  iintro ⟨H4, H10, H11, H12, H13, H14, H8, Hk⟩
  sl_exec
  sl_step
  iapply Hk
  sl_close

/-- The second half of the body when 2 key tiles are live: the loop over the key/value heads writes the attention output. -/
theorem tail2 (c : Dev nD) (i : grid0.Coords) (arg2 : Memref sig .tc .smem S4 .i32) (harg2 : arg2.IsWhole) (arg3 : Memref sig .tc .vmem S1x128x5120 .bf16) (harg3 : arg3.IsWhole) (arg4 : Memref sig .tc .vmem S1x8x384x128 .fp8e4m3) (harg4 : arg4.IsWhole) (arg5 : Memref sig .tc .vmem S1x8x384 .f32) (harg5 : arg5.IsWhole) (arg6 : Memref sig .tc .vmem S1x8x384x128 .fp8e4m3) (harg6 : arg6.IsWhole) (arg7 : Memref sig .tc .vmem S1x8x128 .f32) (harg7 : arg7.IsWhole) (arg8 : Memref sig .tc .vmem S1x128x5120 .bf16) (harg8 : arg8.IsWhole) (arg9 : Memref sig .tc .vmem S5120x128 .fp8e4m3) (harg9 : arg9.IsWhole) (arg10 : Memref sig .tc .vmem S1x40x128 .f32) (harg10 : arg10.IsWhole) (arg11 : Memref sig .tc .vmem S8x384x128 .f32) (harg11 : arg11.IsWhole) (arg12 : Memref sig .tc .vmem S8x128x128 .f32) (harg12 : arg12.IsWhole) (arg13 : Memref sig .tc .vmem S8x128x384 .fp8e4m3) (harg13 : arg13.IsWhole) (arg14 : Memref sig .tc .vmem S40x128x128 .fp8e4m3) (harg14 : arg14.IsWhole) (arg15 : Memref sig .tc .vmem S8x128 .f32) (harg15 : arg15.IsWhole) (arg16 : Memref sig .tc .vmem S128x128 .i32) (harg16 : arg16.IsWhole) (arg1 : BitVec 32) (v1 : Elt F .i32) (X4 : BufTy.Contents (Elt F) arg4.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty)
    (h2 : ¬ k0_cond2 i v1 = 1#1) (h3 : k0_cond3 i v1 = 1#1) (h4 : ¬ k0_cond4 i v1 = 1#1) (E : Set ℕ) (f8 : BufTy.Contents (Elt F) arg8.view.ty) (K : PUnit → sProp 𝕄) :
      iprop((arg4.view.loc (c : Thread nD τ) ↦[arg4.view.set]{fullShare} X4) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg8.view.loc (c : Thread nD τ) ↦[arg8.view.set]{fullShare} f8)
        ∗ (iprop((arg4.view.loc (c : Thread nD τ) ↦[arg4.view.set]{fullShare} X4) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg8.view.loc (c : Thread nD τ) ↦[arg8.view.set]{fullShare} (arg8.view.writes (Elt F) f8 (pb_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v1 X4 X10 X11 X12 X13 X14 k0_t2_loop.trips)))) -∗ K ⟨⟩))
      ⊢ wp frame (wpE (defs₀ (F := F)) Variants.none c none) E (tailProg i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v1) K := by
  unfold tailProg
  iintro ⟨H4, H10, H11, H12, H13, H14, H8, Hk⟩
  sl_exec
  sl_step
  iapply Hk
  sl_close

/-- The second half of the body when 3 key tiles are live: the loop over the key/value heads writes the attention output. -/
theorem tail3 (c : Dev nD) (i : grid0.Coords) (arg2 : Memref sig .tc .smem S4 .i32) (harg2 : arg2.IsWhole) (arg3 : Memref sig .tc .vmem S1x128x5120 .bf16) (harg3 : arg3.IsWhole) (arg4 : Memref sig .tc .vmem S1x8x384x128 .fp8e4m3) (harg4 : arg4.IsWhole) (arg5 : Memref sig .tc .vmem S1x8x384 .f32) (harg5 : arg5.IsWhole) (arg6 : Memref sig .tc .vmem S1x8x384x128 .fp8e4m3) (harg6 : arg6.IsWhole) (arg7 : Memref sig .tc .vmem S1x8x128 .f32) (harg7 : arg7.IsWhole) (arg8 : Memref sig .tc .vmem S1x128x5120 .bf16) (harg8 : arg8.IsWhole) (arg9 : Memref sig .tc .vmem S5120x128 .fp8e4m3) (harg9 : arg9.IsWhole) (arg10 : Memref sig .tc .vmem S1x40x128 .f32) (harg10 : arg10.IsWhole) (arg11 : Memref sig .tc .vmem S8x384x128 .f32) (harg11 : arg11.IsWhole) (arg12 : Memref sig .tc .vmem S8x128x128 .f32) (harg12 : arg12.IsWhole) (arg13 : Memref sig .tc .vmem S8x128x384 .fp8e4m3) (harg13 : arg13.IsWhole) (arg14 : Memref sig .tc .vmem S40x128x128 .fp8e4m3) (harg14 : arg14.IsWhole) (arg15 : Memref sig .tc .vmem S8x128 .f32) (harg15 : arg15.IsWhole) (arg16 : Memref sig .tc .vmem S128x128 .i32) (harg16 : arg16.IsWhole) (arg1 : BitVec 32) (v1 : Elt F .i32) (X4 : BufTy.Contents (Elt F) arg4.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty)
    (h2 : ¬ k0_cond2 i v1 = 1#1) (h3 : ¬ k0_cond3 i v1 = 1#1) (h4 : k0_cond4 i v1 = 1#1) (E : Set ℕ) (f8 : BufTy.Contents (Elt F) arg8.view.ty) (K : PUnit → sProp 𝕄) :
      iprop((arg4.view.loc (c : Thread nD τ) ↦[arg4.view.set]{fullShare} X4) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg8.view.loc (c : Thread nD τ) ↦[arg8.view.set]{fullShare} f8)
        ∗ (iprop((arg4.view.loc (c : Thread nD τ) ↦[arg4.view.set]{fullShare} X4) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg8.view.loc (c : Thread nD τ) ↦[arg8.view.set]{fullShare} (arg8.view.writes (Elt F) f8 (pb_k0_t3 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v1 X4 X10 X11 X12 X13 X14 k0_t3_loop.trips)))) -∗ K ⟨⟩))
      ⊢ wp frame (wpE (defs₀ (F := F)) Variants.none c none) E (tailProg i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v1) K := by
  unfold tailProg
  iintro ⟨H4, H10, H11, H12, H13, H14, H8, Hk⟩
  sl_exec
  sl_step
  iapply Hk
  sl_close

/-- The second half of the body when no tile count applies: nothing is written. -/
theorem tail0 (c : Dev nD) (i : grid0.Coords) (arg2 : Memref sig .tc .smem S4 .i32) (harg2 : arg2.IsWhole) (arg3 : Memref sig .tc .vmem S1x128x5120 .bf16) (harg3 : arg3.IsWhole) (arg4 : Memref sig .tc .vmem S1x8x384x128 .fp8e4m3) (harg4 : arg4.IsWhole) (arg5 : Memref sig .tc .vmem S1x8x384 .f32) (harg5 : arg5.IsWhole) (arg6 : Memref sig .tc .vmem S1x8x384x128 .fp8e4m3) (harg6 : arg6.IsWhole) (arg7 : Memref sig .tc .vmem S1x8x128 .f32) (harg7 : arg7.IsWhole) (arg8 : Memref sig .tc .vmem S1x128x5120 .bf16) (harg8 : arg8.IsWhole) (arg9 : Memref sig .tc .vmem S5120x128 .fp8e4m3) (harg9 : arg9.IsWhole) (arg10 : Memref sig .tc .vmem S1x40x128 .f32) (harg10 : arg10.IsWhole) (arg11 : Memref sig .tc .vmem S8x384x128 .f32) (harg11 : arg11.IsWhole) (arg12 : Memref sig .tc .vmem S8x128x128 .f32) (harg12 : arg12.IsWhole) (arg13 : Memref sig .tc .vmem S8x128x384 .fp8e4m3) (harg13 : arg13.IsWhole) (arg14 : Memref sig .tc .vmem S40x128x128 .fp8e4m3) (harg14 : arg14.IsWhole) (arg15 : Memref sig .tc .vmem S8x128 .f32) (harg15 : arg15.IsWhole) (arg16 : Memref sig .tc .vmem S128x128 .i32) (harg16 : arg16.IsWhole) (arg1 : BitVec 32) (v1 : Elt F .i32) (X4 : BufTy.Contents (Elt F) arg4.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty)
    (h2 : ¬ k0_cond2 i v1 = 1#1) (h3 : ¬ k0_cond3 i v1 = 1#1) (h4 : ¬ k0_cond4 i v1 = 1#1) (E : Set ℕ) (f8 : BufTy.Contents (Elt F) arg8.view.ty) (K : PUnit → sProp 𝕄) :
      iprop((arg4.view.loc (c : Thread nD τ) ↦[arg4.view.set]{fullShare} X4) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg8.view.loc (c : Thread nD τ) ↦[arg8.view.set]{fullShare} f8)
        ∗ (iprop((arg4.view.loc (c : Thread nD τ) ↦[arg4.view.set]{fullShare} X4) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg8.view.loc (c : Thread nD τ) ↦[arg8.view.set]{fullShare} f8)) -∗ K ⟨⟩))
      ⊢ wp frame (wpE (defs₀ (F := F)) Variants.none c none) E (tailProg i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v1) K := by
  unfold tailProg
  iintro ⟨H4, H10, H11, H12, H13, H14, H8, Hk⟩
  sl_exec
  sl_step
  iapply Hk
  sl_close

/-- At most one of the three tile counts applies. -/
theorem cond_excl (i : grid0.Coords) (v1 : BitVec 32) :
    ¬ (k0_cond2 i v1 = 1#1 ∧ k0_cond3 i v1 = 1#1) ∧ ¬ (k0_cond2 i v1 = 1#1 ∧ k0_cond4 i v1 = 1#1)
      ∧ ¬ (k0_cond3 i v1 = 1#1 ∧ k0_cond4 i v1 = 1#1) := by
  unfold k0_cond2 k0_cond3 k0_cond4
  dsimp only
  generalize Scalar.divsi _ 128#32 = x
  have e : ∀ n : BitVec 32, (Scalar.cmpi .ne (Scalar.extui (Scalar.cmpi .eq x n) : BitVec 32) 0#32 = 1#1) → x = n := by
    intro n h
    by_contra hx
    simp only [Scalar.cmpi, Scalar.extui, IntOp.cmpi, beq_eq_false_iff_ne.2 hx] at h
    exact absurd h (by decide)
  refine ⟨?_, ?_, ?_⟩ <;>
  · rintro ⟨h, h'⟩
    have := (e _ h).symm.trans (e _ h')
    revert this; decide

end Cert.KernelIdeal.Run

end
-- ==== Proof.IBody.lean ====
module

public import proofs.«01_k».proof.Proof.Gen.KernelIdeal.Skeleton
public import proofs.«01_k».proof.Proof.Gen.KernelIdeal.Loops
public import proofs.«01_k».proof.Proof.Gen.KernelIdeal.Launch
public import Idealize.ShloMosaic.Lib.Pipeline.FrameBody
public import Idealize.ShloMosaic.Lib.Pipeline.Frame
public import proofs.«01_k».proof.Proof.IRun

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- What the second half of the body leaves in the output's buffer, by the number of live key tiles. -/
def TailPost (c : Dev nD) (i : grid0.Coords) (arg2 : Memref sig .tc .smem S4 .i32) (harg2 : arg2.IsWhole) (arg3 : Memref sig .tc .vmem S1x128x5120 .bf16) (harg3 : arg3.IsWhole) (arg4 : Memref sig .tc .vmem S1x8x384x128 .fp8e4m3) (harg4 : arg4.IsWhole) (arg5 : Memref sig .tc .vmem S1x8x384 .f32) (harg5 : arg5.IsWhole) (arg6 : Memref sig .tc .vmem S1x8x384x128 .fp8e4m3) (harg6 : arg6.IsWhole) (arg7 : Memref sig .tc .vmem S1x8x128 .f32) (harg7 : arg7.IsWhole) (arg8 : Memref sig .tc .vmem S1x128x5120 .bf16) (harg8 : arg8.IsWhole) (arg9 : Memref sig .tc .vmem S5120x128 .fp8e4m3) (harg9 : arg9.IsWhole) (arg10 : Memref sig .tc .vmem S1x40x128 .f32) (harg10 : arg10.IsWhole) (arg11 : Memref sig .tc .vmem S8x384x128 .f32) (harg11 : arg11.IsWhole) (arg12 : Memref sig .tc .vmem S8x128x128 .f32) (harg12 : arg12.IsWhole) (arg13 : Memref sig .tc .vmem S8x128x384 .fp8e4m3) (harg13 : arg13.IsWhole) (arg14 : Memref sig .tc .vmem S40x128x128 .fp8e4m3) (harg14 : arg14.IsWhole) (arg15 : Memref sig .tc .vmem S8x128 .f32) (harg15 : arg15.IsWhole) (arg16 : Memref sig .tc .vmem S128x128 .i32) (harg16 : arg16.IsWhole) (arg1 : BitVec 32) (v1 : Elt F .i32) (X4 : BufTy.Contents (Elt F) arg4.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (f8 f8' : BufTy.Contents (Elt F) arg8.view.ty) : Prop :=
  (k0_cond2 i v1 = 1#1 → f8' = arg8.view.writes (Elt F) f8 (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v1 X4 X10 X11 X12 X13 X14 k0_t1_loop.trips)) ∧
  (k0_cond3 i v1 = 1#1 → f8' = arg8.view.writes (Elt F) f8 (pb_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v1 X4 X10 X11 X12 X13 X14 k0_t2_loop.trips)) ∧
  (k0_cond4 i v1 = 1#1 → f8' = arg8.view.writes (Elt F) f8 (pb_k0_t3 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v1 X4 X10 X11 X12 X13 X14 k0_t3_loop.trips))

set_option maxHeartbeats 4000000 in
/-- The second half of the body, whatever the number of live key tiles. -/
theorem tail_core (c : Dev nD) (i : grid0.Coords) (arg2 : Memref sig .tc .smem S4 .i32) (harg2 : arg2.IsWhole) (arg3 : Memref sig .tc .vmem S1x128x5120 .bf16) (harg3 : arg3.IsWhole) (arg4 : Memref sig .tc .vmem S1x8x384x128 .fp8e4m3) (harg4 : arg4.IsWhole) (arg5 : Memref sig .tc .vmem S1x8x384 .f32) (harg5 : arg5.IsWhole) (arg6 : Memref sig .tc .vmem S1x8x384x128 .fp8e4m3) (harg6 : arg6.IsWhole) (arg7 : Memref sig .tc .vmem S1x8x128 .f32) (harg7 : arg7.IsWhole) (arg8 : Memref sig .tc .vmem S1x128x5120 .bf16) (harg8 : arg8.IsWhole) (arg9 : Memref sig .tc .vmem S5120x128 .fp8e4m3) (harg9 : arg9.IsWhole) (arg10 : Memref sig .tc .vmem S1x40x128 .f32) (harg10 : arg10.IsWhole) (arg11 : Memref sig .tc .vmem S8x384x128 .f32) (harg11 : arg11.IsWhole) (arg12 : Memref sig .tc .vmem S8x128x128 .f32) (harg12 : arg12.IsWhole) (arg13 : Memref sig .tc .vmem S8x128x384 .fp8e4m3) (harg13 : arg13.IsWhole) (arg14 : Memref sig .tc .vmem S40x128x128 .fp8e4m3) (harg14 : arg14.IsWhole) (arg15 : Memref sig .tc .vmem S8x128 .f32) (harg15 : arg15.IsWhole) (arg16 : Memref sig .tc .vmem S128x128 .i32) (harg16 : arg16.IsWhole) (arg1 : BitVec 32) (v1 : Elt F .i32) (X4 : BufTy.Contents (Elt F) arg4.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (E : Set ℕ) (f8 : BufTy.Contents (Elt F) arg8.view.ty) (K : PUnit → sProp 𝕄) :
      iprop((arg4.view.loc (c : Thread nD τ) ↦[arg4.view.set]{fullShare} X4) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg8.view.loc (c : Thread nD τ) ↦[arg8.view.set]{fullShare} f8)
        ∗ (iprop(∃ f8', ⌜TailPost c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v1 X4 X10 X11 X12 X13 X14 f8 f8'⌝ ∗ (arg4.view.loc (c : Thread nD τ) ↦[arg4.view.set]{fullShare} X4) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg8.view.loc (c : Thread nD τ) ↦[arg8.view.set]{fullShare} f8')) -∗ K ⟨⟩))
      ⊢ wp frame (wpE (defs₀ (F := F)) Variants.none c none) E (tailProg i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v1) K := by
  obtain ⟨e23, e24, e34⟩ := cond_excl i v1
  by_cases h2 : k0_cond2 i v1 = 1#1
  · have h3 : ¬ k0_cond3 i v1 = 1#1 := fun h => e23 ⟨h2, h⟩
    have h4 : ¬ k0_cond4 i v1 = 1#1 := fun h => e24 ⟨h2, h⟩
    iintro ⟨H4, H10, H11, H12, H13, H14, H8, Hk⟩
    iapply (tail1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v1 X4 X10 X11 X12 X13 X14 h2 h3 h4 E f8 K)
    isplitl [H4]; · iexact H4
    isplitl [H10]; · iexact H10
    isplitl [H11]; · iexact H11
    isplitl [H12]; · iexact H12
    isplitl [H13]; · iexact H13
    isplitl [H14]; · iexact H14
    isplitl [H8]; · iexact H8
    iintro ⟨H4, H10, H11, H12, H13, H14, H8⟩
    iapply Hk
    iexists _
    isplitl []
    rotate_left
    · isplitl [H4]; · iexact H4
      isplitl [H10]; · iexact H10
      isplitl [H11]; · iexact H11
      isplitl [H12]; · iexact H12
      isplitl [H13]; · iexact H13
      isplitl [H14]; · iexact H14
      iexact H8
    ipureintro
    exact ⟨fun h => rfl, fun h => absurd h h3, fun h => absurd h h4⟩
  by_cases h3 : k0_cond3 i v1 = 1#1
  · have h4 : ¬ k0_cond4 i v1 = 1#1 := fun h => e34 ⟨h3, h⟩
    iintro ⟨H4, H10, H11, H12, H13, H14, H8, Hk⟩
    iapply (tail2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v1 X4 X10 X11 X12 X13 X14 h2 h3 h4 E f8 K)
    isplitl [H4]; · iexact H4
    isplitl [H10]; · iexact H10
    isplitl [H11]; · iexact H11
    isplitl [H12]; · iexact H12
    isplitl [H13]; · iexact H13
    isplitl [H14]; · iexact H14
    isplitl [H8]; · iexact H8
    iintro ⟨H4, H10, H11, H12, H13, H14, H8⟩
    iapply Hk
    iexists _
    isplitl []
    rotate_left
    · isplitl [H4]; · iexact H4
      isplitl [H10]; · iexact H10
      isplitl [H11]; · iexact H11
      isplitl [H12]; · iexact H12
      isplitl [H13]; · iexact H13
      isplitl [H14]; · iexact H14
      iexact H8
    ipureintro
    exact ⟨fun h => absurd h h2, fun h => rfl, fun h => absurd h h4⟩
  by_cases h4 : k0_cond4 i v1 = 1#1
  · iintro ⟨H4, H10, H11, H12, H13, H14, H8, Hk⟩
    iapply (tail3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v1 X4 X10 X11 X12 X13 X14 h2 h3 h4 E f8 K)
    isplitl [H4]; · iexact H4
    isplitl [H10]; · iexact H10
    isplitl [H11]; · iexact H11
    isplitl [H12]; · iexact H12
    isplitl [H13]; · iexact H13
    isplitl [H14]; · iexact H14
    isplitl [H8]; · iexact H8
    iintro ⟨H4, H10, H11, H12, H13, H14, H8⟩
    iapply Hk
    iexists _
    isplitl []
    rotate_left
    · isplitl [H4]; · iexact H4
      isplitl [H10]; · iexact H10
      isplitl [H11]; · iexact H11
      isplitl [H12]; · iexact H12
      isplitl [H13]; · iexact H13
      isplitl [H14]; · iexact H14
      iexact H8
    ipureintro
    exact ⟨fun h => absurd h h2, fun h => absurd h h3, fun h => rfl⟩
  · iintro ⟨H4, H10, H11, H12, H13, H14, H8, Hk⟩
    iapply (tail0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v1 X4 X10 X11 X12 X13 X14 h2 h3 h4 E f8 K)
    isplitl [H4]; · iexact H4
    isplitl [H10]; · iexact H10
    isplitl [H11]; · iexact H11
    isplitl [H12]; · iexact H12
    isplitl [H13]; · iexact H13
    isplitl [H14]; · iexact H14
    isplitl [H8]; · iexact H8
    iintro ⟨H4, H10, H11, H12, H13, H14, H8⟩
    iapply Hk
    iexists _
    isplitl []
    rotate_left
    · isplitl [H4]; · iexact H4
      isplitl [H10]; · iexact H10
      isplitl [H11]; · iexact H11
      isplitl [H12]; · iexact H12
      isplitl [H13]; · iexact H13
      isplitl [H14]; · iexact H14
      iexact H8
    ipureintro
    exact ⟨fun h => absurd h h2, fun h => absurd h h3, fun h => absurd h h4⟩

/-- What the body leaves in every buffer it writes, over what it found. -/
def BodyPost (c : Dev nD) (i : grid0.Coords) (arg2 : Memref sig .tc .smem S4 .i32) (harg2 : arg2.IsWhole) (arg3 : Memref sig .tc .vmem S1x128x5120 .bf16) (harg3 : arg3.IsWhole) (arg4 : Memref sig .tc .vmem S1x8x384x128 .fp8e4m3) (harg4 : arg4.IsWhole) (arg5 : Memref sig .tc .vmem S1x8x384 .f32) (harg5 : arg5.IsWhole) (arg6 : Memref sig .tc .vmem S1x8x384x128 .fp8e4m3) (harg6 : arg6.IsWhole) (arg7 : Memref sig .tc .vmem S1x8x128 .f32) (harg7 : arg7.IsWhole) (arg8 : Memref sig .tc .vmem S1x128x5120 .bf16) (harg8 : arg8.IsWhole) (arg9 : Memref sig .tc .vmem S5120x128 .fp8e4m3) (harg9 : arg9.IsWhole) (arg10 : Memref sig .tc .vmem S1x40x128 .f32) (harg10 : arg10.IsWhole) (arg11 : Memref sig .tc .vmem S8x384x128 .f32) (harg11 : arg11.IsWhole) (arg12 : Memref sig .tc .vmem S8x128x128 .f32) (harg12 : arg12.IsWhole) (arg13 : Memref sig .tc .vmem S8x128x384 .fp8e4m3) (harg13 : arg13.IsWhole) (arg14 : Memref sig .tc .vmem S40x128x128 .fp8e4m3) (harg14 : arg14.IsWhole) (arg15 : Memref sig .tc .vmem S8x128 .f32) (harg15 : arg15.IsWhole) (arg16 : Memref sig .tc .vmem S128x128 .i32) (harg16 : arg16.IsWhole) (q : PosShare TreeShare) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty)
    (f8' : BufTy.Contents (Elt F) arg8.view.ty) (f9' : BufTy.Contents (Elt F) arg9.view.ty) (f10' : BufTy.Contents (Elt F) arg10.view.ty) (f11' : BufTy.Contents (Elt F) arg11.view.ty) (f12' : BufTy.Contents (Elt F) arg12.view.ty) (f13' : BufTy.Contents (Elt F) arg13.view.ty) (f14' : BufTy.Contents (Elt F) arg14.view.ty) : Prop :=
  (∃ h : first i, f9' = arg9.view.writes (Elt F) f9 (headTrue c i arg2 harg2 arg3 harg3 arg4 harg4 arg5 harg5 arg6 harg6 arg7 harg7 arg8 harg8 arg9 harg9 arg10 harg10 arg11 harg11 arg12 harg12 arg13 harg13 arg14 harg14 arg15 harg15 arg16 harg16 q X2 X3 X4 X5 X6 X7 h).1.2.1 ∧ f10' = arg10.view.writes (Elt F) f10 (headTrue c i arg2 harg2 arg3 harg3 arg4 harg4 arg5 harg5 arg6 harg6 arg7 harg7 arg8 harg8 arg9 harg9 arg10 harg10 arg11 harg11 arg12 harg12 arg13 harg13 arg14 harg14 arg15 harg15 arg16 harg16 q X2 X3 X4 X5 X6 X7 h).1.2.2.1 ∧ f11' = arg11.view.writes (Elt F) f11 (headTrue c i arg2 harg2 arg3 harg3 arg4 harg4 arg5 harg5 arg6 harg6 arg7 harg7 arg8 harg8 arg9 harg9 arg10 harg10 arg11 harg11 arg12 harg12 arg13 harg13 arg14 harg14 arg15 harg15 arg16 harg16 q X2 X3 X4 X5 X6 X7 h).1.2.2.2.1 ∧ f12' = arg12.view.writes (Elt F) f12 (headTrue c i arg2 harg2 arg3 harg3 arg4 harg4 arg5 harg5 arg6 harg6 arg7 harg7 arg8 harg8 arg9 harg9 arg10 harg10 arg11 harg11 arg12 harg12 arg13 harg13 arg14 harg14 arg15 harg15 arg16 harg16 q X2 X3 X4 X5 X6 X7 h).1.2.2.2.2.1 ∧ f13' = arg13.view.writes (Elt F) f13 (headTrue c i arg2 harg2 arg3 harg3 arg4 harg4 arg5 harg5 arg6 harg6 arg7 harg7 arg8 harg8 arg9 harg9 arg10 harg10 arg11 harg11 arg12 harg12 arg13 harg13 arg14 harg14 arg15 harg15 arg16 harg16 q X2 X3 X4 X5 X6 X7 h).1.2.2.2.2.2.1 ∧ f14' = arg14.view.writes (Elt F) f14 (headTrue c i arg2 harg2 arg3 harg3 arg4 harg4 arg5 harg5 arg6 harg6 arg7 harg7 arg8 harg8 arg9 harg9 arg10 harg10 arg11 harg11 arg12 harg12 arg13 harg13 arg14 harg14 arg15 harg15 arg16 harg16 q X2 X3 X4 X5 X6 X7 h).1.2.2.2.2.2.2
      ∧ TailPost c i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (headTrue c i arg2 harg2 arg3 harg3 arg4 harg4 arg5 harg5 arg6 harg6 arg7 harg7 arg8 harg8 arg9 harg9 arg10 harg10 arg11 harg11 arg12 harg12 arg13 harg13 arg14 harg14 arg15 harg15 arg16 harg16 q X2 X3 X4 X5 X6 X7 h).1.1 X4 f10' f11' f12' f13' f14' f8 f8')
  ∨ (∃ h : ¬ first i, f9' = arg9.view.writes (Elt F) f9 (headFalse c i arg2 harg2 arg3 harg3 arg4 harg4 arg5 harg5 arg6 harg6 arg7 harg7 arg8 harg8 arg9 harg9 arg10 harg10 arg11 harg11 arg12 harg12 arg13 harg13 arg14 harg14 arg15 harg15 arg16 harg16 q X2 X3 X4 X5 X6 X7 h).1.2.1 ∧ f10' = arg10.view.writes (Elt F) f10 (headFalse c i arg2 harg2 arg3 harg3 arg4 harg4 arg5 harg5 arg6 harg6 arg7 harg7 arg8 harg8 arg9 harg9 arg10 harg10 arg11 harg11 arg12 harg12 arg13 harg13 arg14 harg14 arg15 harg15 arg16 harg16 q X2 X3 X4 X5 X6 X7 h).1.2.2.1 ∧ f11' = f11 ∧ f12' = f12 ∧ f13' = f13 ∧ f14' = arg14.view.writes (Elt F) f14 (headFalse c i arg2 harg2 arg3 harg3 arg4 harg4 arg5 harg5 arg6 harg6 arg7 harg7 arg8 harg8 arg9 harg9 arg10 harg10 arg11 harg11 arg12 harg12 arg13 harg13 arg14 harg14 arg15 harg15 arg16 harg16 q X2 X3 X4 X5 X6 X7 h).1.2.2.2
      ∧ TailPost c i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (headFalse c i arg2 harg2 arg3 harg3 arg4 harg4 arg5 harg5 arg6 harg6 arg7 harg7 arg8 harg8 arg9 harg9 arg10 harg10 arg11 harg11 arg12 harg12 arg13 harg13 arg14 harg14 arg15 harg15 arg16 harg16 q X2 X3 X4 X5 X6 X7 h).1.1 X4 f10' f11' f12' f13' f14' f8 f8')

set_option maxHeartbeats 4000000 in
/-- The body, at any grid point: it ends, holding what it held with the written buffers as `BodyPost` says. -/
theorem body_core (c : Dev nD) (i : grid0.Coords) (arg2 : Memref sig .tc .smem S4 .i32) (harg2 : arg2.IsWhole) (arg3 : Memref sig .tc .vmem S1x128x5120 .bf16) (harg3 : arg3.IsWhole) (arg4 : Memref sig .tc .vmem S1x8x384x128 .fp8e4m3) (harg4 : arg4.IsWhole) (arg5 : Memref sig .tc .vmem S1x8x384 .f32) (harg5 : arg5.IsWhole) (arg6 : Memref sig .tc .vmem S1x8x384x128 .fp8e4m3) (harg6 : arg6.IsWhole) (arg7 : Memref sig .tc .vmem S1x8x128 .f32) (harg7 : arg7.IsWhole) (arg8 : Memref sig .tc .vmem S1x128x5120 .bf16) (harg8 : arg8.IsWhole) (arg9 : Memref sig .tc .vmem S5120x128 .fp8e4m3) (harg9 : arg9.IsWhole) (arg10 : Memref sig .tc .vmem S1x40x128 .f32) (harg10 : arg10.IsWhole) (arg11 : Memref sig .tc .vmem S8x384x128 .f32) (harg11 : arg11.IsWhole) (arg12 : Memref sig .tc .vmem S8x128x128 .f32) (harg12 : arg12.IsWhole) (arg13 : Memref sig .tc .vmem S8x128x384 .fp8e4m3) (harg13 : arg13.IsWhole) (arg14 : Memref sig .tc .vmem S40x128x128 .fp8e4m3) (harg14 : arg14.IsWhole) (arg15 : Memref sig .tc .vmem S8x128 .f32) (harg15 : arg15.IsWhole) (arg16 : Memref sig .tc .vmem S128x128 .i32) (harg16 : arg16.IsWhole) (q : PosShare TreeShare) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (E : Set ℕ) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (K : PUnit → sProp 𝕄) :
      iprop((arg2.view.loc (c : Thread nD τ) ↦[arg2.view.set]{q} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14)
        ∗ (iprop(∃ f8' f9' f10' f11' f12' f13' f14', ⌜BodyPost c i arg2 harg2 arg3 harg3 arg4 harg4 arg5 harg5 arg6 harg6 arg7 harg7 arg8 harg8 arg9 harg9 arg10 harg10 arg11 harg11 arg12 harg12 arg13 harg13 arg14 harg14 arg15 harg15 arg16 harg16 q X2 X3 X4 X5 X6 X7 f8 f9 f10 f11 f12 f13 f14 f8' f9' f10' f11' f12' f13' f14'⌝ ∗ (arg2.view.loc (c : Thread nD τ) ↦[arg2.view.set]{q} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} f8') ∗ (arg9.view.loc (c : Thread nD τ) ↦[arg9.view.set]{fullShare} f9') ∗ (arg10.view.loc (c : Thread nD τ) ↦[arg10.view.set]{fullShare} f10') ∗ (arg11.view.loc (c : Thread nD τ) ↦[arg11.view.set]{fullShare} f11') ∗ (arg12.view.loc (c : Thread nD τ) ↦[arg12.view.set]{fullShare} f12') ∗ (arg13.view.loc (c : Thread nD τ) ↦[arg13.view.set]{fullShare} f13') ∗ (arg14.view.loc (c : Thread nD τ) ↦[arg14.view.set]{fullShare} f14')) -∗ K ⟨⟩))
      ⊢ wp frame (wpE (defs₀ (F := F)) Variants.none c none) E (cc0_prefix_attention i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  by_cases h : first i
  · iintro ⟨H2, H3, H4, H5, H6, H7, H8, H9, H10, H11, H12, H13, H14, Hk⟩
    iapply ((headTrue c i arg2 harg2 arg3 harg3 arg4 harg4 arg5 harg5 arg6 harg6 arg7 harg7 arg8 harg8 arg9 harg9 arg10 harg10 arg11 harg11 arg12 harg12 arg13 harg13 arg14 harg14 arg15 harg15 arg16 harg16 q X2 X3 X4 X5 X6 X7 h).2 E f9 f10 f11 f12 f13 f14 K)
    isplitl [H2]; · iexact H2
    isplitl [H3]; · iexact H3
    isplitl [H4]; · iexact H4
    isplitl [H5]; · iexact H5
    isplitl [H6]; · iexact H6
    isplitl [H7]; · iexact H7
    isplitl [H9]; · iexact H9
    isplitl [H10]; · iexact H10
    isplitl [H11]; · iexact H11
    isplitl [H12]; · iexact H12
    isplitl [H13]; · iexact H13
    isplitl [H14]; · iexact H14
    iintro ⟨H2, H3, H4, H5, H6, H7, H9, H10, H11, H12, H13, H14⟩
    iapply (tail_core c i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (headTrue c i arg2 harg2 arg3 harg3 arg4 harg4 arg5 harg5 arg6 harg6 arg7 harg7 arg8 harg8 arg9 harg9 arg10 harg10 arg11 harg11 arg12 harg12 arg13 harg13 arg14 harg14 arg15 harg15 arg16 harg16 q X2 X3 X4 X5 X6 X7 h).1.1 X4 (arg10.view.writes (Elt F) f10 (headTrue c i arg2 harg2 arg3 harg3 arg4 harg4 arg5 harg5 arg6 harg6 arg7 harg7 arg8 harg8 arg9 harg9 arg10 harg10 arg11 harg11 arg12 harg12 arg13 harg13 arg14 harg14 arg15 harg15 arg16 harg16 q X2 X3 X4 X5 X6 X7 h).1.2.2.1) (arg11.view.writes (Elt F) f11 (headTrue c i arg2 harg2 arg3 harg3 arg4 harg4 arg5 harg5 arg6 harg6 arg7 harg7 arg8 harg8 arg9 harg9 arg10 harg10 arg11 harg11 arg12 harg12 arg13 harg13 arg14 harg14 arg15 harg15 arg16 harg16 q X2 X3 X4 X5 X6 X7 h).1.2.2.2.1) (arg12.view.writes (Elt F) f12 (headTrue c i arg2 harg2 arg3 harg3 arg4 harg4 arg5 harg5 arg6 harg6 arg7 harg7 arg8 harg8 arg9 harg9 arg10 harg10 arg11 harg11 arg12 harg12 arg13 harg13 arg14 harg14 arg15 harg15 arg16 harg16 q X2 X3 X4 X5 X6 X7 h).1.2.2.2.2.1) (arg13.view.writes (Elt F) f13 (headTrue c i arg2 harg2 arg3 harg3 arg4 harg4 arg5 harg5 arg6 harg6 arg7 harg7 arg8 harg8 arg9 harg9 arg10 harg10 arg11 harg11 arg12 harg12 arg13 harg13 arg14 harg14 arg15 harg15 arg16 harg16 q X2 X3 X4 X5 X6 X7 h).1.2.2.2.2.2.1) (arg14.view.writes (Elt F) f14 (headTrue c i arg2 harg2 arg3 harg3 arg4 harg4 arg5 harg5 arg6 harg6 arg7 harg7 arg8 harg8 arg9 harg9 arg10 harg10 arg11 harg11 arg12 harg12 arg13 harg13 arg14 harg14 arg15 harg15 arg16 harg16 q X2 X3 X4 X5 X6 X7 h).1.2.2.2.2.2.2) E f8 K)
    isplitl [H4]; · iexact H4
    isplitl [H10]; · iexact H10
    isplitl [H11]; · iexact H11
    isplitl [H12]; · iexact H12
    isplitl [H13]; · iexact H13
    isplitl [H14]; · iexact H14
    isplitl [H8]; · iexact H8
    iintro ⟨%f8', %hp, H4, H10, H11, H12, H13, H14, H8⟩
    iapply Hk
    iexists f8', (arg9.view.writes (Elt F) f9 (headTrue c i arg2 harg2 arg3 harg3 arg4 harg4 arg5 harg5 arg6 harg6 arg7 harg7 arg8 harg8 arg9 harg9 arg10 harg10 arg11 harg11 arg12 harg12 arg13 harg13 arg14 harg14 arg15 harg15 arg16 harg16 q X2 X3 X4 X5 X6 X7 h).1.2.1), (arg10.view.writes (Elt F) f10 (headTrue c i arg2 harg2 arg3 harg3 arg4 harg4 arg5 harg5 arg6 harg6 arg7 harg7 arg8 harg8 arg9 harg9 arg10 harg10 arg11 harg11 arg12 harg12 arg13 harg13 arg14 harg14 arg15 harg15 arg16 harg16 q X2 X3 X4 X5 X6 X7 h).1.2.2.1), (arg11.view.writes (Elt F) f11 (headTrue c i arg2 harg2 arg3 harg3 arg4 harg4 arg5 harg5 arg6 harg6 arg7 harg7 arg8 harg8 arg9 harg9 arg10 harg10 arg11 harg11 arg12 harg12 arg13 harg13 arg14 harg14 arg15 harg15 arg16 harg16 q X2 X3 X4 X5 X6 X7 h).1.2.2.2.1), (arg12.view.writes (Elt F) f12 (headTrue c i arg2 harg2 arg3 harg3 arg4 harg4 arg5 harg5 arg6 harg6 arg7 harg7 arg8 harg8 arg9 harg9 arg10 harg10 arg11 harg11 arg12 harg12 arg13 harg13 arg14 harg14 arg15 harg15 arg16 harg16 q X2 X3 X4 X5 X6 X7 h).1.2.2.2.2.1), (arg13.view.writes (Elt F) f13 (headTrue c i arg2 harg2 arg3 harg3 arg4 harg4 arg5 harg5 arg6 harg6 arg7 harg7 arg8 harg8 arg9 harg9 arg10 harg10 arg11 harg11 arg12 harg12 arg13 harg13 arg14 harg14 arg15 harg15 arg16 harg16 q X2 X3 X4 X5 X6 X7 h).1.2.2.2.2.2.1), (arg14.view.writes (Elt F) f14 (headTrue c i arg2 harg2 arg3 harg3 arg4 harg4 arg5 harg5 arg6 harg6 arg7 harg7 arg8 harg8 arg9 harg9 arg10 harg10 arg11 harg11 arg12 harg12 arg13 harg13 arg14 harg14 arg15 harg15 arg16 harg16 q X2 X3 X4 X5 X6 X7 h).1.2.2.2.2.2.2)
    isplitl []
    rotate_left
    · isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14
    ipureintro
    exact .inl ⟨h, rfl, rfl, rfl, rfl, rfl, rfl, hp⟩
  · iintro ⟨H2, H3, H4, H5, H6, H7, H8, H9, H10, H11, H12, H13, H14, Hk⟩
    iapply ((headFalse c i arg2 harg2 arg3 harg3 arg4 harg4 arg5 harg5 arg6 harg6 arg7 harg7 arg8 harg8 arg9 harg9 arg10 harg10 arg11 harg11 arg12 harg12 arg13 harg13 arg14 harg14 arg15 harg15 arg16 harg16 q X2 X3 X4 X5 X6 X7 h).2 E f9 f10 f14 K)
    isplitl [H2]; · iexact H2
    isplitl [H3]; · iexact H3
    isplitl [H4]; · iexact H4
    isplitl [H5]; · iexact H5
    isplitl [H6]; · iexact H6
    isplitl [H7]; · iexact H7
    isplitl [H9]; · iexact H9
    isplitl [H10]; · iexact H10
    isplitl [H14]; · iexact H14
    iintro ⟨H2, H3, H4, H5, H6, H7, H9, H10, H14⟩
    iapply (tail_core c i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (headFalse c i arg2 harg2 arg3 harg3 arg4 harg4 arg5 harg5 arg6 harg6 arg7 harg7 arg8 harg8 arg9 harg9 arg10 harg10 arg11 harg11 arg12 harg12 arg13 harg13 arg14 harg14 arg15 harg15 arg16 harg16 q X2 X3 X4 X5 X6 X7 h).1.1 X4 (arg10.view.writes (Elt F) f10 (headFalse c i arg2 harg2 arg3 harg3 arg4 harg4 arg5 harg5 arg6 harg6 arg7 harg7 arg8 harg8 arg9 harg9 arg10 harg10 arg11 harg11 arg12 harg12 arg13 harg13 arg14 harg14 arg15 harg15 arg16 harg16 q X2 X3 X4 X5 X6 X7 h).1.2.2.1) f11 f12 f13 (arg14.view.writes (Elt F) f14 (headFalse c i arg2 harg2 arg3 harg3 arg4 harg4 arg5 harg5 arg6 harg6 arg7 harg7 arg8 harg8 arg9 harg9 arg10 harg10 arg11 harg11 arg12 harg12 arg13 harg13 arg14 harg14 arg15 harg15 arg16 harg16 q X2 X3 X4 X5 X6 X7 h).1.2.2.2) E f8 K)
    isplitl [H4]; · iexact H4
    isplitl [H10]; · iexact H10
    isplitl [H11]; · iexact H11
    isplitl [H12]; · iexact H12
    isplitl [H13]; · iexact H13
    isplitl [H14]; · iexact H14
    isplitl [H8]; · iexact H8
    iintro ⟨%f8', %hp, H4, H10, H11, H12, H13, H14, H8⟩
    iapply Hk
    iexists f8', (arg9.view.writes (Elt F) f9 (headFalse c i arg2 harg2 arg3 harg3 arg4 harg4 arg5 harg5 arg6 harg6 arg7 harg7 arg8 harg8 arg9 harg9 arg10 harg10 arg11 harg11 arg12 harg12 arg13 harg13 arg14 harg14 arg15 harg15 arg16 harg16 q X2 X3 X4 X5 X6 X7 h).1.2.1), (arg10.view.writes (Elt F) f10 (headFalse c i arg2 harg2 arg3 harg3 arg4 harg4 arg5 harg5 arg6 harg6 arg7 harg7 arg8 harg8 arg9 harg9 arg10 harg10 arg11 harg11 arg12 harg12 arg13 harg13 arg14 harg14 arg15 harg15 arg16 harg16 q X2 X3 X4 X5 X6 X7 h).1.2.2.1), f11, f12, f13, (arg14.view.writes (Elt F) f14 (headFalse c i arg2 harg2 arg3 harg3 arg4 harg4 arg5 harg5 arg6 harg6 arg7 harg7 arg8 harg8 arg9 harg9 arg10 harg10 arg11 harg11 arg12 harg12 arg13 harg13 arg14 harg14 arg15 harg15 arg16 harg16 q X2 X3 X4 X5 X6 X7 h).1.2.2.2)
    isplitl []
    rotate_left
    · isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14
    ipureintro
    exact .inr ⟨h, rfl, rfl, rfl, rfl, rfl, rfl, hp⟩

end Cert.KernelIdeal.Run

end
-- ==== Proof.IFrame.lean ====
module

public import proofs.«01_k».proof.Proof.Gen.KernelIdeal.Skeleton
public import proofs.«01_k».proof.Proof.Gen.KernelIdeal.Loops
public import proofs.«01_k».proof.Proof.Gen.KernelIdeal.Launch
public import Idealize.ShloMosaic.Lib.Pipeline.FrameBody
public import Idealize.ShloMosaic.Lib.Pipeline.Frame
public import proofs.«01_k».proof.Proof.IBody

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Core `c`'s buffers at launch. -/
def V (c : Dev nD) (b : Ref sig .tc) : Buf (Elt F) ((c : Thread nD τ).loc b) := m ((c : Thread nD τ).loc b)

/-- The prefetched table's contents at launch: the prefix lengths. -/
def pf : pre0.Contents (Elt F) := fun k => V m (0 : Dev nD) (pre0.ref k)

/-- They are admissible: no index map reads them. -/
def adm : (pcfg0 (F := F)).Adm := ⟨pf m, trivial⟩

/-- The pipeline at them. -/
abbrev cfgA : Pipeline.Cfg sig Λ₀ := cfg0 (adm m)

/-- What a proof says of the run: of each output block after each grid point (`A5`, `A6`, `A7`), and of the batch's
    scratch buffers before each point (`S`). -/
structure Rel where
  A5 : Fin grid0.N → (S1x128x5120.Idx → Elt F .bf16) → Prop
  A6 : Fin grid0.N → (S5120x128.Idx → Elt F .fp8e4m3) → Prop
  A7 : Fin grid0.N → (S1x40x128.Idx → Elt F .f32) → Prop
  S : ℕ → (S8x384x128.Idx → Elt F .f32) → (S8x128x128.Idx → Elt F .f32) → (S8x128x384.Idx → Elt F .fp8e4m3) → Prop

/-- Window `w`'s block at point `t`, read off its array at launch. -/
def iblk (c : Dev nD) (w : Fin (cfgA m).W) (t : Fin (cfgA m).N) : (((cfgA m).win w).xblock ((cfgA m).grid.coords t)).Idx → Elt F ((cfgA m).win w).elt :=
  (((cfgA m).win w).blk t).view.read (Elt F) (V m c (Pipeline.arrRef spec0 w))

/-- The step a proof owes: the body, on the blocks of a point, keeps the relations. -/
def Rel.Step (R : Rel (F := F)) (c : Dev nD) : Prop :=
  ∀ (t : Fin grid0.N) (s : (w : Fin 8) → Fin (spec0 w).nbuf) (X3 : BufTy.Contents (Elt F) (spec0_0.stage (s 0)).view.ty) (X4 : BufTy.Contents (Elt F) (spec0_1.stage (s 1)).view.ty) (X5 : BufTy.Contents (Elt F) (spec0_2.stage (s 2)).view.ty) (X6 : BufTy.Contents (Elt F) (spec0_3.stage (s 3)).view.ty) (X7 : BufTy.Contents (Elt F) (spec0_4.stage (s 4)).view.ty) (f8 : BufTy.Contents (Elt F) (spec0_5.stage (s 5)).view.ty) (f9 : BufTy.Contents (Elt F) (spec0_6.stage (s 6)).view.ty) (f10 : BufTy.Contents (Elt F) (spec0_7.stage (s 7)).view.ty) (f11 : BufTy.Contents (Elt F) (Memref.whole cc0_scratch0).view.ty) (f12 : BufTy.Contents (Elt F) (Memref.whole cc0_scratch1).view.ty) (f13 : BufTy.Contents (Elt F) (Memref.whole cc0_scratch2).view.ty) (f14 : BufTy.Contents (Elt F) (Memref.whole cc0_scratch3).view.ty) (f8' : BufTy.Contents (Elt F) (spec0_5.stage (s 5)).view.ty) (f9' : BufTy.Contents (Elt F) (spec0_6.stage (s 6)).view.ty) (f10' : BufTy.Contents (Elt F) (spec0_7.stage (s 7)).view.ty) (f11' : BufTy.Contents (Elt F) (Memref.whole cc0_scratch0).view.ty) (f12' : BufTy.Contents (Elt F) (Memref.whole cc0_scratch1).view.ty) (f13' : BufTy.Contents (Elt F) (Memref.whole cc0_scratch2).view.ty) (f14' : BufTy.Contents (Elt F) (Memref.whole cc0_scratch3).view.ty),
    (spec0_0.stage (s 0)).view.read (Elt F) X3 = iblk m c 0 t → (spec0_1.stage (s 1)).view.read (Elt F) X4 = iblk m c 1 t → (spec0_2.stage (s 2)).view.read (Elt F) X5 = iblk m c 2 t → (spec0_3.stage (s 3)).view.read (Elt F) X6 = iblk m c 3 t → (spec0_4.stage (s 4)).view.read (Elt F) X7 = iblk m c 4 t →
    R.S t.val ((Memref.whole cc0_scratch0).view.read (Elt F) f11) ((Memref.whole cc0_scratch1).view.read (Elt F) f12) ((Memref.whole cc0_scratch2).view.read (Elt F) f13) →
    BodyPost c (grid0.coords t) (Memref.whole main_arg5) (Memref.isWhole_whole _) (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (spec0_4.stage (s 4)) (hstage0_4 ((s 4).cast nbuf0_4)) (spec0_5.stage (s 5)) (hstage0_5 ((s 5).cast nbuf0_5)) (spec0_6.stage (s 6)) (hstage0_6 ((s 6).cast nbuf0_6)) (spec0_7.stage (s 7)) (hstage0_7 ((s 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) fullShare.right (pf m 0) X3 X4 X5 X6 X7 f8 f9 f10 f11 f12 f13 f14 f8' f9' f10' f11' f12' f13' f14' →
    R.A5 t ((spec0_5.stage (s 5)).view.read (Elt F) f8') ∧ R.A6 t ((spec0_6.stage (s 6)).view.read (Elt F) f9') ∧ R.A7 t ((spec0_7.stage (s 7)).view.read (Elt F) f10')
      ∧ R.S (t.val + 1) ((Memref.whole cc0_scratch0).view.read (Elt F) f11') ((Memref.whole cc0_scratch1).view.read (Elt F) f12') ((Memref.whole cc0_scratch2).view.read (Elt F) f13')

/-- The body's invariant before point `n`: the scratch buffers as the relation says, the table's half, the generator. -/
def inv (R : Rel (F := F)) (c : Dev nD) (n : ℕ) : sProp 𝕄 :=
  iprop((∃ f11 f12 f13, ⌜R.S n ((Memref.whole cc0_scratch0).view.read (Elt F) f11) ((Memref.whole cc0_scratch1).view.read (Elt F) f12) ((Memref.whole cc0_scratch2).view.read (Elt F) f13)⌝
      ∗ ((c : Thread nD τ).loc cc0_scratch0 ↦{fullShare} f11) ∗ ((c : Thread nD τ).loc cc0_scratch1 ↦{fullShare} f12) ∗ ((c : Thread nD τ).loc cc0_scratch2 ↦{fullShare} f13))
    ∗ (∃ f, (c : Thread nD τ).loc cc0_scratch3 ↦{fullShare} f) ∗ (∃ f, (c : Thread nD τ).loc cc0_scratch4 ↦{fullShare} f) ∗ (∃ f, (c : Thread nD τ).loc cc0_scratch5 ↦{fullShare} f)
    ∗ (∃ r, prngReg c r) ∗ ((c : Thread nD τ).loc main_arg5 ↦{fullShare.right} pf m 0))

/-- The proof data: inputs stay their blocks, outputs are as the relation says. -/
def rdat (R : Rel (F := F)) (c : Dev nD) : Pipeline.RDat τ (Elt F) Unit ℕ (UR sig nD τ) ℕ (cfgA m) c where
  A w := V m c (Pipeline.arrRef spec0 w)
  after w t Y X := match w with
    | ⟨0, _⟩ => X = Y
    | ⟨1, _⟩ => X = Y
    | ⟨2, _⟩ => X = Y
    | ⟨3, _⟩ => X = Y
    | ⟨4, _⟩ => X = Y
    | ⟨5, _⟩ => R.A5 t X
    | ⟨6, _⟩ => R.A6 t X
    | ⟨7, _⟩ => R.A7 t X
  Φ t := inv m R c t.val
  q _ := fullShare
  owed _ := 0

/-- A whole buffer is the whole of its memref's view. -/
theorem pts_whole (c : Dev nD) (b : Ref sig .tc) (q : PosShare TreeShare) (f : Buf (Elt F) ((c : Thread nD τ).loc b)) :
    ((c : Thread nD τ).loc b ↦{q} f : sProp 𝕄) = ((Memref.whole b).view.loc (c : Thread nD τ) ↦[(Memref.whole b).view.set]{q} f) := by
  have h : (Memref.whole b).view.set = Finset.univ := View.set_whole b
  rw [h]

theorem finds0 (R : Rel (F := F)) (c : Dev nD) (t : Fin (cfgA m).N) (X) (h : (rdat m R c).Finds 0 t X) : X = iblk m c 0 t :=
  let ⟨_, e⟩ := (rdat m R c).finds_in_eq_fetched 0 rfl (fun _ _ _ => rfl) (fun _ _ _ h => h) t X h
  e.trans rfl
theorem finds1 (R : Rel (F := F)) (c : Dev nD) (t : Fin (cfgA m).N) (X) (h : (rdat m R c).Finds 1 t X) : X = iblk m c 1 t :=
  let ⟨_, e⟩ := (rdat m R c).finds_in_eq_fetched 1 rfl (fun _ _ _ => rfl) (fun _ _ _ h => h) t X h
  e.trans rfl
theorem finds2 (R : Rel (F := F)) (c : Dev nD) (t : Fin (cfgA m).N) (X) (h : (rdat m R c).Finds 2 t X) : X = iblk m c 2 t :=
  let ⟨_, e⟩ := (rdat m R c).finds_in_eq_fetched 2 rfl (fun _ _ _ => rfl) (fun _ _ _ h => h) t X h
  e.trans rfl
theorem finds3 (R : Rel (F := F)) (c : Dev nD) (t : Fin (cfgA m).N) (X) (h : (rdat m R c).Finds 3 t X) : X = iblk m c 3 t :=
  let ⟨_, e⟩ := (rdat m R c).finds_in_eq_fetched 3 rfl (fun _ _ _ => rfl) (fun _ _ _ h => h) t X h
  e.trans rfl
theorem finds4 (R : Rel (F := F)) (c : Dev nD) (t : Fin (cfgA m).N) (X) (h : (rdat m R c).Finds 4 t X) : X = iblk m c 4 t :=
  let ⟨_, e⟩ := (rdat m R c).finds_in_eq_fetched 4 rfl (fun _ _ _ => rfl) (fun _ _ _ h => h) t X h
  e.trans rfl

set_option maxHeartbeats 8000000 in
/-- The body obligation, at every point. -/
theorem obligation (R : Rel (F := F)) (c : Dev nD) (hstep : R.Step m c) :
    (rdat m R c).BodyObligation (defs₀ (F := F)) Variants.none () Set.univ := by
  intro t Y hY
  have y0 := finds0 m R c t _ (hY 0)
  have y1 := finds1 m R c t _ (hY 1)
  have y2 := finds2 m R c t _ (hY 2)
  have y3 := finds3 m R c t _ (hY 3)
  have y4 := finds4 m R c t _ (hY 4)
  rw [bigSep_W0, bigSep_W0]
  generalize hs : (cfgA m).slots t = s
  have hrow : defs₀ (F := F) .tc (cfgA m).body ((cfgA m).bodyArgs t s) = cc0_prefix_attention (grid0.coords t) (Memref.whole main_arg5) (Memref.isWhole_whole _) (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (spec0_4.stage (s 4)) (hstage0_4 ((s 4).cast nbuf0_4)) (spec0_5.stage (s 5)) (hstage0_5 ((s 5).cast nbuf0_5)) (spec0_6.stage (s 6)) (hstage0_6 ((s 6).cast nbuf0_6)) (spec0_7.stage (s 7)) (hstage0_7 ((s 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) := by
    unfold defs₀; rw [Defs.onTc_tc]
  rw [hrow]
  have key : iprop(inv m R c t.val ∗ (rdat m R c).owesAt () t.castSucc ∗ owns (c : Thread nD τ) (spec0_0.stage (s 0)) fullShare (Y 0) ∗ owns (c : Thread nD τ) (spec0_1.stage (s 1)) fullShare (Y 1) ∗ owns (c : Thread nD τ) (spec0_2.stage (s 2)) fullShare (Y 2) ∗ owns (c : Thread nD τ) (spec0_3.stage (s 3)) fullShare (Y 3) ∗ owns (c : Thread nD τ) (spec0_4.stage (s 4)) fullShare (Y 4) ∗ owns (c : Thread nD τ) (spec0_5.stage (s 5)) fullShare (Y 5) ∗ owns (c : Thread nD τ) (spec0_6.stage (s 6)) fullShare (Y 6) ∗ owns (c : Thread nD τ) (spec0_7.stage (s 7)) fullShare (Y 7))
      ⊢ wp frame (wpE (defs₀ (F := F)) Variants.none c none) Set.univ (cc0_prefix_attention (grid0.coords t) (Memref.whole main_arg5) (Memref.isWhole_whole _) (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (spec0_4.stage (s 4)) (hstage0_4 ((s 4).cast nbuf0_4)) (spec0_5.stage (s 5)) (hstage0_5 ((s 5).cast nbuf0_5)) (spec0_6.stage (s 6)) (hstage0_6 ((s 6).cast nbuf0_6)) (spec0_7.stage (s 7)) (hstage0_7 ((s 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)) fun _ =>
        iprop(inv m R c (t.val + 1) ∗ (rdat m R c).owesAt () t.castSucc ∗ (∃ X, ⌜X = Y 0⌝ ∗ owns (c : Thread nD τ) (spec0_0.stage (s 0)) fullShare X) ∗ (∃ X, ⌜X = Y 1⌝ ∗ owns (c : Thread nD τ) (spec0_1.stage (s 1)) fullShare X) ∗ (∃ X, ⌜X = Y 2⌝ ∗ owns (c : Thread nD τ) (spec0_2.stage (s 2)) fullShare X) ∗ (∃ X, ⌜X = Y 3⌝ ∗ owns (c : Thread nD τ) (spec0_3.stage (s 3)) fullShare X) ∗ (∃ X, ⌜X = Y 4⌝ ∗ owns (c : Thread nD τ) (spec0_4.stage (s 4)) fullShare X) ∗ (∃ X, ⌜R.A5 t X⌝ ∗ owns (c : Thread nD τ) (spec0_5.stage (s 5)) fullShare X) ∗ (∃ X, ⌜R.A6 t X⌝ ∗ owns (c : Thread nD τ) (spec0_6.stage (s 6)) fullShare X) ∗ (∃ X, ⌜R.A7 t X⌝ ∗ owns (c : Thread nD τ) (spec0_7.stage (s 7)) fullShare X)) := by
    unfold inv owns
    simp only [pts_whole]
    iintro ⟨⟨⟨%f11, %f12, %f13, %hS, H11, H12, H13⟩, ⟨%f14, H14⟩, H15, H16, Hr, H2⟩, Ho, ⟨%X3, %e3, H3⟩, ⟨%X4, %e4, H4⟩, ⟨%X5, %e5, H5⟩, ⟨%X6, %e6, H6⟩, ⟨%X7, %e7, H7⟩, ⟨%X8, %e8, H8⟩, ⟨%X9, %e9, H9⟩, ⟨%X10, %e10, H10⟩⟩
    iapply (body_core c (grid0.coords t) (Memref.whole main_arg5) (Memref.isWhole_whole _) (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (spec0_4.stage (s 4)) (hstage0_4 ((s 4).cast nbuf0_4)) (spec0_5.stage (s 5)) (hstage0_5 ((s 5).cast nbuf0_5)) (spec0_6.stage (s 6)) (hstage0_6 ((s 6).cast nbuf0_6)) (spec0_7.stage (s 7)) (hstage0_7 ((s 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) fullShare.right (pf m 0) X3 X4 X5 X6 X7 Set.univ X8 X9 X10 f11 f12 f13 f14 _)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iintro ⟨%f8', %f9', %f10', %f11', %f12', %f13', %f14', %hp, H2, H3, H4, H5, H6, H7, H8, H9, H10, H11, H12, H13, H14⟩
    obtain ⟨a5, a6, a7, hS'⟩ := hstep t s X3 X4 X5 X6 X7 X8 X9 X10 f11 f12 f13 f14 f8' f9' f10' f11' f12' f13' f14'
      (e3.trans y0) (e4.trans y1) (e5.trans y2) (e6.trans y3) (e7.trans y4) hS hp
    isplitl [H11 H12 H13 H14 H15 H16 Hr H2]
    · isplitl [H11 H12 H13]
      · iexists f11', f12', f13'
        isplitl []; · ipureintro; exact hS'
        isplitl [H11]; · iexact H11
        isplitl [H12]; · iexact H12
        iexact H13
      isplitl [H14]; · iexists f14'; iexact H14
      isplitl [H15]; · iexact H15
      isplitl [H16]; · iexact H16
      isplitl [Hr]; · iexact Hr
      iexact H2
    isplitl [Ho]; · iexact Ho
    isplitl [H3]
    · iexists _
      isplitl []
      rotate_left
      · iexists X3
        isplitl []; · ipureintro; rfl
        iexact H3
      ipureintro
      exact e3
    isplitl [H4]
    · iexists _
      isplitl []
      rotate_left
      · iexists X4
        isplitl []; · ipureintro; rfl
        iexact H4
      ipureintro
      exact e4
    isplitl [H5]
    · iexists _
      isplitl []
      rotate_left
      · iexists X5
        isplitl []; · ipureintro; rfl
        iexact H5
      ipureintro
      exact e5
    isplitl [H6]
    · iexists _
      isplitl []
      rotate_left
      · iexists X6
        isplitl []; · ipureintro; rfl
        iexact H6
      ipureintro
      exact e6
    isplitl [H7]
    · iexists _
      isplitl []
      rotate_left
      · iexists X7
        isplitl []; · ipureintro; rfl
        iexact H7
      ipureintro
      exact e7
    isplitl [H8]
    · iexists _
      isplitl []
      rotate_left
      · iexists f8'
        isplitl []; · ipureintro; rfl
        iexact H8
      ipureintro
      exact a5
    isplitl [H9]
    · iexists _
      isplitl []
      rotate_left
      · iexists f9'
        isplitl []; · ipureintro; rfl
        iexact H9
      ipureintro
      exact a6
    iexists _
    isplitl []
    rotate_left
    · iexists f10'
      isplitl []; · ipureintro; rfl
      iexact H10
    ipureintro
    exact a7
  exact key

/-- What the region hands the body at the start is the invariant before the first point. -/
theorem inv_in (R : Rel (F := F)) (h0 : ∀ x y z, R.S 0 x y z) (c : Dev nD) :
    iprop(Pipeline.ΦA spec0 c ∗ Pipeline.ΦT pre0 (pf m) c) ⊢ (inv m R c 0 : sProp 𝕄) := by
  unfold Pipeline.ΦA Pipeline.ΦT Pipeline.prefHeld inv
  rw [scopedRest0_eq, show (bigSep Finset.univ fun k : Fin pre0.K => (((c : Thread nD τ).loc (pre0.ref k)) ↦{fullShare.right} pf m k : sProp 𝕄))
    = iprop(((c : Thread nD τ).loc main_arg5) ↦{fullShare.right} pf m 0) from
    bigSep_univ_eq_bigSepL [(0 : Fin 1)] (by decide) (by decide) _]
  iintro ⟨⟨⟨⟨%f11, H11⟩, ⟨%f12, H12⟩, ⟨%f13, H13⟩, H14, H15, H16⟩, Hr⟩, H2⟩
  isplitl [H11 H12 H13]
  · iexists f11, f12, f13
    isplitl []; · ipureintro; exact h0 _ _ _
    isplitl [H11]; · iexact H11
    isplitl [H12]; · iexact H12
    iexact H13
  isplitl [H14]; · iexact H14
  isplitl [H15]; · iexact H15
  isplitl [H16]; · iexact H16
  isplitl [Hr]; · iexact Hr
  iexact H2

/-- The invariant after the last point gives the scratch buffers back. -/
theorem inv_out (R : Rel (F := F)) (c : Dev nD) (n : ℕ) :
    (inv m R c n : sProp 𝕄) ⊢ Pipeline.ΦA spec0 c := by
  unfold Pipeline.ΦA inv
  rw [scopedRest0_eq]
  iintro ⟨⟨%f11, %f12, %f13, %hS, H11, H12, H13⟩, H14, H15, H16, Hr, H2⟩
  isplitr [Hr]
  · isplitl [H11]; · iexists f11; iexact H11
    isplitl [H12]; · iexists f12; iexact H12
    isplitl [H13]; · iexists f13; iexact H13
    isplitl [H14]; · iexact H14
    isplitl [H15]; · iexact H15
    iexact H16
  iexact Hr

/-- @main is the region alone. -/
theorem hmain : Pipeline.HMainP (Ix := Unit) (Name := ℕ) (U := UR sig nD τ) (Lvl := ℕ) pcfgs 0 defs₀ Variants.none m (main (F := F)) (V m) :=
  Pipeline.hmainP_region pcfgs 0 defs₀ Variants.none m main fun c => (main_chain c).trans rfl

set_option backward.isDefEq.respectTransparency.types false in
set_option maxHeartbeats 800000 in
/-- The launch: for relations the body keeps, every run of @main ends with every array as they say and every counter
    at zero. -/
theorem run_main (R : Rel (F := F)) (h0 : ∀ x y z, R.S 0 x y z) (hstep : ∀ c, R.Step m c) :
    θ_run defs (onTc (τ := τ) (main (F := F))) (s₀ m ρ)
      (fun r => Pipeline.RDat.FramePost (cfgA m) (rdat m R) (V m) r ∧ r.2.sem = fun _ => 0) :=
  Pipeline.RDat.θ_run_frameP_track (Q' := _) pcfgs (fun _ => adm m) (0 : Fin 1) launch0 defs₀ Variants.none (rdat m R) m ρ main
    (hbody := fun c => obligation m R c (hstep c)) (hshare := fun c w => by unfold Pipeline.RDat.share; split <;> rfl)
    (howed := fun _ _ => rfl) (V := V m) (hmain := hmain m) (hA := fun _ _ => rfl)
    (hpf := fun c k => by
      obtain rfl : c = 0 := Subsingleton.elim _ _
      rfl)
    (hin := fun c => inv_in m R h0 c) (hout := fun c => inv_out m R c _)

/-- The inputs' arrays end as they were, and the counters at zero. -/
theorem unchanged (R : Rel (F := F)) {r : PUnit × MemSt nD τ sig (Elt F)}
    (h : Pipeline.RDat.FramePost (cfgA m) (rdat m R) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  have e : ∀ w : Fin (cfgA m).W, ((cfgA m).win w).isOut = false →
      r.2.mem (((cfgA m).spec w).arr.view.loc (c.tc : Thread nD τ)) = V m c (Pipeline.arrRef spec0 w) := fun w hw => by
    have := (h c).1 w
    rw [(rdat m R c).ArrAt_in w hw] at this
    exact this
  exact ⟨e 0 rfl, e 1 rfl, e 2 rfl, e 3 rfl, e 4 rfl, (h c).2 main_arg5 (show main_arg5 ∈ Pipeline.restRefs sig spec0 by decide)⟩

/-- The relation that says nothing. -/
def anyRel : Rel (F := F) := ⟨fun _ _ => True, fun _ _ => True, fun _ _ => True, fun _ _ _ _ => True⟩

/-- The frame: every run terminates, leaves the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ h => ⟨unchanged m anyRel h.1, h.2⟩)
    (run_main m ρ anyRel (fun _ _ _ => trivial) fun _ => by
      unfold Rel.Step; intros; exact ⟨trivial, trivial, trivial, trivial⟩)

end Cert.KernelIdeal.Run

end
-- ==== Proof.AttnMath.lean ====
module

public import Idealize.ShloMosaic.Lib.Pointwise
public import Idealize.ShloMosaic.PureOps.Ideal

/-
  The softmax identity that the kernel uses, over the extended reals and free of any program: scores in powers of two,
  shifted so that the largest power is `2 ^ 8`, against the textbook softmax scaled by `256` before it is rounded.
-/

@[expose] public section

noncomputable section
namespace Cert.Attn
open Idealize.ShloMosaic

/-- The largest of finitely many extended reals, `⊥` of none. -/
def top {n : ℕ} (s : Fin n → EReal) : EReal := Finset.univ.fold max ⊥ s

/-- One term of the softmax's numerator: `exp (s t - max s)`. -/
def prob {n : ℕ} (s : Fin n → EReal) (t : Fin n) : EReal := Ideal.exp (s t - top s)

/-- One query's output at one channel, as the problem states it: the terms times `256`, clipped at `448`, against the
    values, then the value scale over `256`, then the reciprocal of the softmax's denominator. -/
def attn {n : ℕ} (s V : Fin n → EReal) (vs : EReal) : EReal :=
  (∑ t, min (prob s t * ((256 : ℝ) : EReal)) ((448 : ℝ) : EReal) * V t) * (vs * ((1 / 256 : ℝ) : EReal)) * Ideal.div 1 (∑ t, prob s t)

/-- The kernel's term: a power of two of the score `t k * qs` less its maximum, plus 8. -/
def pow {n : ℕ} (t : Fin n → EReal) (qs : EReal) (k : Fin n) : EReal :=
  Ideal.exp2 (t k * qs - (top t * qs - ((8 : ℝ) : EReal)))

/-- One query's output at one channel, as the kernel computes it. -/
def kattn {n : ℕ} (t V : Fin n → EReal) (qs vs : EReal) : EReal :=
  (∑ k, V k * min (pow t qs k) ((448 : ℝ) : EReal)) * vs * Ideal.div 1 (∑ k, pow t qs k)

theorem top_eq_sup {n : ℕ} (s : Fin n → EReal) : top s = Finset.univ.sup s := rfl

theorem le_max {n : ℕ} (s : Fin n → EReal) (t : Fin n) : s t ≤ top s := Finset.le_sup (f := s) (Finset.mem_univ t)

theorem exp_nonneg (x : EReal) : 0 ≤ Ideal.exp x := by
  induction x with
  | bot => exact le_refl (0 : EReal)
  | top => exact (le_top : (0 : EReal) ≤ ⊤)
  | coe r => exact EReal.coe_nonneg.2 (Real.exp_pos r).le

/-- The maximum commutes with a positive real factor. -/
theorem top_mul {n : ℕ} (t : Fin n → EReal) {q : ℝ} (hq : 0 < q) : top t * (q : EReal) = top fun k => t k * (q : EReal) := by
  rw [top_eq_sup, top_eq_sup]
  refine Finset.comp_sup_eq_sup_comp_of_is_total (fun x : EReal => x * (q : EReal)) (fun a b h => ?_) (EReal.bot_mul_coe_of_pos hq)
  exact mul_le_mul_of_nonneg_right h (EReal.coe_nonneg.2 hq.le)

/-- A power of two, raised by 8, is `256` times an exponential. -/
theorem exp2_shift {s M : EReal} (h : s ≤ M) :
    Ideal.exp2 (s * (((Real.log 2)⁻¹ : ℝ) : EReal) - (M * (((Real.log 2)⁻¹ : ℝ) : EReal) - ((8 : ℝ) : EReal))) = ((256 : ℝ) : EReal) * Ideal.exp (s - M) := by
  have hl : (0 : ℝ) < (Real.log 2)⁻¹ := inv_pos.2 (Real.log_pos one_lt_two)
  have eb : Ideal.exp ⊥ = 0 := rfl
  have eb2 : Ideal.exp2 ⊥ = 0 := rfl
  induction M with
  | bot =>
    obtain rfl : s = ⊥ := le_bot_iff.1 h
    rw [EReal.bot_mul_coe_of_pos hl]
    simp [eb, eb2, EReal.bot_sub]
  | top =>
    rw [EReal.top_mul_coe_of_pos hl]
    have : (⊤ : EReal) - ((8 : ℝ) : EReal) = ⊤ := EReal.top_sub_coe 8
    rw [this]
    simp [eb, eb2, EReal.sub_top]
  | coe m =>
    induction s with
    | bot =>
      rw [EReal.bot_mul_coe_of_pos hl]
      simp [eb, eb2, EReal.bot_sub]
    | top => exact absurd h (by simp)
    | coe r =>
      rw [← EReal.coe_mul, ← EReal.coe_mul, ← EReal.coe_sub, ← EReal.coe_sub, ← EReal.coe_sub]
      show ((Real.rpow 2 _ : ℝ) : EReal) = ((256 : ℝ) : EReal) * ((Real.exp _ : ℝ) : EReal)
      rw [← EReal.coe_mul]
      congr 1
      show (2 : ℝ) ^ (_ : ℝ) = _
      rw [show r * (Real.log 2)⁻¹ - (m * (Real.log 2)⁻¹ - 8) = (r - m) * (Real.log 2)⁻¹ + (8 : ℕ) by push_cast; ring,
        Real.rpow_add two_pos, Real.rpow_natCast, mul_comm, Real.rpow_def_of_pos two_pos]
      have : Real.log 2 ≠ 0 := (Real.log_pos one_lt_two).ne'
      congr 1
      · norm_num
      · congr 1; field_simp

/-- `256` comes out of a sum of nonnegative terms. -/
theorem sum_mul {n : ℕ} (f : Fin n → EReal) (hf : ∀ k, 0 ≤ f k) : ∑ k, ((256 : ℝ) : EReal) * f k = ((256 : ℝ) : EReal) * ∑ k, f k := by
  classical
  suffices ∀ S : Finset (Fin n), ∑ k ∈ S, ((256 : ℝ) : EReal) * f k = ((256 : ℝ) : EReal) * ∑ k ∈ S, f k from this _
  intro S
  induction S using Finset.induction_on with
  | empty => simp
  | insert a S ha ih =>
    rw [Finset.sum_insert ha, Finset.sum_insert ha, ih, EReal.left_distrib_of_nonneg (hf a) (Finset.sum_nonneg fun k _ => hf k)]

/-- The reciprocal of `256` times a nonnegative number. -/
theorem div_256 {L : EReal} (hL : 0 ≤ L) : Ideal.div 1 (((256 : ℝ) : EReal) * L) = ((1 / 256 : ℝ) : EReal) * Ideal.div 1 L := by
  by_cases h : L = 0
  · subst h
    rw [mul_zero]
    simp only [Ideal.div, if_true, zero_lt_one]
    rw [EReal.coe_mul_top_of_pos (by norm_num)]
  · have h' : ((256 : ℝ) : EReal) * L ≠ 0 := mul_ne_zero (by norm_num) h
    simp only [Ideal.div, if_neg h, if_neg h', one_mul, EReal.mul_inv]
    rw [← EReal.coe_inv]; norm_num

/-- A sum over the first `n` indices, where the later terms vanish. -/
theorem sum_castLE {n m : ℕ} (h : n ≤ m) (f : Fin m → EReal) (hf : ∀ k, n ≤ k.val → f k = 0) : ∑ k, f k = ∑ k : Fin n, f (k.castLE h) := by
  obtain ⟨d, rfl⟩ := Nat.exists_eq_add_of_le h
  rw [Fin.sum_univ_add, Finset.sum_eq_zero (s := Finset.univ) (f := fun i : Fin d => f (Fin.natAdd n i)) (fun i _ => hf _ (by simp)), add_zero]
  rfl

/-- A maximum over the first `n` indices, where the later terms are `⊥`. -/
theorem top_castLE {n m : ℕ} (h : n ≤ m) (f : Fin m → EReal) (hf : ∀ k, n ≤ k.val → f k = ⊥) : top f = top fun k : Fin n => f (k.castLE h) := by
  apply le_antisymm
  · refine Finset.sup_le fun k _ => ?_
    by_cases hk : n ≤ k.val
    · rw [hf k hk]; exact bot_le
    · exact le_max (fun k : Fin n => f (k.castLE h)) ⟨k.val, by omega⟩
  · exact Finset.sup_le fun k _ => le_max f _

/-- The kernel's output over the first `n` keys is the problem's over all `m`, where the scores of the later keys are `⊥`. -/
theorem kattn_eq {n m : ℕ} (h : n ≤ m) (s V : Fin m → EReal) (t V' : Fin n → EReal) (vs : EReal) {q : ℝ} (hq : 0 < q)
    (hs : ∀ k, n ≤ k.val → s k = ⊥) (ht : ∀ k, t k * (q : EReal) = s (k.castLE h) * (((Real.log 2)⁻¹ : ℝ) : EReal))
    (hV : ∀ k, V' k = V (k.castLE h)) : kattn t V' q vs = attn s V vs := by
  have hl : (0 : ℝ) < (Real.log 2)⁻¹ := inv_pos.2 (Real.log_pos one_lt_two)
  have htop : top t * (q : EReal) = top s * (((Real.log 2)⁻¹ : ℝ) : EReal) := by
    rw [top_mul t hq, top_castLE h s hs, top_mul _ hl]
    exact congrArg top (funext ht)
  have hpow : ∀ k, pow t q k = ((256 : ℝ) : EReal) * prob s (k.castLE h) := fun k => by
    unfold pow prob
    rw [ht, htop]
    exact exp2_shift (le_max s _)
  have hz : ∀ k, n ≤ k.val → prob s k = 0 := fun k hk => by
    unfold prob
    rw [hs k hk, EReal.bot_sub]; rfl
  unfold kattn attn
  rw [sum_castLE h (fun k => prob s k) hz,
    sum_castLE h (fun k => min (prob s k * ((256 : ℝ) : EReal)) ((448 : ℝ) : EReal) * V k) (fun k hk => by
      rw [hz k hk, zero_mul, min_eq_left (EReal.coe_nonneg.2 (by norm_num)), zero_mul])]
  simp only [hpow, hV]
  rw [sum_mul (fun k => prob s (Fin.castLE h k)) (fun k => exp_nonneg _), div_256 (L := ∑ k, prob s (Fin.castLE h k)) (Finset.sum_nonneg fun k _ => exp_nonneg _)]
  rw [Finset.sum_congr rfl fun k _ => show V (Fin.castLE h k) * min (((256 : ℝ) : EReal) * prob s (Fin.castLE h k)) ((448 : ℝ) : EReal)
    = min (prob s (Fin.castLE h k) * ((256 : ℝ) : EReal)) ((448 : ℝ) : EReal) * V (Fin.castLE h k) by rw [mul_comm (V _), mul_comm ((256 : ℝ) : EReal)]]
  rw [mul_assoc, mul_assoc, mul_assoc]

end Cert.Attn
end
-- ==== Proof.QuantMath.lean ====
module

public import Idealize.ShloMosaic.Lib.Pointwise
public import Idealize.ShloMosaic.PureOps.Ideal

/-
  The power-of-two scale of a head's row, free of any program: the exponent as the problem states it, over the extended
  reals, against the exponent the kernel holds in a 32-bit word and shifts into place.
-/

@[expose] public section

noncomputable section
namespace Cert.Attn
open Idealize.ShloMosaic

/-- The rounded reciprocal of `448` that both programs multiply by. -/
def rcp : EReal := Ideal.ofBits .f32 0x3B124925#32

/-- The exponent of the row's scale, as the problem states it: `⌊log₂ (a / 448)⌋ + 1`, and `0` for a row of zeros. -/
def qexp (a : EReal) : EReal :=
  if a = 0 then 0 else Ideal.liftRound Int.floor (Ideal.log (a * rcp) * (((Real.log 2)⁻¹ : ℝ) : EReal)) + 1

/-- The kernel's biased exponent, a word. -/
def kword (a : EReal) : BitVec 32 :=
  Ideal.fptosi 32 (max (Ideal.liftRound Int.floor (Ideal.log (a * rcp) * (((Real.log 2)⁻¹ : ℝ) : EReal)) + Ideal.ofBits .f32 0x42FE0000#32) 0)

/-- The kernel's exponent, a word. -/
def kexp (a : EReal) : BitVec 32 :=
  Scalar.select (IntOp.cmpi .eq (kword a) 0#32) 0#32 (IntOp.subi (kword a) 126#32)

/-- The word that the kernel reads as the float `2 ^ e`. -/
def pow2 (e : BitVec 32) : EReal := Ideal.ofBits .f32 (IntOp.shli .vector (IntOp.addi e 127#32) 23#32)

/-- A row's largest absolute value that the programs' constants and words can hold: zero, or at least `2 ^ (-117)` and at
    most the largest bf16. -/
def Normal (a : EReal) : Prop := a = 0 ∨ (Ideal.ofBits .f32 0x05000000#32 ≤ a ∧ a ≤ Ideal.ofBits .f32 0x7F7F0000#32)

/-- A positive normal float of 32 bits, by its exponent and significand fields. -/
theorem ofBits_normal (b : BitVec 32) (ex fr : ℕ) (hs : b.extractLsb' 31 1 = 0#1) (he : (b.extractLsb' 23 8).toNat = ex)
    (hf : (b.extractLsb' 0 23).toNat = fr) (h0 : ex ≠ 0) (h : ex ≠ 255) :
    Ideal.ofBits .f32 b = ((((2 ^ 23 + fr : ℕ) : ℝ) * (2 : ℝ) ^ ((ex : ℤ) - 150) : ℝ) : EReal) := by
  show Ideal.ieee 8 23 b = _
  unfold Ideal.ieee
  simp only [Nat.reduceAdd, hs, he, hf]
  rw [if_neg (show ¬ ex = 2 ^ 8 - 1 by omega), if_neg h0]
  congr 1
  rw [show ((ex : ℤ) - (2 ^ (8 - 1) - 1) - ((23 : ℕ) : ℤ)) = (ex : ℤ) - 150 by norm_num; ring]
  simp

/-- A word shifted into the exponent's place is a power of two. -/
theorem ofBits_exponent (e : ℕ) (h0 : 0 < e) (h : e < 255) :
    Ideal.ofBits .f32 (BitVec.ofNat 32 e <<< 23) = (((2 : ℝ) ^ ((e : ℤ) - 127) : ℝ) : EReal) := by
  have hn : (BitVec.ofNat 32 e <<< 23).toNat = e * 2 ^ 23 := by
    rw [BitVec.toNat_shiftLeft, BitVec.toNat_ofNat, Nat.shiftLeft_eq]; omega
  generalize BitVec.ofNat 32 e <<< 23 = b at hn ⊢
  rw [ofBits_normal b e 0
    (by apply BitVec.eq_of_toNat_eq; rw [BitVec.extractLsb'_toNat, hn, Nat.shiftRight_eq_div_pow]; simp; omega)
    (by rw [BitVec.extractLsb'_toNat, hn, Nat.shiftRight_eq_div_pow]; omega)
    (by rw [BitVec.extractLsb'_toNat, hn, Nat.shiftRight_eq_div_pow]; omega) (by omega) (by omega)]
  congr 1
  rw [show ((e : ℤ) - 127) = 23 + ((e : ℤ) - 150) by ring, zpow_add₀ two_ne_zero]
  norm_num

/-- The kernel's shifted word is the power of two of the integer that the word stands for. -/
theorem pow2_eq (n : ℤ) (h0 : -127 < n) (h : n < 128) : pow2 (BitVec.ofInt 32 n) = Ideal.exp2 ((n : ℝ) : EReal) := by
  obtain ⟨e, he⟩ : ∃ e : ℕ, (e : ℤ) = n + 127 := ⟨(n + 127).toNat, by omega⟩
  have hw : IntOp.shli .vector (IntOp.addi (BitVec.ofInt 32 n) 127#32) 23#32 = BitVec.ofNat 32 e <<< 23 := by
    have : IntOp.addi (BitVec.ofInt 32 n) 127#32 = BitVec.ofNat 32 e := by
      show BitVec.ofInt 32 n + 127#32 = _
      rw [show (127#32) = BitVec.ofInt 32 127 from rfl, ← BitVec.ofInt_add, ← he]; exact BitVec.ofInt_natCast 32 e
    rw [this]; rfl
  unfold pow2
  rw [hw, ofBits_exponent e (by omega) (by omega)]
  show _ = ((Real.rpow 2 _ : ℝ) : EReal)
  congr 1
  rw [show (e : ℤ) - 127 = n by omega]
  exact (Real.rpow_intCast 2 n).symm

theorem rcp_eq : rcp = ((9586981 / 4294967296 : ℝ) : EReal) := by
  unfold rcp
  rw [ofBits_normal _ 118 1198373 (by decide) (by decide) (by decide) (by decide) (by decide)]
  congr 1; norm_num

theorem least_eq : Ideal.ofBits .f32 0x05000000#32 = (((2 : ℝ) ^ (-117 : ℤ) : ℝ) : EReal) := by
  rw [ofBits_normal _ 10 0 (by decide) (by decide) (by decide) (by decide) (by decide)]
  congr 1; norm_num

theorem largest_le : Ideal.ofBits .f32 0x7F7F0000#32 ≤ (((2 : ℝ) ^ (128 : ℤ) : ℝ) : EReal) := by
  rw [ofBits_normal _ 254 8323072 (by decide) (by decide) (by decide) (by decide) (by decide), EReal.coe_le_coe_iff]
  norm_num

theorem bias_eq : Ideal.ofBits .f32 0x42FE0000#32 = ((127 : ℝ) : EReal) := by
  rw [ofBits_normal _ 133 8257536 (by decide) (by decide) (by decide) (by decide) (by decide)]
  congr 1; norm_num

theorem c448_eq : Ideal.ofBits .f32 0x43E00000#32 = ((448 : ℝ) : EReal) := by
  rw [ofBits_normal _ 135 6291456 (by decide) (by decide) (by decide) (by decide) (by decide)]
  congr 1; norm_num

theorem c256_eq : Ideal.ofBits .f32 0x43800000#32 = ((256 : ℝ) : EReal) := by
  rw [ofBits_normal _ 135 0 (by decide) (by decide) (by decide) (by decide) (by decide)]
  congr 1; norm_num

theorem c8_eq : Ideal.ofBits .f32 0x41000000#32 = ((8 : ℝ) : EReal) := by
  rw [ofBits_normal _ 130 0 (by decide) (by decide) (by decide) (by decide) (by decide)]
  congr 1; norm_num

theorem c256inv_eq : Ideal.ofBits .f32 0x3B800000#32 = ((1 / 256 : ℝ) : EReal) := by
  rw [ofBits_normal _ 119 0 (by decide) (by decide) (by decide) (by decide) (by decide)]
  congr 1; norm_num

theorem bot_eq : Ideal.ofBits .f32 0xFF800000#32 = ⊥ := by
  show Ideal.ieee 8 23 (0xFF800000#32) = _
  unfold Ideal.ieee
  simp only [Nat.reduceAdd]
  rw [if_pos (by decide), if_pos (by decide), if_pos (by decide)]

theorem bot_bf16_eq : Ideal.ofBits .bf16 0xFF80#16 = ⊥ := by
  show Ideal.ieee 8 7 (0xFF80#16) = _
  unfold Ideal.ieee
  simp only [Nat.reduceAdd]
  rw [if_pos (by decide), if_pos (by decide), if_pos (by decide)]

/-- Of a normal row, the problem's exponent and the kernel's word are one integer, in the range of a float's exponents. -/
theorem exp_eq {a : EReal} (ha : Normal a) : ∃ n : ℤ, -126 < n ∧ n < 121 ∧ qexp a = ((n : ℝ) : EReal) ∧ kexp a = BitVec.ofInt 32 n := by
  have hl2 : 0 < Real.log 2 := Real.log_pos one_lt_two
  rcases ha with rfl | ⟨h1, h2⟩
  · refine ⟨0, by norm_num, by norm_num, ?_, ?_⟩
    · simp [qexp]
    · have : kword 0 = 0#32 := by
        unfold kword
        rw [zero_mul, show Ideal.log 0 = ⊥ from if_pos (le_refl (0 : ℝ)), EReal.bot_mul_coe_of_pos (inv_pos.2 hl2)]
        show Ideal.fptosi 32 (max ((⊥ : EReal) + _) 0) = _
        rw [EReal.bot_add, max_eq_right bot_le]
        show BitVec.ofInt 32 (max _ (min _ (if (0 : ℝ) ≤ 0 then ⌊(0 : ℝ)⌋ else ⌈(0 : ℝ)⌉))) = _
        simp
      unfold kexp
      rw [this]; rfl
  · rw [least_eq] at h1
    have h2' := h2.trans largest_le
    obtain ⟨r, rfl⟩ : ∃ r : ℝ, a = (r : EReal) := by
      induction a with
      | bot => exact absurd (le_bot_iff.1 h1) (EReal.coe_ne_bot _)
      | top => exact absurd (top_le_iff.1 h2') (EReal.coe_ne_top _)
      | coe r => exact ⟨r, rfl⟩
    rw [EReal.coe_le_coe_iff] at h1 h2'
    have hr : 0 < r := lt_of_lt_of_le (zpow_pos two_pos _) h1
    set p : ℝ := r * (9586981 / 4294967296) with hp
    have hp0 : 0 < p := by positivity
    set lg : ℝ := Real.log p * (Real.log 2)⁻¹ with hlg
    have hlog : Ideal.log ((r : EReal) * rcp) * (((Real.log 2)⁻¹ : ℝ) : EReal) = ((lg : ℝ) : EReal) := by
      rw [rcp_eq, ← EReal.coe_mul]
      show (if p ≤ 0 then (⊥ : EReal) else ((Real.log p : ℝ) : EReal)) * _ = _
      rw [if_neg (not_le.2 hp0), ← EReal.coe_mul]
    set n : ℤ := ⌊lg⌋ with hn
    have hfl : Ideal.liftRound Int.floor ((lg : ℝ) : EReal) = (((n : ℤ) : ℝ) : EReal) := rfl
    have n1 : -126 ≤ n := by
      rw [hn, Int.le_floor, hlg, ← div_eq_mul_inv, le_div_iff₀ hl2, ← Real.log_zpow]
      refine Real.log_le_log (zpow_pos two_pos _) ?_
      calc (2 : ℝ) ^ (-126 : ℤ) = 2 ^ (-117 : ℤ) * 2 ^ (-9 : ℤ) := by rw [← zpow_add₀ two_ne_zero]; norm_num
        _ ≤ r * (9586981 / 4294967296) := mul_le_mul h1 (by norm_num) (by positivity) hr.le
    have n2 : n < 120 := by
      rw [hn, Int.floor_lt, hlg, ← div_eq_mul_inv, div_lt_iff₀ hl2, ← Real.log_zpow]
      refine Real.log_lt_log hp0 ?_
      calc p ≤ 2 ^ (128 : ℤ) * (9586981 / 4294967296) := mul_le_mul_of_nonneg_right h2' (by norm_num)
        _ < 2 ^ (120 : ℤ) := by norm_num
    refine ⟨n + 1, by omega, by omega, ?_, ?_⟩
    · unfold qexp
      rw [if_neg (EReal.coe_ne_zero.2 hr.ne'), hlog, hfl]
      push_cast; rfl
    · have hw : kword (r : EReal) = BitVec.ofInt 32 (n + 127) := by
        unfold kword
        rw [hlog, hfl, bias_eq, ← EReal.coe_add]
        have h0 : (0 : ℝ) ≤ (n : ℝ) + 127 := by have : (-126 : ℝ) ≤ n := by exact_mod_cast n1
                                                linarith
        rw [max_eq_left (EReal.coe_nonneg.2 h0)]
        show BitVec.ofInt 32 (max _ (min _ (if (0 : ℝ) ≤ (n : ℝ) + 127 then ⌊(n : ℝ) + 127⌋ else _))) = _
        rw [if_pos h0, show ((n : ℝ) + 127) = ((n + 127 : ℤ) : ℝ) by push_cast; rfl, Int.floor_intCast]
        congr 1
        omega
      have hne : kword (r : EReal) ≠ 0#32 := by
        rw [hw]; intro hh
        have := congrArg BitVec.toInt hh
        rw [BitVec.toInt_ofInt] at this
        simp [Int.bmod] at this
        omega
      unfold kexp
      have hc : IntOp.cmpi .eq (kword (r : EReal)) 0#32 = 0#1 := by
        show BitVec.ofBool (kword (r : EReal) == 0#32) = 0#1
        rw [beq_eq_false_iff_ne.2 hne]; rfl
      rw [hc, hw]
      show BitVec.ofInt 32 (n + 127) - 126#32 = _
      rw [show (126#32) = BitVec.ofInt 32 126 from rfl, BitVec.sub_eq_add_neg, ← BitVec.ofInt_neg, ← BitVec.ofInt_add]
      congr 1; omega

/-- The kernel's scale of a normal row is the problem's. -/
theorem scale_eq {a : EReal} (ha : Normal a) : pow2 (kexp a) = Ideal.exp2 (qexp a) := by
  obtain ⟨n, h1, h2, hq, hk⟩ := exp_eq ha
  rw [hq, hk, pow2_eq n (by omega) (by omega)]

/-- The kernel's reciprocal scale of a normal row is the problem's. -/
theorem scale_neg_eq {a : EReal} (ha : Normal a) : pow2 (IntOp.subi 0#32 (kexp a)) = Ideal.exp2 (0 - qexp a) := by
  obtain ⟨n, h1, h2, hq, hk⟩ := exp_eq ha
  have : IntOp.subi 0#32 (BitVec.ofInt 32 n) = BitVec.ofInt 32 (-n) := by
    show 0#32 - BitVec.ofInt 32 n = _
    rw [show (0#32) = BitVec.ofInt 32 0 from rfl, BitVec.sub_eq_add_neg, ← BitVec.ofInt_neg, ← BitVec.ofInt_add, zero_add]
  rw [hq, hk, this, pow2_eq (-n) (by omega) (by omega), zero_sub, ← EReal.coe_neg]
  push_cast; rfl

/-- A normal row's scale is a positive real. -/
theorem scale_pos {a : EReal} (ha : Normal a) : ∃ q : ℝ, 0 < q ∧ Ideal.exp2 (qexp a) = (q : EReal) := by
  obtain ⟨n, h1, h2, hq, hk⟩ := exp_eq ha
  exact ⟨Real.rpow 2 n, Real.rpow_pos_of_pos two_pos _, by rw [hq]; rfl⟩

end Cert.Attn
end
-- ==== Proof.Spec.lean ====
module

public import proofs.«01_k».proof.Proof.AttnMath
public import proofs.«01_k».proof.Proof.QuantMath

/-
  What both programs compute, index by index, from the argument arrays: the codes, the scales and the attention output.
-/

@[expose] public section

noncomputable section
namespace Cert.Attn
open Idealize.ShloMosaic

/-- The hidden rows, `4 x 384 x 5120`. -/
abbrev XArr : Type := (⟨3, ![4, 384, 5120]⟩ : Shape).Idx → EReal
/-- The keys or the values, `4 x 8 x 384 x 128`. -/
abbrev KArr : Type := (⟨4, ![4, 8, 384, 128]⟩ : Shape).Idx → EReal
/-- The key scales, `4 x 8 x 384`. -/
abbrev KsArr : Type := (⟨3, ![4, 8, 384]⟩ : Shape).Idx → EReal
/-- The value scales, `4 x 8 x 128`. -/
abbrev VsArr : Type := (⟨3, ![4, 8, 128]⟩ : Shape).Idx → EReal
/-- The prefix lengths. -/
abbrev PArr : Type := (⟨1, ![4]⟩ : Shape).Idx → BitVec 32

/-- Channel `j` of head `h` among the 5120 columns. -/
def col (h : Fin 40) (j : Fin 128) : Fin 5120 := ⟨h.val * 128 + j.val, by omega⟩
/-- The key head of query head `h`. -/
def kvh (h : Fin 40) : Fin 8 := ⟨h.val / 5, by omega⟩

/-- The largest absolute value of 128 numbers. -/
def amax (f : Fin 128 → EReal) : EReal := top fun j => max (f j) (-(f j))

/-- The largest absolute value of head `h` of row `s`. -/
def rowMax (X : XArr) (b : Fin 4) (s : Fin 384) (h : Fin 40) : EReal := amax fun j => X (ix3 b s (col h j))

/-- The power-of-two scale of a row. -/
def scaleAt (X : XArr) (b : Fin 4) (s : Fin 384) (h : Fin 40) : EReal := Ideal.exp2 (qexp (rowMax X b s h))

/-- A row's entry over its scale, clipped at `±448`. -/
def codeAt (X : XArr) (b : Fin 4) (s : Fin 384) (h : Fin 40) (j : Fin 128) : EReal :=
  min (Ideal.ofBits .f32 0x43E00000#32) (max (Ideal.ofBits .f32 0xC3E00000#32) (X (ix3 b s (col h j)) * Ideal.exp2 (0 - qexp (rowMax X b s h))))

/-- Whether query `s` sees key `t`: the key lies in the prefix of length `n`, or is no later. -/
def vis (n : BitVec 32) (s t : ℕ) : BitVec 1 :=
  IntOp.ori (IntOp.cmpi .slt (BitVec.ofNat 32 t) n) (IntOp.cmpi .sle (BitVec.ofNat 32 t) (BitVec.ofNat 32 s))

/-- The masked attention score of query `s` of head `h` and key `t`. -/
def score (X : XArr) (K : KArr) (ks : KsArr) (P : PArr) (b : Fin 4) (s : Fin 384) (h : Fin 40) (t : Fin 384) : EReal :=
  Scalar.select (vis (P (ix1 b)) s.val t.val)
    ((∑ j, codeAt X b s h j * K (ix4 b (kvh h) t j)) * scaleAt X b s h * ks (ix3 b (kvh h) t) * (((Real.sqrt 128)⁻¹ : ℝ) : EReal)) ⊥

/-- The attention output of query `s`, head `h`, channel `d`. -/
def outAt (X : XArr) (K : KArr) (ks : KsArr) (Vv : KArr) (vs : VsArr) (P : PArr) (b : Fin 4) (s : Fin 384) (h : Fin 40) (d : Fin 128) : EReal :=
  attn (score X K ks P b s h) (fun t => Vv (ix4 b (kvh h) t d)) (vs (ix3 b (kvh h) d))

end Cert.Attn
end
-- ==== Proof.IMask.lean ====
module

public import proofs.«01_k».proof.Proof.Spec
public import proofs.«01_k».proof.Proof.AttnMath
public import proofs.«01_k».proof.Proof.QuantMath
public import proofs.«01_k».proof.KernelIdeal

/-
  The number of live key tiles, and the mask it leaves.
-/

@[expose] public section
set_option maxRecDepth 65536

noncomputable section
namespace Cert.KernelIdeal.Run
open Cert.KernelIdeal Cert.Attn
open Idealize.ShloMosaic

/-- The number of tiles of 128 keys that a prefix of `v` keys and the query tile `q` reach. -/
def tiles (q : Fin 3) (v : BitVec 32) : BitVec 32 :=
  Scalar.divsi (Scalar.addi (Scalar.maxsi v (Scalar.muli (Scalar.addi (BitVec.ofNat 32 q.val) 1#32) 128#32)) 127#32) 128#32

/-- A comparison of the tile count is what the branch tests. -/
theorem cond_word (x n : BitVec 32) : Scalar.cmpi .ne (Scalar.extui (Scalar.cmpi .eq x n) : BitVec 32) 0#32 = 1#1 ↔ x = n := by
  constructor
  · intro h
    by_contra hx
    simp only [Scalar.cmpi, Scalar.extui, IntOp.cmpi, beq_eq_false_iff_ne.2 hx] at h
    exact absurd h (by decide)
  · rintro rfl
    simp only [Scalar.cmpi, Scalar.extui, IntOp.cmpi, beq_self_eq_true]
    decide

/-- The first branch is taken at one tile. -/
theorem cond2_iff (i : grid0.Coords) (v : BitVec 32) : k0_cond2 i v = 1#1 ↔ tiles (i 1) v = 1#32 := cond_word _ _
/-- The second branch is taken at two tiles. -/
theorem cond3_iff (i : grid0.Coords) (v : BitVec 32) : k0_cond3 i v = 1#1 ↔ tiles (i 1) v = 2#32 := cond_word _ _
/-- The third branch is taken at three tiles. -/
theorem cond4_iff (i : grid0.Coords) (v : BitVec 32) : k0_cond4 i v = 1#1 ↔ tiles (i 1) v = 3#32 := cond_word _ _

/-- The tile count of a number of keys between 128 and 384 is the quotient rounded up. -/
theorem div_word : ∀ n : Fin 385, 128 ≤ n.val → Scalar.divsi (Scalar.addi (BitVec.ofNat 32 n.val) 127#32) 128#32 = BitVec.ofNat 32 ((n.val + 127) / 128) := by
  decide

/-- A small number as a signed word. -/
theorem toInt_ofNat_small {n : ℕ} (h : n ≤ 1000) : (BitVec.ofNat 32 n).toInt = n := by
  rw [BitVec.toInt_eq_toNat_of_lt (by rw [BitVec.toNat_ofNat]; omega), BitVec.toNat_ofNat, Nat.mod_eq_of_lt (by omega)]

/-- The end of a query tile, as a word. -/
theorem qword (q : Fin 3) : Scalar.muli (Scalar.addi (BitVec.ofNat 32 q.val) 1#32) 128#32 = BitVec.ofNat 32 (128 * (q.val + 1)) := by
  revert q; decide

/-- For a prefix of at most 384 keys the tile count is one of 1, 2, 3, and that many tiles are what the prefix and the
    query tile reach. -/
theorem tiles_spec (q : Fin 3) (v : BitVec 32) (hv : v.toInt ≤ 384) :
    ∃ N : ℕ, 1 ≤ N ∧ N ≤ 3 ∧ tiles q v = BitVec.ofNat 32 N ∧ q.val + 1 ≤ N ∧ v.toInt ≤ 128 * N ∧ (128 * ((N : ℤ) - 1) < v.toInt ∨ q.val + 1 = N) := by
  have key : ∀ n : ℕ, 128 ≤ n → n ≤ 384 → Scalar.maxsi v (BitVec.ofNat 32 (128 * (q.val + 1))) = BitVec.ofNat 32 n → 128 * (q.val + 1) ≤ n → v.toInt ≤ n → ((n : ℤ) = v.toInt ∨ n = 128 * (q.val + 1)) →
      ∃ N : ℕ, 1 ≤ N ∧ N ≤ 3 ∧ tiles q v = BitVec.ofNat 32 N ∧ q.val + 1 ≤ N ∧ v.toInt ≤ 128 * N ∧ (128 * ((N : ℤ) - 1) < v.toInt ∨ q.val + 1 = N) := by
    intro n h1 h2 e h3 h4 h5
    refine ⟨(n + 127) / 128, by omega, by omega, ?_, by omega, by omega, ?_⟩
    · unfold tiles
      rw [qword, e]
      exact div_word ⟨n, by omega⟩ h1
    · omega
  have hq := toInt_ofNat_small (n := 128 * (q.val + 1)) (by omega)
  by_cases h : (BitVec.ofNat 32 (128 * (q.val + 1))).toInt < v.toInt
  · refine key v.toInt.toNat (by omega) (by omega) ?_ (by omega) (by omega) (by omega)
    have : Scalar.maxsi v (BitVec.ofNat 32 (128 * (q.val + 1))) = v := by
      simp only [Scalar.maxsi, IntOp.maxsi, BitVec.slt, decide_eq_true_eq]
      split <;> first | rfl | (exfalso; omega)
    rw [this]
    apply BitVec.eq_of_toInt_eq
    rw [toInt_ofNat_small (by omega)]; omega
  · refine key (128 * (q.val + 1)) (by omega) (by omega) ?_ le_rfl (by omega) (.inr rfl)
    simp only [Scalar.maxsi, IntOp.maxsi, BitVec.slt, decide_eq_true_eq]
    split <;> first | rfl | (exfalso; omega) | (apply BitVec.eq_of_toInt_eq; omega)

/-- What a query sees, over the integers. -/
theorem vis_eq (n : BitVec 32) {s t : ℕ} (hs : s ≤ 1000) (ht : t ≤ 1000) : vis n s t = if (t : ℤ) < n.toInt ∨ t ≤ s then 1#1 else 0#1 := by
  unfold vis IntOp.ori IntOp.cmpi
  simp only [BitVec.slt, BitVec.sle, toInt_ofNat_small hs, toInt_ofNat_small ht]
  by_cases h1 : (t : ℤ) < n.toInt <;> by_cases h2 : t ≤ s <;> simp [h1, h2]

end Cert.KernelIdeal.Run
end
-- ==== Proof.IPieces.lean ====
module

public import proofs.«01_k».proof.Proof.IFrame

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

theorem inb_x (h : Fin 40) : ∀ a : Fin S1x128x5120.rank, (![0, 0, 128 * h.val] : Fin 3 → ℕ) a + (![1, 128, 128] : Fin 3 → ℕ) a ≤ S1x128x5120.size a := by
  intro a; have := h.isLt
  match a with
  | ⟨0, _⟩ => show 0 + 1 ≤ 1; omega
  | ⟨1, _⟩ => show 0 + 128 ≤ 128; omega
  | ⟨2, _⟩ => show 128 * h.val + 128 ≤ 5120; omega

theorem inb_s (h : Fin 40) : ∀ a : Fin S1x40x128.rank, (![0, h.val, 0] : Fin 3 → ℕ) a + (![1, 1, 128] : Fin 3 → ℕ) a ≤ S1x40x128.size a := by
  intro a; have := h.isLt
  match a with
  | ⟨0, _⟩ => show 0 + 1 ≤ 1; omega
  | ⟨1, _⟩ => show h.val + 1 ≤ 40; omega
  | ⟨2, _⟩ => show 0 + 128 ≤ 128; omega

theorem inb_q (h : Fin 40) : ∀ a : Fin S40x128x128.rank, (![h.val, 0, 0] : Fin 3 → ℕ) a + (![1, 128, 128] : Fin 3 → ℕ) a ≤ S40x128x128.size a := by
  intro a; have := h.isLt
  match a with
  | ⟨0, _⟩ => show h.val + 1 ≤ 40; omega
  | ⟨1, _⟩ => show 0 + 128 ≤ 128; omega
  | ⟨2, _⟩ => show 0 + 128 ≤ 128; omega

theorem inb_k (g : Fin 8) : ∀ a : Fin S1x8x384.rank, (![0, g.val, 0] : Fin 3 → ℕ) a + (![1, 1, 384] : Fin 3 → ℕ) a ≤ S1x8x384.size a := by
  intro a; have := g.isLt
  match a with
  | ⟨0, _⟩ => show 0 + 1 ≤ 1; omega
  | ⟨1, _⟩ => show g.val + 1 ≤ 8; omega
  | ⟨2, _⟩ => show 0 + 384 ≤ 384; omega

theorem inb_kc (g : Fin 8) (t : Fin 3) : ∀ a : Fin S8x384x128.rank, (![g.val, 128 * t.val, 0] : Fin 3 → ℕ) a + (![1, 128, 128] : Fin 3 → ℕ) a ≤ S8x384x128.size a := by
  intro a; have := g.isLt; have := t.isLt
  match a with
  | ⟨0, _⟩ => show g.val + 1 ≤ 8; omega
  | ⟨1, _⟩ => show 128 * t.val + 128 ≤ 384; omega
  | ⟨2, _⟩ => show 0 + 128 ≤ 128; omega

theorem inb_vr (g : Fin 8) : ∀ a : Fin S1x8x128.rank, (![0, g.val, 0] : Fin 3 → ℕ) a + (![1, 1, 128] : Fin 3 → ℕ) a ≤ S1x8x128.size a := by
  intro a; have := g.isLt
  match a with
  | ⟨0, _⟩ => show 0 + 1 ≤ 1; omega
  | ⟨1, _⟩ => show g.val + 1 ≤ 8; omega
  | ⟨2, _⟩ => show 0 + 128 ≤ 128; omega

theorem inb_vc (g : Fin 8) : ∀ a : Fin S8x128x128.rank, (![g.val, 0, 0] : Fin 3 → ℕ) a + (![1, 128, 128] : Fin 3 → ℕ) a ≤ S8x128x128.size a := by
  intro a; have := g.isLt
  match a with
  | ⟨0, _⟩ => show g.val + 1 ≤ 8; omega
  | ⟨1, _⟩ => show 0 + 128 ≤ 128; omega
  | ⟨2, _⟩ => show 0 + 128 ≤ 128; omega

theorem inb_v (g : Fin 8) (t : Fin 3) : ∀ a : Fin S1x8x384x128.rank, (![0, g.val, 128 * t.val, 0] : Fin 4 → ℕ) a + (![1, 1, 128, 128] : Fin 4 → ℕ) a ≤ S1x8x384x128.size a := by
  intro a; have := g.isLt; have := t.isLt
  match a with
  | ⟨0, _⟩ => show 0 + 1 ≤ 1; omega
  | ⟨1, _⟩ => show g.val + 1 ≤ 8; omega
  | ⟨2, _⟩ => show 128 * t.val + 128 ≤ 384; omega
  | ⟨3, _⟩ => show 0 + 128 ≤ 128; omega

theorem inb_vt (g : Fin 8) (t : Fin 3) : ∀ a : Fin S8x128x384.rank, (![g.val, 0, 128 * t.val] : Fin 3 → ℕ) a + (![1, 128, 128] : Fin 3 → ℕ) a ≤ S8x128x384.size a := by
  intro a; have := g.isLt; have := t.isLt
  match a with
  | ⟨0, _⟩ => show g.val + 1 ≤ 8; omega
  | ⟨1, _⟩ => show 0 + 128 ≤ 128; omega
  | ⟨2, _⟩ => show 128 * t.val + 128 ≤ 384; omega

theorem numel_one : 0 < (Rect.unit (s := S4) ![0] S1.size (by decide)).shape.numel := by decide

/-- The rows of head `h` in the block of queries. -/
def xw (arg3 : Memref sig .tc .vmem S1x128x5120 .bf16) (X3 : BufTy.Contents (Elt F) arg3.view.ty) (h : Fin 40) : Vec F S1x128x128 .bf16 :=
  View.readAt (Elt F) arg3.view (Rect.unit (s := S1x128x5120) ![0, 0, 128 * h.val] S1x128x128.size (inb_x h)).toLoadRect X3

/-- The scales that the prologue writes, one row of 128 for every head. -/
def scalePieces (arg3 : Memref sig .tc .vmem S1x128x5120 .bf16) (X3 : BufTy.Contents (Elt F) arg3.view.ty) : List (View.Piece (Elt F) S1x40x128 .f32) :=
  (List.finRange 40).reverse.map fun h => ⟨Rect.unit ![0, h.val, 0] S1x1x128.size (inb_s h), k0_pay380 (k0_pay378 (k0_pay376 (xw arg3 X3 h)))⟩

/-- The transposed query codes that the prologue writes, one square for every head. -/
def codePieces (arg3 : Memref sig .tc .vmem S1x128x5120 .bf16) (X3 : BufTy.Contents (Elt F) arg3.view.ty) : List (View.Piece (Elt F) S40x128x128 .fp8e4m3) :=
  (List.finRange 40).reverse.map fun h => ⟨Rect.unit ![h.val, 0, 0] S1x128x128.size (inb_q h), k0_pay1 (k0_pay379 (k0_pay375 (xw arg3 X3 h)) (k0_pay376 (xw arg3 X3 h)))⟩

/-- The scales of key head `g`, one row. -/
def krow (arg5 : Memref sig .tc .vmem S1x8x384 .f32) (X5 : BufTy.Contents (Elt F) arg5.view.ty) (g : Fin 8) : Vec F S1x1x384 .f32 :=
  View.readAt (Elt F) arg5.view (Rect.unit (s := S1x8x384) ![0, g.val, 0] S1x1x384.size (inb_k g)).toLoadRect X5

/-- The scales of value head `g`, one row. -/
def vrow (arg7 : Memref sig .tc .vmem S1x8x128 .f32) (X7 : BufTy.Contents (Elt F) arg7.view.ty) (g : Fin 8) : Vec F S1x1x128 .f32 :=
  View.readAt (Elt F) arg7.view (Rect.unit (s := S1x8x128) ![0, g.val, 0] S1x1x128.size (inb_vr g)).toLoadRect X7

/-- One tile of 128 keys' values of head `g`. -/
def vtile (arg6 : Memref sig .tc .vmem S1x8x384x128 .fp8e4m3) (X6 : BufTy.Contents (Elt F) arg6.view.ty) (g : Fin 8) (t : Fin 3) : Vec F S1x1x128x128 .fp8e4m3 :=
  View.readAt (Elt F) arg6.view (Rect.unit (s := S1x8x384x128) ![0, g.val, 128 * t.val, 0] S1x1x128x128.size (inb_v g t)).toLoadRect X6

/-- The key scales that the first block of a batch lays out, three tiles for every head. -/
def kscPieces (arg5 : Memref sig .tc .vmem S1x8x384 .f32) (X5 : BufTy.Contents (Elt F) arg5.view.ty) : List (View.Piece (Elt F) S8x384x128 .f32) :=
  (List.finRange 8).reverse.flatMap fun g => [⟨Rect.unit ![g.val, 128 * (2 : Fin 3).val, 0] S1x128x128.size (inb_kc g 2), k0_pay12 (krow arg5 X5 g)⟩,
    ⟨Rect.unit ![g.val, 128 * (1 : Fin 3).val, 0] S1x128x128.size (inb_kc g 1), k0_pay11 (krow arg5 X5 g)⟩,
    ⟨Rect.unit ![g.val, 128 * (0 : Fin 3).val, 0] S1x128x128.size (inb_kc g 0), k0_pay10 (krow arg5 X5 g)⟩]

/-- The value scales that the first block of a batch lays out, one square for every head. -/
def vscPieces (arg7 : Memref sig .tc .vmem S1x8x128 .f32) (X7 : BufTy.Contents (Elt F) arg7.view.ty) : List (View.Piece (Elt F) S8x128x128 .f32) :=
  (List.finRange 8).reverse.map fun g => ⟨Rect.unit ![g.val, 0, 0] S1x128x128.size (inb_vc g), k0_pay13 (vrow arg7 X7 g)⟩

/-- The transposed values that the first block of a batch lays out, three tiles for every head. -/
def vtPieces (arg6 : Memref sig .tc .vmem S1x8x384x128 .fp8e4m3) (X6 : BufTy.Contents (Elt F) arg6.view.ty) : List (View.Piece (Elt F) S8x128x384 .fp8e4m3) :=
  (List.finRange 8).reverse.flatMap fun g => ([2, 1, 0] : List (Fin 3)).map fun t =>
    ⟨Rect.unit ![g.val, 0, 128 * t.val] S1x128x128.size (inb_vt g t), k0_pay14 (vtile arg6 X6 g t)⟩

variable (c : Dev nD) (i : grid0.Coords) (arg2 : Memref sig .tc .smem S4 .i32) (harg2 : arg2.IsWhole) (arg3 : Memref sig .tc .vmem S1x128x5120 .bf16) (harg3 : arg3.IsWhole) (arg4 : Memref sig .tc .vmem S1x8x384x128 .fp8e4m3) (harg4 : arg4.IsWhole) (arg5 : Memref sig .tc .vmem S1x8x384 .f32) (harg5 : arg5.IsWhole) (arg6 : Memref sig .tc .vmem S1x8x384x128 .fp8e4m3) (harg6 : arg6.IsWhole) (arg7 : Memref sig .tc .vmem S1x8x128 .f32) (harg7 : arg7.IsWhole) (arg8 : Memref sig .tc .vmem S1x128x5120 .bf16) (harg8 : arg8.IsWhole) (arg9 : Memref sig .tc .vmem S5120x128 .fp8e4m3) (harg9 : arg9.IsWhole) (arg10 : Memref sig .tc .vmem S1x40x128 .f32) (harg10 : arg10.IsWhole) (arg11 : Memref sig .tc .vmem S8x384x128 .f32) (harg11 : arg11.IsWhole) (arg12 : Memref sig .tc .vmem S8x128x128 .f32) (harg12 : arg12.IsWhole) (arg13 : Memref sig .tc .vmem S8x128x384 .fp8e4m3) (harg13 : arg13.IsWhole) (arg14 : Memref sig .tc .vmem S40x128x128 .fp8e4m3) (harg14 : arg14.IsWhole) (arg15 : Memref sig .tc .vmem S8x128 .f32) (harg15 : arg15.IsWhole) (arg16 : Memref sig .tc .vmem S128x128 .i32) (harg16 : arg16.IsWhole) (q : PosShare TreeShare) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty)

/-- The scales that the prologue writes. -/
theorem scaleTrue (h : first i) : (headTrue c i arg2 harg2 arg3 harg3 arg4 harg4 arg5 harg5 arg6 harg6 arg7 harg7 arg8 harg8 arg9 harg9 arg10 harg10 arg11 harg11 arg12 harg12 arg13 harg13 arg14 harg14 arg15 harg15 arg16 harg16 q X2 X3 X4 X5 X6 X7 h).1.2.2.1 = scalePieces arg3 X3 := by
  unfold headTrue; rfl

/-- The transposed codes that the prologue writes. -/
theorem codeTrue (h : first i) : (headTrue c i arg2 harg2 arg3 harg3 arg4 harg4 arg5 harg5 arg6 harg6 arg7 harg7 arg8 harg8 arg9 harg9 arg10 harg10 arg11 harg11 arg12 harg12 arg13 harg13 arg14 harg14 arg15 harg15 arg16 harg16 q X2 X3 X4 X5 X6 X7 h).1.2.2.2.2.2.2 = codePieces arg3 X3 := by
  unfold headTrue; rfl

/-- The codes that the prologue writes out, read back from the transposed ones. -/
theorem outTrue (h : first i) : (headTrue c i arg2 harg2 arg3 harg3 arg4 harg4 arg5 harg5 arg6 harg6 arg7 harg7 arg8 harg8 arg9 harg9 arg10 harg10 arg11 harg11 arg12 harg12 arg13 harg13 arg14 harg14 arg15 harg15 arg16 harg16 q X2 X3 X4 X5 X6 X7 h).1.2.1 = [⟨Rect.unit ![0, 0] ![5120, 128] inb_S5120x128_S5120x128_0_0,
    k0_pay2 (arg14.view.readCov (codePieces arg3 X3) (Rect.unit ![0, 0, 0] S40x128x128.size inb_S40x128x128_S40x128x128_0_0_0).toLoadRect)⟩] := by
  unfold headTrue; rfl

/-- The key scales that the first block of a batch lays out. -/
theorem kscTrue (h : first i) : (headTrue c i arg2 harg2 arg3 harg3 arg4 harg4 arg5 harg5 arg6 harg6 arg7 harg7 arg8 harg8 arg9 harg9 arg10 harg10 arg11 harg11 arg12 harg12 arg13 harg13 arg14 harg14 arg15 harg15 arg16 harg16 q X2 X3 X4 X5 X6 X7 h).1.2.2.2.1 = kscPieces arg5 X5 := by
  unfold headTrue; rfl

/-- The value scales that the first block of a batch lays out. -/
theorem vscTrue (h : first i) : (headTrue c i arg2 harg2 arg3 harg3 arg4 harg4 arg5 harg5 arg6 harg6 arg7 harg7 arg8 harg8 arg9 harg9 arg10 harg10 arg11 harg11 arg12 harg12 arg13 harg13 arg14 harg14 arg15 harg15 arg16 harg16 q X2 X3 X4 X5 X6 X7 h).1.2.2.2.2.1 = vscPieces arg7 X7 := by
  unfold headTrue; rfl

/-- The values that the first block of a batch lays out. -/
theorem vtTrue (h : first i) : (headTrue c i arg2 harg2 arg3 harg3 arg4 harg4 arg5 harg5 arg6 harg6 arg7 harg7 arg8 harg8 arg9 harg9 arg10 harg10 arg11 harg11 arg12 harg12 arg13 harg13 arg14 harg14 arg15 harg15 arg16 harg16 q X2 X3 X4 X5 X6 X7 h).1.2.2.2.2.2.1 = vtPieces arg6 X6 := by
  unfold headTrue; rfl

/-- The prefix length that the prologue reads off the table. -/
theorem wordTrue (h : first i) : (headTrue c i arg2 harg2 arg3 harg3 arg4 harg4 arg5 harg5 arg6 harg6 arg7 harg7 arg8 harg8 arg9 harg9 arg10 harg10 arg11 harg11 arg12 harg12 arg13 harg13 arg14 harg14 arg15 harg15 arg16 harg16 q X2 X3 X4 X5 X6 X7 h).1.1 = View.readAt (Elt F) arg2.view (Rect.unit (s := S4) (k0_off1 i) S1.size (k0_off1_inb i)).toLoadRect X2 (Shape.Idx.first numel_one) := by
  unfold headTrue; rfl

/-- The scales that the prologue writes. -/
theorem scaleFalse (h : ¬ first i) : (headFalse c i arg2 harg2 arg3 harg3 arg4 harg4 arg5 harg5 arg6 harg6 arg7 harg7 arg8 harg8 arg9 harg9 arg10 harg10 arg11 harg11 arg12 harg12 arg13 harg13 arg14 harg14 arg15 harg15 arg16 harg16 q X2 X3 X4 X5 X6 X7 h).1.2.2.1 = scalePieces arg3 X3 := by
  unfold headFalse; rfl

/-- The transposed codes that the prologue writes. -/
theorem codeFalse (h : ¬ first i) : (headFalse c i arg2 harg2 arg3 harg3 arg4 harg4 arg5 harg5 arg6 harg6 arg7 harg7 arg8 harg8 arg9 harg9 arg10 harg10 arg11 harg11 arg12 harg12 arg13 harg13 arg14 harg14 arg15 harg15 arg16 harg16 q X2 X3 X4 X5 X6 X7 h).1.2.2.2 = codePieces arg3 X3 := by
  unfold headFalse; rfl

/-- The codes that the prologue writes out, read back from the transposed ones. -/
theorem outFalse (h : ¬ first i) : (headFalse c i arg2 harg2 arg3 harg3 arg4 harg4 arg5 harg5 arg6 harg6 arg7 harg7 arg8 harg8 arg9 harg9 arg10 harg10 arg11 harg11 arg12 harg12 arg13 harg13 arg14 harg14 arg15 harg15 arg16 harg16 q X2 X3 X4 X5 X6 X7 h).1.2.1 = [⟨Rect.unit ![0, 0] ![5120, 128] inb_S5120x128_S5120x128_0_0,
    k0_pay2 (arg14.view.readCov (codePieces arg3 X3) (Rect.unit ![0, 0, 0] S40x128x128.size inb_S40x128x128_S40x128x128_0_0_0).toLoadRect)⟩] := by
  unfold headFalse; rfl

/-- The prefix length that the prologue reads off the table. -/
theorem wordFalse (h : ¬ first i) : (headFalse c i arg2 harg2 arg3 harg3 arg4 harg4 arg5 harg5 arg6 harg6 arg7 harg7 arg8 harg8 arg9 harg9 arg10 harg10 arg11 harg11 arg12 harg12 arg13 harg13 arg14 harg14 arg15 harg15 arg16 harg16 q X2 X3 X4 X5 X6 X7 h).1.1 = View.readAt (Elt F) arg2.view (Rect.unit (s := S4) (k0_off1 i) S1.size (k0_off1_inb i)).toLoadRect X2 (Shape.Idx.first numel_one) := by
  unfold headFalse; rfl

end Cert.KernelIdeal.Run
end
-- ==== Proof.ITrips.lean ====
module

public import proofs.«01_k».proof.Proof.IFrame

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The scores of one head's 128 live keys against 128 queries, in the kernel's operations: the products of the codes, times
    the key scales, the last 128 keys masked. -/
def scores1 (vis : IVec S128x128 1) (kk : Vec F S1x1x128x128 .fp8e4m3) (qq : Vec F S1x128x128 .fp8e4m3) (ksc : Vec F S1x128x128 .f32) : FVec F S128x128 .f32 :=
  let v2121 : FVec F S128x128 .fp8e4m3 := shapeCast S128x128 kk shapeCasts_S1x1x128x128_S128x128
  let v2124 : FVec F S128x128 .fp8e4m3 := shapeCast S128x128 qq shapeCasts_S1x128x128_S128x128
  let v2125 : FVec F S128x128 .f32 := matmul dot_S128x128_S128x128_S128x128_1_0_0_1_n_n none v2121 v2124 (constant S128x128 .f32 0x00000000#32)
  let v2128 : FVec F S128x128 .f32 := shapeCast S128x128 ksc shapeCasts_S1x128x128_S128x128
  let v2129 : FVec F S128x128 .f32 := mulf v2125 v2128
  select vis v2129 (broadcast S128x128 (Scalar.ofBits .f32 0xFF800000#32))

/-- The powers of two that the softmax sums, over 128 live keys. -/
def powers1 (t : FVec F S128x128 .f32) (qs : Vec F S1x1x128 .f32) : FVec F S128x128 .f32 :=
  let v2135 : FVec F S128 .f32 := multiReduction .maximumf [0] S128 t 0xFF800000#32 reduces_S128x128_S128 (.inl rfl) rfl
  let v2136 : FVec F S1x128 .f32 := shapeCast S1x128 v2135 shapeCasts_S128_S1x128
  let v2139 : FVec F S1x128 .f32 := shapeCast S1x128 qs shapeCasts_S1x1x128_S1x128
  let v2141 : FVec F S128x128 .f32 := mulf t (broadcastTo S128x128 v2139 broadcasts_S1x128_S128x128)
  let v2144 : FVec F S1x128 .f32 := subf (mulf v2136 v2139) (broadcast S1x128 (Scalar.ofBits .f32 0x41000000#32))
  exp2 (subf v2141 (broadcastTo S128x128 v2144 broadcasts_S1x128_S128x128))

/-- One head's output block over 128 live keys, in the kernel's operations. -/
def attend1 (e : FVec F S128x128 .f32) (vt : Vec F S1x128x128 .fp8e4m3) (vsc : Vec F S1x128x128 .f32) : FVec F S1x128x128 .bf16 :=
  let v2148 : FVec F S128 .f32 := multiReduction .add [0] S128 e 0x00000000#32 reduces_S128x128_S128 (.inl rfl) rfl
  let v2149 : FVec F S1x128 .f32 := shapeCast S1x128 v2148 shapeCasts_S128_S1x128
  let v2151 : FVec F S128x128 .f32 := minimumf e (broadcast S128x128 (Scalar.ofBits .f32 0x43E00000#32))
  let v2152 : FVec F S128x128 .fp8e4m3 := truncf .fp8e4m3 v2151 bitsLt_fp8e4m3_f32
  let v2155 : FVec F S128x128 .fp8e4m3 := shapeCast S128x128 vt shapeCasts_S1x128x128_S128x128
  let v2156 : FVec F S128x128 .f32 := matmul dot_S128x128_S128x128_S128x128_1_0_0_1_n_n none v2155 v2152 (constant S128x128 .f32 0x00000000#32)
  let v2159 : FVec F S128x128 .f32 := shapeCast S128x128 vsc shapeCasts_S1x128x128_S128x128
  let v2160 : FVec F S128x128 .f32 := mulf v2156 v2159
  let v2162 : FVec F S1x128 .f32 := divf (broadcast S1x128 (Scalar.ofBits .f32 0x3F800000#32)) v2149
  let v2164 : FVec F S128x128 .f32 := mulf v2160 (broadcastTo S128x128 v2162 broadcasts_S1x128_S128x128)
  let v2165 : FVec F S128x128 .bf16 := truncf .bf16 v2164 bitsLt_bf16_f32
  let v2166 : FVec F S128x128 .bf16 := transpose S128x128 [1, 0] v2165 transposes_S128x128_p1_0_S128x128
  shapeCast S1x128x128 v2166 shapeCasts_S128x128_S1x128x128

/-- The scores of one head's 256 live keys against 128 queries, in the kernel's operations: the products of the codes, times
    the key scales, the last 128 keys masked. -/
def scores2 (vis : IVec S128x128 1) (kk : Vec F S1x1x256x128 .fp8e4m3) (qq : Vec F S1x128x128 .fp8e4m3) (ksc : Vec F S1x256x128 .f32) : FVec F S256x128 .f32 :=
  let v2121 : FVec F S256x128 .fp8e4m3 := shapeCast S256x128 kk shapeCasts_S1x1x256x128_S256x128
  let v2124 : FVec F S128x128 .fp8e4m3 := shapeCast S128x128 qq shapeCasts_S1x128x128_S128x128
  let v2125 : FVec F S256x128 .f32 := matmul dot_S256x128_S128x128_S256x128_1_0_0_1_n_n none v2121 v2124 (constant S256x128 .f32 0x00000000#32)
  let v2128 : FVec F S256x128 .f32 := shapeCast S256x128 ksc shapeCasts_S1x256x128_S256x128
  let v2129 : FVec F S256x128 .f32 := mulf v2125 v2128
  let v2130 : FVec F S128x128 .f32 := extractStridedSlice S128x128 ![128, 0] v2129 slices_S256x128_o128_0_S128x128
  let v2132 : FVec F S128x128 .f32 := select vis v2130 (broadcast S128x128 (Scalar.ofBits .f32 0xFF800000#32))
  let v2133 : FVec F S128x128 .f32 := extractStridedSlice S128x128 ![0, 0] v2129 slices_S256x128_o0_0_S128x128
  concatenate S256x128 0 [⟨S128x128, v2133⟩, ⟨S128x128, v2132⟩] concatenates_S128x128_S128x128_S256x128_d0

/-- The powers of two that the softmax sums, over 256 live keys. -/
def powers2 (t : FVec F S256x128 .f32) (qs : Vec F S1x1x128 .f32) : FVec F S256x128 .f32 :=
  let v2135 : FVec F S128 .f32 := multiReduction .maximumf [0] S128 t 0xFF800000#32 reduces_S256x128_S128 (.inl rfl) rfl
  let v2136 : FVec F S1x128 .f32 := shapeCast S1x128 v2135 shapeCasts_S128_S1x128
  let v2139 : FVec F S1x128 .f32 := shapeCast S1x128 qs shapeCasts_S1x1x128_S1x128
  let v2141 : FVec F S256x128 .f32 := mulf t (broadcastTo S256x128 v2139 broadcasts_S1x128_S256x128)
  let v2144 : FVec F S1x128 .f32 := subf (mulf v2136 v2139) (broadcast S1x128 (Scalar.ofBits .f32 0x41000000#32))
  exp2 (subf v2141 (broadcastTo S256x128 v2144 broadcasts_S1x128_S256x128))

/-- One head's output block over 256 live keys, in the kernel's operations. -/
def attend2 (e : FVec F S256x128 .f32) (vt : Vec F S1x128x256 .fp8e4m3) (vsc : Vec F S1x128x128 .f32) : FVec F S1x128x128 .bf16 :=
  let v2148 : FVec F S128 .f32 := multiReduction .add [0] S128 e 0x00000000#32 reduces_S256x128_S128 (.inl rfl) rfl
  let v2149 : FVec F S1x128 .f32 := shapeCast S1x128 v2148 shapeCasts_S128_S1x128
  let v2151 : FVec F S256x128 .f32 := minimumf e (broadcast S256x128 (Scalar.ofBits .f32 0x43E00000#32))
  let v2152 : FVec F S256x128 .fp8e4m3 := truncf .fp8e4m3 v2151 bitsLt_fp8e4m3_f32
  let v2155 : FVec F S128x256 .fp8e4m3 := shapeCast S128x256 vt shapeCasts_S1x128x256_S128x256
  let v2156 : FVec F S128x128 .f32 := matmul dot_S128x256_S256x128_S128x128_1_0_0_1_n_n none v2155 v2152 (constant S128x128 .f32 0x00000000#32)
  let v2159 : FVec F S128x128 .f32 := shapeCast S128x128 vsc shapeCasts_S1x128x128_S128x128
  let v2160 : FVec F S128x128 .f32 := mulf v2156 v2159
  let v2162 : FVec F S1x128 .f32 := divf (broadcast S1x128 (Scalar.ofBits .f32 0x3F800000#32)) v2149
  let v2164 : FVec F S128x128 .f32 := mulf v2160 (broadcastTo S128x128 v2162 broadcasts_S1x128_S128x128)
  let v2165 : FVec F S128x128 .bf16 := truncf .bf16 v2164 bitsLt_bf16_f32
  let v2166 : FVec F S128x128 .bf16 := transpose S128x128 [1, 0] v2165 transposes_S128x128_p1_0_S128x128
  shapeCast S1x128x128 v2166 shapeCasts_S128x128_S1x128x128

/-- The scores of one head's 384 live keys against 128 queries, in the kernel's operations: the products of the codes, times
    the key scales, the last 128 keys masked. -/
def scores3 (vis : IVec S128x128 1) (kk : Vec F S1x1x384x128 .fp8e4m3) (qq : Vec F S1x128x128 .fp8e4m3) (ksc : Vec F S1x384x128 .f32) : FVec F S384x128 .f32 :=
  let v2121 : FVec F S384x128 .fp8e4m3 := shapeCast S384x128 kk shapeCasts_S1x1x384x128_S384x128
  let v2124 : FVec F S128x128 .fp8e4m3 := shapeCast S128x128 qq shapeCasts_S1x128x128_S128x128
  let v2125 : FVec F S384x128 .f32 := matmul dot_S384x128_S128x128_S384x128_1_0_0_1_n_n none v2121 v2124 (constant S384x128 .f32 0x00000000#32)
  let v2128 : FVec F S384x128 .f32 := shapeCast S384x128 ksc shapeCasts_S1x384x128_S384x128
  let v2129 : FVec F S384x128 .f32 := mulf v2125 v2128
  let v2130 : FVec F S128x128 .f32 := extractStridedSlice S128x128 ![256, 0] v2129 slices_S384x128_o256_0_S128x128
  let v2132 : FVec F S128x128 .f32 := select vis v2130 (broadcast S128x128 (Scalar.ofBits .f32 0xFF800000#32))
  let v2133 : FVec F S256x128 .f32 := extractStridedSlice S256x128 ![0, 0] v2129 slices_S384x128_o0_0_S256x128
  concatenate S384x128 0 [⟨S256x128, v2133⟩, ⟨S128x128, v2132⟩] concatenates_S256x128_S128x128_S384x128_d0

/-- The powers of two that the softmax sums, over 384 live keys. -/
def powers3 (t : FVec F S384x128 .f32) (qs : Vec F S1x1x128 .f32) : FVec F S384x128 .f32 :=
  let v2135 : FVec F S128 .f32 := multiReduction .maximumf [0] S128 t 0xFF800000#32 reduces_S384x128_S128 (.inl rfl) rfl
  let v2136 : FVec F S1x128 .f32 := shapeCast S1x128 v2135 shapeCasts_S128_S1x128
  let v2139 : FVec F S1x128 .f32 := shapeCast S1x128 qs shapeCasts_S1x1x128_S1x128
  let v2141 : FVec F S384x128 .f32 := mulf t (broadcastTo S384x128 v2139 broadcasts_S1x128_S384x128)
  let v2144 : FVec F S1x128 .f32 := subf (mulf v2136 v2139) (broadcast S1x128 (Scalar.ofBits .f32 0x41000000#32))
  exp2 (subf v2141 (broadcastTo S384x128 v2144 broadcasts_S1x128_S384x128))

/-- One head's output block over 384 live keys, in the kernel's operations. -/
def attend3 (e : FVec F S384x128 .f32) (vt : Vec F S1x128x384 .fp8e4m3) (vsc : Vec F S1x128x128 .f32) : FVec F S1x128x128 .bf16 :=
  let v2148 : FVec F S128 .f32 := multiReduction .add [0] S128 e 0x00000000#32 reduces_S384x128_S128 (.inl rfl) rfl
  let v2149 : FVec F S1x128 .f32 := shapeCast S1x128 v2148 shapeCasts_S128_S1x128
  let v2151 : FVec F S384x128 .f32 := minimumf e (broadcast S384x128 (Scalar.ofBits .f32 0x43E00000#32))
  let v2152 : FVec F S384x128 .fp8e4m3 := truncf .fp8e4m3 v2151 bitsLt_fp8e4m3_f32
  let v2155 : FVec F S128x384 .fp8e4m3 := shapeCast S128x384 vt shapeCasts_S1x128x384_S128x384
  let v2156 : FVec F S128x128 .f32 := matmul dot_S128x384_S384x128_S128x128_1_0_0_1_n_n none v2155 v2152 (constant S128x128 .f32 0x00000000#32)
  let v2159 : FVec F S128x128 .f32 := shapeCast S128x128 vsc shapeCasts_S1x128x128_S128x128
  let v2160 : FVec F S128x128 .f32 := mulf v2156 v2159
  let v2162 : FVec F S1x128 .f32 := divf (broadcast S1x128 (Scalar.ofBits .f32 0x3F800000#32)) v2149
  let v2164 : FVec F S128x128 .f32 := mulf v2160 (broadcastTo S128x128 v2162 broadcasts_S1x128_S128x128)
  let v2165 : FVec F S128x128 .bf16 := truncf .bf16 v2164 bitsLt_bf16_f32
  let v2166 : FVec F S128x128 .bf16 := transpose S128x128 [1, 0] v2165 transposes_S128x128_p1_0_S128x128
  shapeCast S1x128x128 v2166 shapeCasts_S128x128_S1x128x128

/-- What one trip over 128 live keys stores: the output block of each of the group's five heads. -/
theorem trip1 (𝒱 : Variants) (c : Dev nD) (bd : Option 𝒱.V) (i : grid0.Coords) (arg2 : Memref sig .tc .smem S4 .i32) (harg2 : arg2.IsWhole) (arg3 : Memref sig .tc .vmem S1x128x5120 .bf16) (harg3 : arg3.IsWhole) (arg4 : Memref sig .tc .vmem S1x8x384x128 .fp8e4m3) (harg4 : arg4.IsWhole) (arg5 : Memref sig .tc .vmem S1x8x384 .f32) (harg5 : arg5.IsWhole) (arg6 : Memref sig .tc .vmem S1x8x384x128 .fp8e4m3) (harg6 : arg6.IsWhole) (arg7 : Memref sig .tc .vmem S1x8x128 .f32) (harg7 : arg7.IsWhole) (arg8 : Memref sig .tc .vmem S1x128x5120 .bf16) (harg8 : arg8.IsWhole) (arg9 : Memref sig .tc .vmem S5120x128 .fp8e4m3) (harg9 : arg9.IsWhole) (arg10 : Memref sig .tc .vmem S1x40x128 .f32) (harg10 : arg10.IsWhole) (arg11 : Memref sig .tc .vmem S8x384x128 .f32) (harg11 : arg11.IsWhole) (arg12 : Memref sig .tc .vmem S8x128x128 .f32) (harg12 : arg12.IsWhole) (arg13 : Memref sig .tc .vmem S8x128x384 .fp8e4m3) (harg13 : arg13.IsWhole) (arg14 : Memref sig .tc .vmem S40x128x128 .fp8e4m3) (harg14 : arg14.IsWhole) (arg15 : Memref sig .tc .vmem S8x128 .f32) (harg15 : arg15.IsWhole) (arg16 : Memref sig .tc .vmem S128x128 .i32) (harg16 : arg16.IsWhole) (arg1 : BitVec 32) (v1 : Elt F .i32) (X_arg4 : BufTy.Contents (Elt F) arg4.view.ty) (X_arg10 : BufTy.Contents (Elt F) arg10.view.ty) (X_arg11 : BufTy.Contents (Elt F) arg11.view.ty) (X_arg12 : BufTy.Contents (Elt F) arg12.view.ty) (X_arg13 : BufTy.Contents (Elt F) arg13.view.ty) (X_arg14 : BufTy.Contents (Elt F) arg14.view.ty) (k : Fin k0_t1_loop.trips) :
    (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v1 X_arg4 X_arg10 X_arg11 X_arg12 X_arg13 X_arg14 k).1 = ([4, 3, 2, 1, 0] : List (Fin 5)).map fun r => ⟨Rect.unit (k0_off8 k (BitVec.ofNat 32 r.val)) S1x128x128.size (k0_off8_inb k r),
      attend1 (powers1 (scores1 (k0_pay3 (F := F) arg1 v1)
        (View.readAt (Elt F) arg4.view (Rect.unit (s := S1x8x384x128) (k0_off2 k) S1x1x128x128.size (k0_off2_inb k)).toLoadRect X_arg4)
        (View.readAt (Elt F) arg14.view (Rect.unit (s := S40x128x128) (k0_off3 k (BitVec.ofNat 32 r.val)) S1x128x128.size (k0_off3_inb k r)).toLoadRect X_arg14)
        (View.readAt (Elt F) arg11.view (Rect.unit (s := S8x384x128) (k0_off4 k) S1x128x128.size (k0_off4_inb k)).toLoadRect X_arg11))
        (View.readAt (Elt F) arg10.view (Rect.unit (s := S1x40x128) (k0_off5 k (BitVec.ofNat 32 r.val)) S1x1x128.size (k0_off5_inb k r)).toLoadRect X_arg10))
        (View.readAt (Elt F) arg13.view (Rect.unit (s := S8x128x384) (k0_off6 k) S1x128x128.size (k0_off6_inb k)).toLoadRect X_arg13)
        (View.readAt (Elt F) arg12.view (Rect.unit (s := S8x128x128) (k0_off7 k) S1x128x128.size (k0_off7_inb k)).toLoadRect X_arg12)⟩ := by
  unfold trip_k0_t1
  rfl

/-- What one trip over 256 live keys stores: the output block of each of the group's five heads. -/
theorem trip2 (𝒱 : Variants) (c : Dev nD) (bd : Option 𝒱.V) (i : grid0.Coords) (arg2 : Memref sig .tc .smem S4 .i32) (harg2 : arg2.IsWhole) (arg3 : Memref sig .tc .vmem S1x128x5120 .bf16) (harg3 : arg3.IsWhole) (arg4 : Memref sig .tc .vmem S1x8x384x128 .fp8e4m3) (harg4 : arg4.IsWhole) (arg5 : Memref sig .tc .vmem S1x8x384 .f32) (harg5 : arg5.IsWhole) (arg6 : Memref sig .tc .vmem S1x8x384x128 .fp8e4m3) (harg6 : arg6.IsWhole) (arg7 : Memref sig .tc .vmem S1x8x128 .f32) (harg7 : arg7.IsWhole) (arg8 : Memref sig .tc .vmem S1x128x5120 .bf16) (harg8 : arg8.IsWhole) (arg9 : Memref sig .tc .vmem S5120x128 .fp8e4m3) (harg9 : arg9.IsWhole) (arg10 : Memref sig .tc .vmem S1x40x128 .f32) (harg10 : arg10.IsWhole) (arg11 : Memref sig .tc .vmem S8x384x128 .f32) (harg11 : arg11.IsWhole) (arg12 : Memref sig .tc .vmem S8x128x128 .f32) (harg12 : arg12.IsWhole) (arg13 : Memref sig .tc .vmem S8x128x384 .fp8e4m3) (harg13 : arg13.IsWhole) (arg14 : Memref sig .tc .vmem S40x128x128 .fp8e4m3) (harg14 : arg14.IsWhole) (arg15 : Memref sig .tc .vmem S8x128 .f32) (harg15 : arg15.IsWhole) (arg16 : Memref sig .tc .vmem S128x128 .i32) (harg16 : arg16.IsWhole) (arg1 : BitVec 32) (v1 : Elt F .i32) (X_arg4 : BufTy.Contents (Elt F) arg4.view.ty) (X_arg10 : BufTy.Contents (Elt F) arg10.view.ty) (X_arg11 : BufTy.Contents (Elt F) arg11.view.ty) (X_arg12 : BufTy.Contents (Elt F) arg12.view.ty) (X_arg13 : BufTy.Contents (Elt F) arg13.view.ty) (X_arg14 : BufTy.Contents (Elt F) arg14.view.ty) (k : Fin k0_t2_loop.trips) :
    (trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v1 X_arg4 X_arg10 X_arg11 X_arg12 X_arg13 X_arg14 k).1 = ([4, 3, 2, 1, 0] : List (Fin 5)).map fun r => ⟨Rect.unit (k0_off15 k (BitVec.ofNat 32 r.val)) S1x128x128.size (k0_off15_inb k r),
      attend2 (powers2 (scores2 (k0_pay5 (F := F) arg1 v1)
        (View.readAt (Elt F) arg4.view (Rect.unit (s := S1x8x384x128) (k0_off9 k) S1x1x256x128.size (k0_off9_inb k)).toLoadRect X_arg4)
        (View.readAt (Elt F) arg14.view (Rect.unit (s := S40x128x128) (k0_off10 k (BitVec.ofNat 32 r.val)) S1x128x128.size (k0_off10_inb k r)).toLoadRect X_arg14)
        (View.readAt (Elt F) arg11.view (Rect.unit (s := S8x384x128) (k0_off11 k) S1x256x128.size (k0_off11_inb k)).toLoadRect X_arg11))
        (View.readAt (Elt F) arg10.view (Rect.unit (s := S1x40x128) (k0_off12 k (BitVec.ofNat 32 r.val)) S1x1x128.size (k0_off12_inb k r)).toLoadRect X_arg10))
        (View.readAt (Elt F) arg13.view (Rect.unit (s := S8x128x384) (k0_off13 k) S1x128x256.size (k0_off13_inb k)).toLoadRect X_arg13)
        (View.readAt (Elt F) arg12.view (Rect.unit (s := S8x128x128) (k0_off14 k) S1x128x128.size (k0_off14_inb k)).toLoadRect X_arg12)⟩ := by
  unfold trip_k0_t2
  rfl

/-- What one trip over 384 live keys stores: the output block of each of the group's five heads. -/
theorem trip3 (𝒱 : Variants) (c : Dev nD) (bd : Option 𝒱.V) (i : grid0.Coords) (arg2 : Memref sig .tc .smem S4 .i32) (harg2 : arg2.IsWhole) (arg3 : Memref sig .tc .vmem S1x128x5120 .bf16) (harg3 : arg3.IsWhole) (arg4 : Memref sig .tc .vmem S1x8x384x128 .fp8e4m3) (harg4 : arg4.IsWhole) (arg5 : Memref sig .tc .vmem S1x8x384 .f32) (harg5 : arg5.IsWhole) (arg6 : Memref sig .tc .vmem S1x8x384x128 .fp8e4m3) (harg6 : arg6.IsWhole) (arg7 : Memref sig .tc .vmem S1x8x128 .f32) (harg7 : arg7.IsWhole) (arg8 : Memref sig .tc .vmem S1x128x5120 .bf16) (harg8 : arg8.IsWhole) (arg9 : Memref sig .tc .vmem S5120x128 .fp8e4m3) (harg9 : arg9.IsWhole) (arg10 : Memref sig .tc .vmem S1x40x128 .f32) (harg10 : arg10.IsWhole) (arg11 : Memref sig .tc .vmem S8x384x128 .f32) (harg11 : arg11.IsWhole) (arg12 : Memref sig .tc .vmem S8x128x128 .f32) (harg12 : arg12.IsWhole) (arg13 : Memref sig .tc .vmem S8x128x384 .fp8e4m3) (harg13 : arg13.IsWhole) (arg14 : Memref sig .tc .vmem S40x128x128 .fp8e4m3) (harg14 : arg14.IsWhole) (arg15 : Memref sig .tc .vmem S8x128 .f32) (harg15 : arg15.IsWhole) (arg16 : Memref sig .tc .vmem S128x128 .i32) (harg16 : arg16.IsWhole) (arg1 : BitVec 32) (v1 : Elt F .i32) (X_arg4 : BufTy.Contents (Elt F) arg4.view.ty) (X_arg10 : BufTy.Contents (Elt F) arg10.view.ty) (X_arg11 : BufTy.Contents (Elt F) arg11.view.ty) (X_arg12 : BufTy.Contents (Elt F) arg12.view.ty) (X_arg13 : BufTy.Contents (Elt F) arg13.view.ty) (X_arg14 : BufTy.Contents (Elt F) arg14.view.ty) (k : Fin k0_t3_loop.trips) :
    (trip_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v1 X_arg4 X_arg10 X_arg11 X_arg12 X_arg13 X_arg14 k).1 = ([4, 3, 2, 1, 0] : List (Fin 5)).map fun r => ⟨Rect.unit (k0_off22 k (BitVec.ofNat 32 r.val)) S1x128x128.size (k0_off22_inb k r),
      attend3 (powers3 (scores3 (k0_pay7 (F := F) arg1 v1)
        (View.readAt (Elt F) arg4.view (Rect.unit (s := S1x8x384x128) (k0_off16 k) S1x1x384x128.size (k0_off16_inb k)).toLoadRect X_arg4)
        (View.readAt (Elt F) arg14.view (Rect.unit (s := S40x128x128) (k0_off17 k (BitVec.ofNat 32 r.val)) S1x128x128.size (k0_off17_inb k r)).toLoadRect X_arg14)
        (View.readAt (Elt F) arg11.view (Rect.unit (s := S8x384x128) (k0_off18 k) S1x384x128.size (k0_off18_inb k)).toLoadRect X_arg11))
        (View.readAt (Elt F) arg10.view (Rect.unit (s := S1x40x128) (k0_off19 k (BitVec.ofNat 32 r.val)) S1x1x128.size (k0_off19_inb k r)).toLoadRect X_arg10))
        (View.readAt (Elt F) arg13.view (Rect.unit (s := S8x128x384) (k0_off20 k) S1x128x384.size (k0_off20_inb k)).toLoadRect X_arg13)
        (View.readAt (Elt F) arg12.view (Rect.unit (s := S8x128x128) (k0_off21 k) S1x128x128.size (k0_off21_inb k)).toLoadRect X_arg12)⟩ := by
  unfold trip_k0_t3
  rfl

end Cert.KernelIdeal.Run
end
-- ==== Proof.IVals.lean ====
module

public import proofs.«01_k».proof.Proof.Spec
public import proofs.«01_k».proof.Proof.IPieces
public import proofs.«01_k».proof.Proof.ITrips

/-
  What the kernel's stored vectors hold, index by index, at the extended reals.
-/

@[expose] public section

noncomputable section
namespace Cert.KernelIdeal.Run
open Cert.KernelIdeal Cert.KernelIdeal.Gen Cert.Attn
open Idealize.ShloMosaic

theorem log2e_eq : (Named.named κ "log2e" 0x3FB8AA3B#32 : Ideal .f32) = (((Real.log 2)⁻¹ : ℝ) : EReal) := rfl
theorem sm_log2e_eq : (Named.named κ "sm_scale_log2e" 0x3E0293EE#32 : Ideal .f32) = (((Real.sqrt 128)⁻¹ * (Real.log 2)⁻¹ : ℝ) : EReal) := rfl

/-- The kernel's exponent word of a column is that of the column's largest absolute value. -/
theorem pay377_apply (w : FVec Ideal S1x128x128 .bf16) (p : Fin 128) : k0_pay377 (F := Ideal) (k0_pay376 w) (ix2 0 p) = kexp (amax fun j => w (ix3 0 p j)) := by
  have e : (Finset.univ.fold max (Ideal.ofBits FTy.bf16 0xFF80#16) fun x => k0_pay376 (F := Ideal) w (ix2 x p)) = amax fun j => w (ix3 0 p j) := by
    rw [bot_bf16_eq]
    unfold amax top
    refine congrArg (fun f => Finset.univ.fold max ⊥ f) (funext fun j => ?_)
    pointwise [k0_pay376, k0_pay375]
    rfl
  rw [← e]
  generalize k0_pay376 (F := Ideal) w = v
  pointwise [k0_pay377]
  rfl

theorem pay375_apply (w : FVec Ideal S1x128x128 .bf16) (p j : Fin 128) : k0_pay375 (F := Ideal) w (ix2 j p) = w (ix3 0 p j) := by
  pointwise [k0_pay375]

/-- The scale of a row, as the kernel makes it. -/
theorem scale_apply (w : FVec Ideal S1x128x128 .bf16) (p : Fin 128) : k0_pay380 (F := Ideal) (k0_pay378 (k0_pay376 w)) (ix3 0 0 p) = pow2 (kexp (amax fun j => w (ix3 0 p j))) := by
  rw [← pay377_apply]
  generalize k0_pay376 (F := Ideal) w = v
  pointwise [k0_pay380, k0_pay378]
  rfl

/-- A row's codes, as the kernel makes them. -/
theorem code_apply (w : FVec Ideal S1x128x128 .bf16) (p j : Fin 128) : k0_pay1 (F := Ideal) (k0_pay379 (k0_pay375 w) (k0_pay376 w)) (ix3 0 j p) =
    min (Ideal.ofBits .f32 0x43E00000#32) (max (Ideal.ofBits .f32 0xC3E00000#32) (w (ix3 0 p j) * pow2 (IntOp.subi 0#32 (kexp (amax fun j => w (ix3 0 p j)))))) := by
  rw [← pay377_apply, ← pay375_apply w p j]
  generalize k0_pay376 (F := Ideal) w = v
  generalize k0_pay375 (F := Ideal) w = u
  pointwise [k0_pay1, k0_pay379]
  rfl

/-- The codes written out are the transposed codes, row by row. -/
theorem pay2_apply (v : FVec Ideal S40x128x128 .fp8e4m3) (h : Fin 40) (p j : Fin 128) (n : Fin 5120) (hn : n.val = p.val * 40 + h.val) : k0_pay2 (F := Ideal) v (ix2 n j) = v (ix3 h j p) := by
  pointwise [k0_pay2]
  rw [show (⟨n.val % 40, by omega⟩ : Fin 40) = h from Fin.ext (by show n.val % 40 = h.val; omega),
    show (⟨n.val / 40, by omega⟩ : Fin 128) = p from Fin.ext (by show n.val / 40 = p.val; omega)]

theorem pay10_apply (v : FVec Ideal S1x1x384 .f32) (p j : Fin 128) : k0_pay10 (F := Ideal) v (ix3 0 p j) = v (ix3 0 0 ⟨128 * 0 + p.val, by omega⟩) * (((Real.sqrt 128)⁻¹ * (Real.log 2)⁻¹ : ℝ) : EReal) := by
  rw [← sm_log2e_eq]
  pointwise [k0_pay10, k0_pay9]
theorem pay11_apply (v : FVec Ideal S1x1x384 .f32) (p j : Fin 128) : k0_pay11 (F := Ideal) v (ix3 0 p j) = v (ix3 0 0 ⟨128 * 1 + p.val, by omega⟩) * (((Real.sqrt 128)⁻¹ * (Real.log 2)⁻¹ : ℝ) : EReal) := by
  rw [← sm_log2e_eq]
  pointwise [k0_pay11, k0_pay9]
theorem pay12_apply (v : FVec Ideal S1x1x384 .f32) (p j : Fin 128) : k0_pay12 (F := Ideal) v (ix3 0 p j) = v (ix3 0 0 ⟨128 * 2 + p.val, by omega⟩) * (((Real.sqrt 128)⁻¹ * (Real.log 2)⁻¹ : ℝ) : EReal) := by
  rw [← sm_log2e_eq]
  pointwise [k0_pay12, k0_pay9]
theorem pay13_apply (v : FVec Ideal S1x1x128 .f32) (p j : Fin 128) : k0_pay13 (F := Ideal) v (ix3 0 p j) = v (ix3 0 0 p) := by
  pointwise [k0_pay13]
theorem pay14_apply (v : FVec Ideal S1x1x128x128 .fp8e4m3) (p j : Fin 128) : k0_pay14 (F := Ideal) v (ix3 0 p j) = v (ix4 0 0 j p) := by
  pointwise [k0_pay14]

/-! ### The stores of the prologue, read back -/

/-- An index of a unit-stride rectangle in a shape of three axes. -/
theorem emb3 {n0 n1 n2 m0 m1 m2 a b c : ℕ} (inb) (x : Fin m0) (y : Fin m1) (z : Fin m2) (u : Fin n0) (v : Fin n1) (w : Fin n2)
    (hu : u.val = a + x.val) (hv : v.val = b + y.val) (hw : w.val = c + z.val) :
    (Rect.unit (s := (⟨3, ![n0, n1, n2]⟩ : Shape)) ![a, b, c] ![m0, m1, m2] inb).emb (ix3 x y z) = ix3 u v w := by
  funext k
  apply Fin.ext
  match k with
  | ⟨0, _⟩ => show a + 1 * x.val = u.val; omega
  | ⟨1, _⟩ => show b + 1 * y.val = v.val; omega
  | ⟨2, _⟩ => show c + 1 * z.val = w.val; omega

/-- An index of a unit-stride rectangle in a shape of four axes. -/
theorem emb4 {n0 n1 n2 n3 m0 m1 m2 m3 a b c d : ℕ} (inb) (x : Fin m0) (y : Fin m1) (z : Fin m2) (o : Fin m3) (u : Fin n0) (v : Fin n1) (w : Fin n2) (q : Fin n3)
    (hu : u.val = a + x.val) (hv : v.val = b + y.val) (hw : w.val = c + z.val) (hq : q.val = d + o.val) :
    (Rect.unit (s := (⟨4, ![n0, n1, n2, n3]⟩ : Shape)) ![a, b, c, d] ![m0, m1, m2, m3] inb).emb (ix4 x y z o) = ix4 u v w q := by
  funext k
  apply Fin.ext
  match k with
  | ⟨0, _⟩ => show a + 1 * x.val = u.val; omega
  | ⟨1, _⟩ => show b + 1 * y.val = v.val; omega
  | ⟨2, _⟩ => show c + 1 * z.val = w.val; omega
  | ⟨3, _⟩ => show d + 1 * o.val = q.val; omega

/-- An index of a unit-stride rectangle in a shape of three axes, where it lies. -/
theorem mem3 {n0 n1 n2 m0 m1 m2 a b c : ℕ} (inb) (u : Fin n0) (v : Fin n1) (w : Fin n2)
    (hu : a ≤ u.val ∧ u.val < a + m0) (hv : b ≤ v.val ∧ v.val < b + m1) (hw : c ≤ w.val ∧ w.val < c + m2) :
    ix3 u v w ∈ (Rect.unit (s := (⟨3, ![n0, n1, n2]⟩ : Shape)) ![a, b, c] ![m0, m1, m2] inb).set := by
  rw [Rect.mem_set_unit]
  intro k
  match k with
  | ⟨0, _⟩ => exact hu
  | ⟨1, _⟩ => exact hv
  | ⟨2, _⟩ => exact hw

section
variable (arg3 : Memref sig .tc .vmem S1x128x5120 .bf16) (X3 : BufTy.Contents (Elt Ideal) arg3.view.ty) (W : Fin 128 → Fin 5120 → EReal)
  (hW : ∀ p c, arg3.view.read (Elt Ideal) X3 (ix3 0 p c) = W p c)
include hW

theorem xw_apply (h : Fin 40) (p j : Fin 128) : xw arg3 X3 h (ix3 0 p j) = W p (col h j) := by
  rw [← hW]
  unfold xw
  rw [View.readAt_apply]
  exact congrArg _ (emb3 (inb_x h) 0 p j 0 p (col h j) rfl (Nat.zero_add _).symm (by show h.val * 128 + j.val = 128 * h.val + j.val; omega))

/-- The scales read back. -/
theorem scale_read {sp : Space} (v : View sig .tc sp S1x40x128 .f32) (f : v.ty.Contents (Elt Ideal)) (h : Fin 40) (p : Fin 128) :
    v.read (Elt Ideal) (v.writes (Elt Ideal) f (scalePieces arg3 X3)) (ix3 0 h p) = pow2 (kexp (amax fun j => W p (col h j))) := by
  refine View.read_writes_apply_of_pieces (v := v) (f := f) (fun i => pow2 (kexp (amax fun j => W (i 2) (col (i 1) j)))) _ (fun q hq x => ?_) _ ?_
  · obtain ⟨h', _, rfl⟩ := List.mem_map.1 hq
    obtain ⟨a, b, p', rfl⟩ : ∃ (a : Fin 1) (b : Fin 1) (p' : Fin 128), x = ix3 a b p' := ⟨x 0, x 1, x 2, eq_ix3 x⟩
    obtain rfl : a = 0 := Subsingleton.elim _ _
    obtain rfl : b = 0 := Subsingleton.elim _ _
    rw [emb3 (inb_s h') 0 0 p' 0 h' p' rfl rfl (Nat.zero_add _).symm]
    refine (scale_apply _ p').trans ?_
    simp only [xw_apply arg3 X3 W hW]
    rfl
  · exact ⟨_, List.mem_map.2 ⟨h, by simp, rfl⟩, mem3 (inb_s h) _ _ _ ⟨le_refl _, by simp⟩ ⟨le_refl _, by simp⟩ ⟨Nat.zero_le _, by omega⟩⟩

/-- The transposed codes read back. -/
theorem code_read {sp : Space} (v : View sig .tc sp S40x128x128 .fp8e4m3) (f : v.ty.Contents (Elt Ideal)) (h : Fin 40) (j p : Fin 128) :
    v.read (Elt Ideal) (v.writes (Elt Ideal) f (codePieces arg3 X3)) (ix3 h j p) =
      min (Ideal.ofBits .f32 0x43E00000#32) (max (Ideal.ofBits .f32 0xC3E00000#32) (W p (col h j) * pow2 (IntOp.subi 0#32 (kexp (amax fun j => W p (col h j)))))) := by
  refine View.read_writes_apply_of_pieces (v := v) (f := f) (fun i => min (Ideal.ofBits .f32 0x43E00000#32) (max (Ideal.ofBits .f32 0xC3E00000#32) (W (i 2) (col (i 0) (i 1)) * pow2 (IntOp.subi 0#32 (kexp (amax fun j => W (i 2) (col (i 0) j))))))) _ (fun q hq x => ?_) _ ?_
  · obtain ⟨h', _, rfl⟩ := List.mem_map.1 hq
    obtain ⟨a, b, p', rfl⟩ : ∃ (a : Fin 1) (b : Fin 128) (p' : Fin 128), x = ix3 a b p' := ⟨x 0, x 1, x 2, eq_ix3 x⟩
    obtain rfl : a = 0 := Subsingleton.elim _ _
    rw [emb3 (inb_q h') 0 b p' h' b p' rfl (Nat.zero_add _).symm (Nat.zero_add _).symm]
    refine (code_apply _ p' b).trans ?_
    simp only [xw_apply arg3 X3 W hW]
    rfl
  · exact ⟨_, List.mem_map.2 ⟨h, by simp, rfl⟩, mem3 (inb_q h) _ _ _ ⟨le_refl _, by simp⟩ ⟨Nat.zero_le _, by omega⟩ ⟨Nat.zero_le _, by omega⟩⟩
end

/-- The key scales read back. -/
theorem ksc_read (arg5 : Memref sig .tc .vmem S1x8x384 .f32) (X5 : BufTy.Contents (Elt Ideal) arg5.view.ty) (W : Fin 8 → Fin 384 → EReal)
    (hW : ∀ g k, arg5.view.read (Elt Ideal) X5 (ix3 0 g k) = W g k) {sp : Space} (v : View sig .tc sp S8x384x128 .f32) (f : v.ty.Contents (Elt Ideal)) (g : Fin 8) (k : Fin 384) (p : Fin 128) :
    v.read (Elt Ideal) (v.writes (Elt Ideal) f (kscPieces arg5 X5)) (ix3 g k p) = W g k * (((Real.sqrt 128)⁻¹ * (Real.log 2)⁻¹ : ℝ) : EReal) := by
  have hr : ∀ g k, krow arg5 X5 g (ix3 0 0 k) = W g k := fun g k => by
    rw [← hW]
    unfold krow
    rw [View.readAt_apply]
    exact congrArg _ (emb3 (inb_k g) 0 0 k 0 g k rfl rfl (Nat.zero_add _).symm)
  refine View.read_writes_apply_of_pieces (v := v) (f := f) (fun i => W (i 0) (i 1) * (((Real.sqrt 128)⁻¹ * (Real.log 2)⁻¹ : ℝ) : EReal)) _ (fun q hq x => ?_) _ ?_
  · obtain ⟨g', _, hq⟩ := List.mem_flatMap.1 hq
    simp only [List.mem_cons, List.not_mem_nil, or_false] at hq
    rcases hq with rfl | rfl | rfl
    all_goals
      obtain ⟨a, b, p', rfl⟩ : ∃ (a : Fin 1) (b : Fin 128) (p' : Fin 128), x = ix3 a b p' := ⟨x 0, x 1, x 2, eq_ix3 x⟩
      obtain rfl : a = 0 := Subsingleton.elim _ _
    · rw [emb3 (inb_kc g' 2) 0 b p' g' ⟨128 * 2 + b.val, by omega⟩ p' rfl rfl (Nat.zero_add _).symm]
      refine (pay12_apply _ b p').trans ?_
      rw [hr]; rfl
    · rw [emb3 (inb_kc g' 1) 0 b p' g' ⟨128 * 1 + b.val, by omega⟩ p' rfl rfl (Nat.zero_add _).symm]
      refine (pay11_apply _ b p').trans ?_
      rw [hr]; rfl
    · rw [emb3 (inb_kc g' 0) 0 b p' g' ⟨128 * 0 + b.val, by omega⟩ p' rfl rfl (Nat.zero_add _).symm]
      refine (pay10_apply _ b p').trans ?_
      rw [hr]; rfl
  · rcases (show k.val / 128 = 0 ∨ k.val / 128 = 1 ∨ k.val / 128 = 2 by omega) with hk | hk | hk
    · exact ⟨_, List.mem_flatMap.2 ⟨g, by simp, .tail _ (.tail _ (.head _))⟩, mem3 (inb_kc g 0) _ _ _ ⟨le_refl _, by simp⟩ ⟨show 128 * 0 ≤ k.val by omega, show k.val < 128 * 0 + 128 by omega⟩ ⟨Nat.zero_le _, by omega⟩⟩
    · exact ⟨_, List.mem_flatMap.2 ⟨g, by simp, .tail _ (.head _)⟩, mem3 (inb_kc g 1) _ _ _ ⟨le_refl _, by simp⟩ ⟨show 128 * 1 ≤ k.val by omega, show k.val < 128 * 1 + 128 by omega⟩ ⟨Nat.zero_le _, by omega⟩⟩
    · exact ⟨_, List.mem_flatMap.2 ⟨g, by simp, .head _⟩, mem3 (inb_kc g 2) _ _ _ ⟨le_refl _, by simp⟩ ⟨show 128 * 2 ≤ k.val by omega, show k.val < 128 * 2 + 128 by omega⟩ ⟨Nat.zero_le _, by omega⟩⟩

/-- The value scales read back. -/
theorem vsc_read (arg7 : Memref sig .tc .vmem S1x8x128 .f32) (X7 : BufTy.Contents (Elt Ideal) arg7.view.ty) (W : Fin 8 → Fin 128 → EReal)
    (hW : ∀ g d, arg7.view.read (Elt Ideal) X7 (ix3 0 g d) = W g d) {sp : Space} (v : View sig .tc sp S8x128x128 .f32) (f : v.ty.Contents (Elt Ideal)) (g : Fin 8) (d p : Fin 128) :
    v.read (Elt Ideal) (v.writes (Elt Ideal) f (vscPieces arg7 X7)) (ix3 g d p) = W g d := by
  have hr : ∀ g k, vrow arg7 X7 g (ix3 0 0 k) = W g k := fun g k => by
    rw [← hW]
    unfold vrow
    rw [View.readAt_apply]
    exact congrArg _ (emb3 (inb_vr g) 0 0 k 0 g k rfl rfl (Nat.zero_add _).symm)
  refine View.read_writes_apply_of_pieces (v := v) (f := f) (fun i => W (i 0) (i 1)) _ (fun q hq x => ?_) _ ?_
  · obtain ⟨g', _, rfl⟩ := List.mem_map.1 hq
    obtain ⟨a, b, p', rfl⟩ : ∃ (a : Fin 1) (b : Fin 128) (p' : Fin 128), x = ix3 a b p' := ⟨x 0, x 1, x 2, eq_ix3 x⟩
    obtain rfl : a = 0 := Subsingleton.elim _ _
    rw [emb3 (inb_vc g') 0 b p' g' b p' rfl (Nat.zero_add _).symm (Nat.zero_add _).symm]
    show k0_pay13 (F := Ideal) (vrow arg7 X7 g') (ix3 0 b p') = W g' b
    rw [pay13_apply, hr]
  · exact ⟨_, List.mem_map.2 ⟨g, by simp, rfl⟩, mem3 (inb_vc g) _ _ _ ⟨le_refl _, by simp⟩ ⟨Nat.zero_le _, by omega⟩ ⟨Nat.zero_le _, by omega⟩⟩

/-- The transposed values read back. -/
theorem vt_read (arg6 : Memref sig .tc .vmem S1x8x384x128 .fp8e4m3) (X6 : BufTy.Contents (Elt Ideal) arg6.view.ty) (W : Fin 8 → Fin 384 → Fin 128 → EReal)
    (hW : ∀ g k d, arg6.view.read (Elt Ideal) X6 (ix4 0 g k d) = W g k d) {sp : Space} (v : View sig .tc sp S8x128x384 .fp8e4m3) (f : v.ty.Contents (Elt Ideal)) (g : Fin 8) (d : Fin 128) (k : Fin 384) :
    v.read (Elt Ideal) (v.writes (Elt Ideal) f (vtPieces arg6 X6)) (ix3 g d k) = W g k d := by
  have hr : ∀ g (t : Fin 3) (k d : Fin 128), vtile arg6 X6 g t (ix4 0 0 k d) = W g ⟨128 * t.val + k.val, by omega⟩ d := fun g t k d => by
    rw [← hW]
    unfold vtile
    rw [View.readAt_apply]
    exact congrArg _ (emb4 (inb_v g t) 0 0 k d 0 g ⟨128 * t.val + k.val, by omega⟩ d rfl rfl rfl (Nat.zero_add _).symm)
  refine View.read_writes_apply_of_pieces (v := v) (f := f) (fun i => W (i 0) (i 2) (i 1)) _ (fun q hq x => ?_) _ ?_
  · obtain ⟨g', _, hq⟩ := List.mem_flatMap.1 hq
    obtain ⟨t, _, rfl⟩ := List.mem_map.1 hq
    obtain ⟨a, b, p', rfl⟩ : ∃ (a : Fin 1) (b : Fin 128) (p' : Fin 128), x = ix3 a b p' := ⟨x 0, x 1, x 2, eq_ix3 x⟩
    obtain rfl : a = 0 := Subsingleton.elim _ _
    rw [emb3 (inb_vt g' t) 0 b p' g' b ⟨128 * t.val + p'.val, by omega⟩ rfl (Nat.zero_add _).symm rfl]
    show k0_pay14 (F := Ideal) (vtile arg6 X6 g' t) (ix3 0 b p') = W g' ⟨128 * t.val + p'.val, by omega⟩ b
    rw [pay14_apply, hr]
  · refine ⟨_, List.mem_flatMap.2 ⟨g, by simp, List.mem_map.2 ⟨⟨k.val / 128, by omega⟩, ?_, rfl⟩⟩, mem3 (inb_vt g ⟨k.val / 128, by omega⟩) _ _ _ ⟨le_refl _, by simp⟩ ⟨Nat.zero_le _, by omega⟩ ⟨show 128 * (k.val / 128) ≤ k.val by omega, show k.val < 128 * (k.val / 128) + 128 by omega⟩⟩
    rcases (show k.val / 128 = 0 ∨ k.val / 128 = 1 ∨ k.val / 128 = 2 by omega) with hk | hk | hk <;> simp [hk, Fin.ext_iff]

end Cert.KernelIdeal.Run
end
-- ==== Proof.IAttn.lean ====
module

public import proofs.«01_k».proof.Proof.IMask
public import proofs.«01_k».proof.Proof.IVals

/-
  One head's output block, index by index, at the extended reals.
-/

@[expose] public section

noncomputable section
namespace Cert.KernelIdeal.Run
open Cert.KernelIdeal Cert.KernelIdeal.Gen Cert.Attn
open Idealize.ShloMosaic

/-- The kernel's score of a query and a key: the products of the codes, over the key's scale and the two constants. -/
def kscore (X : XArr) (K : KArr) (ks : KsArr) (P : PArr) (b : Fin 4) (s : Fin 384) (h : Fin 40) (k : Fin 384) : EReal :=
  Scalar.select (vis (P (ix1 b)) s.val k.val)
    ((∑ j, K (ix4 b (kvh h) k j) * codeAt X b s h j) * (ks (ix3 b (kvh h) k) * (((Real.sqrt 128)⁻¹ * (Real.log 2)⁻¹ : ℝ) : EReal))) ⊥

/-- A selection by a set bit. -/
theorem sel_one (a b : EReal) : Scalar.select 1#1 a b = a := rfl
/-- A selection by a clear bit. -/
theorem sel_zero (a b : EReal) : Scalar.select 0#1 a b = b := rfl

/-- The kernel's attention over the live keys is the attention over all of them. -/
theorem kattn_outAt {N : ℕ} (hN : N ≤ 384) (X : XArr) (K : KArr) (ks : KsArr) (Vv : KArr) (vs : VsArr) (P : PArr) (b : Fin 4) (s : Fin 384) (h : Fin 40) (d : Fin 128)
    (hn : Normal (rowMax X b s h)) (t V' : Fin N → EReal) (hdead : ∀ k : Fin 384, N ≤ k.val → vis (P (ix1 b)) s.val k.val = 0#1)
    (ht : ∀ k : Fin N, t k = kscore X K ks P b s h (k.castLE hN))
    (hV : ∀ k : Fin N, V' k = Vv (ix4 b (kvh h) (k.castLE hN) d)) :
    kattn t V' (scaleAt X b s h) (vs (ix3 b (kvh h) d)) = outAt X K ks Vv vs P b s h d := by
  obtain ⟨q, hq, e⟩ := scale_pos hn
  have e' : scaleAt X b s h = (q : EReal) := e
  unfold outAt
  rw [e']
  refine kattn_eq hN _ _ t V' _ hq (fun k hk => ?_) (fun k => ?_) hV
  · unfold score
    rw [hdead k hk]
    rfl
  · rw [ht]
    unfold score kscore
    rw [e']
    rcases BitVec.eq_zero_or_eq_one (vis (P (ix1 b)) s.val (k.castLE hN).val) with hv | hv
    · rw [hv, sel_zero, sel_zero, EReal.bot_mul_coe_of_pos hq, EReal.bot_mul_coe_of_pos (inv_pos.2 (Real.log_pos one_lt_two))]
    · rw [hv, sel_one, sel_one]
      simp only [EReal.coe_mul, mul_comm (K _)]
      generalize (∑ j, codeAt X b s h j * K (ix4 b (kvh h) (k.castLE hN) j)) = A
      generalize ks _ = B
      generalize (((Real.sqrt 128)⁻¹ : ℝ) : EReal) = C
      generalize (((Real.log 2)⁻¹ : ℝ) : EReal) = D
      ac_rfl

/-- A sum of words of numbers is the word of the sum. -/
theorem addi_ofNat (a c : ℕ) : Scalar.addi (BitVec.ofNat 32 a) (BitVec.ofNat 32 c) = BitVec.ofNat 32 (a + c) := (BitVec.ofNat_add ..).symm

/-- A query's position as a word. -/
theorem qpos_word (q : Fin 3) (p : Fin 128) : Scalar.addi (Scalar.muli (BitVec.ofNat 32 q.val) 128#32) (BitVec.ofNat 32 p.val) = BitVec.ofNat 32 (q.val * 128 + p.val) := by
  rw [← addi_ofNat]
  congr 1
  revert q; decide

/-- The mask of the last of 1 live key tiles. -/
theorem mask1_apply (q : Fin 3) (v1 : BitVec 32) (k p : Fin 128) : k0_pay3 (F := Ideal) (BitVec.ofNat 32 q.val) v1 (ix2 k p) = vis v1 (q.val * 128 + p.val) (0 + k.val) := by
  unfold vis
  rw [← qpos_word, ← addi_ofNat]
  pointwise [k0_pay3]
  rfl

/-- A score over 128 live keys. -/
theorem scores1_apply (vis : IVec S128x128 1) (kk : Vec Ideal S1x1x128x128 .fp8e4m3) (qq : Vec Ideal S1x128x128 .fp8e4m3) (ksc : Vec Ideal S1x128x128 .f32) (k : Fin 128) (p : Fin 128) :
    scores1 (F := Ideal) vis kk qq ksc (ix2 k p) =
      Scalar.select (vis (ix2 k p)) ((∑ x, kk (ix4 0 0 k x) * qq (ix3 0 x p)) * ksc (ix3 0 k p)) ⊥ := by
  rw [← bot_eq]
  pointwise [scores1]

/-- The powers over 128 live keys. -/
theorem powers1_apply (t : FVec Ideal S128x128 .f32) (qs : Vec Ideal S1x1x128 .f32) (k : Fin 128) (p : Fin 128) :
    powers1 (F := Ideal) t qs (ix2 k p) = pow (fun k => t (ix2 k p)) (qs (ix3 0 0 p)) k := by
  unfold pow top
  rw [← c8_eq, ← bot_eq]
  pointwise [powers1]
  rfl

/-- A head's output over 128 live keys. -/
theorem attend1_apply (t : FVec Ideal S128x128 .f32) (qs : Vec Ideal S1x1x128 .f32) (vt : Vec Ideal S1x128x128 .fp8e4m3) (vs : Vec Ideal S1x128x128 .f32) (p d : Fin 128) :
    attend1 (F := Ideal) (powers1 t qs) vt vs (ix3 0 p d) = kattn (fun k => t (ix2 k p)) (fun k => vt (ix3 0 d k)) (qs (ix3 0 0 p)) (vs (ix3 0 d p)) := by
  unfold kattn
  simp only [← powers1_apply]
  rw [← c448_eq]
  generalize powers1 (F := Ideal) t qs = e
  pointwise [attend1]

/-- The mask of the last of 2 live key tiles. -/
theorem mask2_apply (q : Fin 3) (v1 : BitVec 32) (k p : Fin 128) : k0_pay5 (F := Ideal) (BitVec.ofNat 32 q.val) v1 (ix2 k p) = vis v1 (q.val * 128 + p.val) (128 + k.val) := by
  unfold vis
  rw [← qpos_word, ← addi_ofNat]
  pointwise [k0_pay5]
  rfl

/-- A score over 256 live keys. -/
theorem scores2_apply (vis : IVec S128x128 1) (kk : Vec Ideal S1x1x256x128 .fp8e4m3) (qq : Vec Ideal S1x128x128 .fp8e4m3) (ksc : Vec Ideal S1x256x128 .f32) (k : Fin 256) (p : Fin 128) :
    scores2 (F := Ideal) vis kk qq ksc (ix2 k p) =
      if h : k.val < 128 then (∑ x, kk (ix4 0 0 k x) * qq (ix3 0 x p)) * ksc (ix3 0 k p) else Scalar.select (vis (ix2 ⟨k.val - 128, by omega⟩ p)) ((∑ x, kk (ix4 0 0 k x) * qq (ix3 0 x p)) * ksc (ix3 0 k p)) ⊥ := by
  rw [← bot_eq]
  pointwise [scores2]
  split
  · rfl
  · rw [show (⟨128 + (k.val - 128), by omega⟩ : Fin 256) = k from Fin.ext (by show 128 + (k.val - 128) = k.val; omega)]

/-- The powers over 256 live keys. -/
theorem powers2_apply (t : FVec Ideal S256x128 .f32) (qs : Vec Ideal S1x1x128 .f32) (k : Fin 256) (p : Fin 128) :
    powers2 (F := Ideal) t qs (ix2 k p) = pow (fun k => t (ix2 k p)) (qs (ix3 0 0 p)) k := by
  unfold pow top
  rw [← c8_eq, ← bot_eq]
  pointwise [powers2]
  rfl

/-- A head's output over 256 live keys. -/
theorem attend2_apply (t : FVec Ideal S256x128 .f32) (qs : Vec Ideal S1x1x128 .f32) (vt : Vec Ideal S1x128x256 .fp8e4m3) (vs : Vec Ideal S1x128x128 .f32) (p d : Fin 128) :
    attend2 (F := Ideal) (powers2 t qs) vt vs (ix3 0 p d) = kattn (fun k => t (ix2 k p)) (fun k => vt (ix3 0 d k)) (qs (ix3 0 0 p)) (vs (ix3 0 d p)) := by
  unfold kattn
  simp only [← powers2_apply]
  rw [← c448_eq]
  generalize powers2 (F := Ideal) t qs = e
  pointwise [attend2]

/-- The mask of the last of 3 live key tiles. -/
theorem mask3_apply (q : Fin 3) (v1 : BitVec 32) (k p : Fin 128) : k0_pay7 (F := Ideal) (BitVec.ofNat 32 q.val) v1 (ix2 k p) = vis v1 (q.val * 128 + p.val) (256 + k.val) := by
  unfold vis
  rw [← qpos_word, ← addi_ofNat]
  pointwise [k0_pay7]
  rfl

/-- A score over 384 live keys. -/
theorem scores3_apply (vis : IVec S128x128 1) (kk : Vec Ideal S1x1x384x128 .fp8e4m3) (qq : Vec Ideal S1x128x128 .fp8e4m3) (ksc : Vec Ideal S1x384x128 .f32) (k : Fin 384) (p : Fin 128) :
    scores3 (F := Ideal) vis kk qq ksc (ix2 k p) =
      if h : k.val < 256 then (∑ x, kk (ix4 0 0 k x) * qq (ix3 0 x p)) * ksc (ix3 0 k p) else Scalar.select (vis (ix2 ⟨k.val - 256, by omega⟩ p)) ((∑ x, kk (ix4 0 0 k x) * qq (ix3 0 x p)) * ksc (ix3 0 k p)) ⊥ := by
  rw [← bot_eq]
  pointwise [scores3]
  split
  · rfl
  · rw [show (⟨256 + (k.val - 256), by omega⟩ : Fin 384) = k from Fin.ext (by show 256 + (k.val - 256) = k.val; omega)]

/-- The powers over 384 live keys. -/
theorem powers3_apply (t : FVec Ideal S384x128 .f32) (qs : Vec Ideal S1x1x128 .f32) (k : Fin 384) (p : Fin 128) :
    powers3 (F := Ideal) t qs (ix2 k p) = pow (fun k => t (ix2 k p)) (qs (ix3 0 0 p)) k := by
  unfold pow top
  rw [← c8_eq, ← bot_eq]
  pointwise [powers3]
  rfl

/-- A head's output over 384 live keys. -/
theorem attend3_apply (t : FVec Ideal S384x128 .f32) (qs : Vec Ideal S1x1x128 .f32) (vt : Vec Ideal S1x128x384 .fp8e4m3) (vs : Vec Ideal S1x128x128 .f32) (p d : Fin 128) :
    attend3 (F := Ideal) (powers3 t qs) vt vs (ix3 0 p d) = kattn (fun k => t (ix2 k p)) (fun k => vt (ix3 0 d k)) (qs (ix3 0 0 p)) (vs (ix3 0 d p)) := by
  unfold kattn
  simp only [← powers3_apply]
  rw [← c448_eq]
  generalize powers3 (F := Ideal) t qs = e
  pointwise [attend3]

end Cert.KernelIdeal.Run
end
-- ==== Proof.IBlock.lean ====
module

public import proofs.«01_k».proof.Proof.IAttn

/-
  The output block, read back after the trips over the key heads.
-/

@[expose] public section
set_option maxRecDepth 16384

noncomputable section
namespace Cert.KernelIdeal.Run
open Cert.KernelIdeal Cert.KernelIdeal.Gen Cert.Attn
open Idealize.ShloMosaic

/-- An index of a rectangle whose offsets are known, three axes. -/
theorem emb3o {n0 n1 n2 m0 m1 m2 a b c : ℕ} {off : Fin 3 → ℕ} (ho : off = ![a, b, c]) (inb) (x : Fin m0) (y : Fin m1) (z : Fin m2) (u : Fin n0) (v : Fin n1) (w : Fin n2)
    (hu : u.val = a + x.val) (hv : v.val = b + y.val) (hw : w.val = c + z.val) :
    (Rect.unit (s := (⟨3, ![n0, n1, n2]⟩ : Shape)) off ![m0, m1, m2] inb).emb (ix3 x y z) = ix3 u v w := by
  subst ho; exact emb3 inb x y z u v w hu hv hw

/-- An index of a rectangle whose offsets are known, four axes. -/
theorem emb4o {n0 n1 n2 n3 m0 m1 m2 m3 a b c d : ℕ} {off : Fin 4 → ℕ} (ho : off = ![a, b, c, d]) (inb) (x : Fin m0) (y : Fin m1) (z : Fin m2) (o : Fin m3) (u : Fin n0) (v : Fin n1) (w : Fin n2) (q : Fin n3)
    (hu : u.val = a + x.val) (hv : v.val = b + y.val) (hw : w.val = c + z.val) (hq : q.val = d + o.val) :
    (Rect.unit (s := (⟨4, ![n0, n1, n2, n3]⟩ : Shape)) off ![m0, m1, m2, m3] inb).emb (ix4 x y z o) = ix4 u v w q := by
  subst ho; exact emb4 inb x y z o u v w q hu hv hw hq

/-- Where a rectangle whose offsets are known lies. -/
theorem mem3o {n0 n1 n2 m0 m1 m2 a b c : ℕ} {off : Fin 3 → ℕ} (ho : off = ![a, b, c]) (inb) (u : Fin n0) (v : Fin n1) (w : Fin n2)
    (hu : a ≤ u.val ∧ u.val < a + m0) (hv : b ≤ v.val ∧ v.val < b + m1) (hw : c ≤ w.val ∧ w.val < c + m2) :
    ix3 u v w ∈ (Rect.unit (s := (⟨3, ![n0, n1, n2]⟩ : Shape)) off ![m0, m1, m2] inb).set := by
  subst ho; exact mem3 inb u v w hu hv hw

/-- Query head `r` of group `k`. -/
def qh (k : Fin 8) (r : Fin 5) : Fin 40 := ⟨5 * k.val + r.val, by omega⟩

theorem kvh_qh (k : Fin 8) (r : Fin 5) : kvh (qh k r) = k := Fin.ext (by show (5 * k.val + r.val) / 5 = k.val; omega)

/-- Query `p` of tile `q`. -/
def qrow (q : Fin 3) (p : Fin 128) : Fin 384 := ⟨q.val * 128 + p.val, by omega⟩

/-- What the trips of a loop wrote: what some trip wrote. -/
theorem mem_trips {α : Type} {n : ℕ} (L : ℕ → List α) (T : Fin n → List α) (h0 : L 0 = []) (hs : ∀ k : Fin n, L (k.val + 1) = T k ++ L k.val) (x : α) :
    x ∈ L n ↔ ∃ k, x ∈ T k := by
  have key : ∀ m, m ≤ n → (x ∈ L m ↔ ∃ k : Fin n, k.val < m ∧ x ∈ T k) := by
    intro m
    induction m with
    | zero => intro _; rw [h0]; simp
    | succ m ih =>
      intro hm
      rw [hs ⟨m, hm⟩, List.mem_append, ih (by omega)]
      constructor
      · rintro (hx | ⟨k, hk, hx⟩)
        · exact ⟨_, Nat.lt_succ_self _, hx⟩
        · exact ⟨k, by omega, hx⟩
      · rintro ⟨k, hk, hx⟩
        by_cases e : k.val = m
        · left; rw [show (⟨m, hm⟩ : Fin n) = k from Fin.ext e.symm]; exact hx
        · right; exact ⟨k, by omega, hx⟩
  rw [key n le_rfl]
  exact ⟨fun ⟨k, _, h⟩ => ⟨k, h⟩, fun ⟨k, h⟩ => ⟨k, k.isLt, h⟩⟩

/-- An output block written head by head, read back: where each head's piece is the value wanted, so is the block. -/
theorem read_heads (arg8 : Memref sig .tc .vmem S1x128x5120 .bf16) (f8 : BufTy.Contents (Elt Ideal) arg8.view.ty) (O : Fin 128 → Fin 40 → Fin 128 → EReal) (L : List (View.Piece (Elt Ideal) S1x128x5120 .bf16))
    (T : Fin 8 → List (View.Piece (Elt Ideal) S1x128x5120 .bf16)) (hL : ∀ x, x ∈ L ↔ ∃ k, x ∈ T k)
    (o : Fin 8 → Fin 5 → Fin 3 → ℕ) (ho : ∀ k r, o k r = ![0, 0, (5 * k.val + r.val) * 128]) (inb : ∀ k r, ∀ a, o k r a + S1x128x128.size a ≤ S1x128x5120.size a)
    (w : Fin 8 → Fin 5 → Vec Ideal S1x128x128 .bf16) (hT : ∀ k, T k = ([4, 3, 2, 1, 0] : List (Fin 5)).map fun r => ⟨Rect.unit (o k r) S1x128x128.size (inb k r), w k r⟩)
    (hw : ∀ k r p d, w k r (ix3 0 p d) = O p (qh k r) d) (p : Fin 128) (h : Fin 40) (d : Fin 128) :
    arg8.view.read (Elt Ideal) (arg8.view.writes (Elt Ideal) f8 L) (ix3 0 p (col h d)) = O p h d := by
  let G : S1x128x5120.Idx → EReal := fun y => O (y 1) ⟨(y 2).val / 128, by have : (y 2).val < 5120 := (y 2).isLt; omega⟩ ⟨(y 2).val % 128, by omega⟩
  have hG : ∀ p h d, G (ix3 0 p (col h d)) = O p h d := by
    intro p h d
    show O p ⟨(h.val * 128 + d.val) / 128, _⟩ ⟨(h.val * 128 + d.val) % 128, _⟩ = _
    congr 1
    · exact Fin.ext (by show (h.val * 128 + d.val) / 128 = h.val; omega)
    · exact Fin.ext (by show (h.val * 128 + d.val) % 128 = d.val; omega)
  rw [← hG]
  refine View.read_writes_apply_of_pieces (v := arg8.view) (f := f8) G _ (fun x hx y => ?_) _ ?_
  · obtain ⟨k, hx⟩ := (hL _).1 hx
    rw [hT] at hx
    obtain ⟨r, -, rfl⟩ := List.mem_map.1 hx
    obtain ⟨a, p, d, rfl⟩ : ∃ (a : Fin 1) (p : Fin 128) (d : Fin 128), y = ix3 a p d := ⟨y 0, y 1, y 2, eq_ix3 y⟩
    obtain rfl : a = 0 := Subsingleton.elim _ _
    rw [emb3o (ho k r) (inb k r) 0 p d 0 p (col (qh k r) d) rfl (Nat.zero_add _).symm rfl, hG]
    exact hw k r p d
  · refine ⟨⟨Rect.unit (o ⟨h.val / 5, by omega⟩ ⟨h.val % 5, by omega⟩) S1x128x128.size (inb _ _), w ⟨h.val / 5, by omega⟩ ⟨h.val % 5, by omega⟩⟩, (hL _).2 ⟨⟨h.val / 5, by omega⟩, ?_⟩, ?_⟩
    · rw [hT]
      exact List.mem_map.2 ⟨⟨h.val % 5, by omega⟩, by rcases (show h.val % 5 = 0 ∨ h.val % 5 = 1 ∨ h.val % 5 = 2 ∨ h.val % 5 = 3 ∨ h.val % 5 = 4 by omega) with hk | hk | hk | hk | hk <;> simp [hk, Fin.ext_iff], rfl⟩
    · exact mem3o (ho _ ⟨h.val % 5, by omega⟩) (inb _ ⟨h.val % 5, by omega⟩) _ _ _ ⟨le_refl _, by simp⟩ ⟨Nat.zero_le _, by omega⟩ ⟨show (5 * (h.val / 5) + h.val % 5) * 128 ≤ h.val * 128 + d.val by omega, show h.val * 128 + d.val < (5 * (h.val / 5) + h.val % 5) * 128 + 128 by omega⟩

/-- Offsets of trip `k`, as numbers. -/
theorem off2_eq : ∀ k : Fin k0_t1_loop.trips, k0_off2 k = ![0, k.val, 0, 0] := by decide

/-- Offsets of trip `k`, head `r`, as numbers. -/
theorem off3_eq : ∀ (k : Fin k0_t1_loop.trips) (r : Fin 5), k0_off3 k (BitVec.ofNat 32 r.val) = ![5 * k.val + r.val, 0, 0] := by decide

/-- Offsets of trip `k`, as numbers. -/
theorem off4_eq : ∀ k : Fin k0_t1_loop.trips, k0_off4 k = ![k.val, 0, 0] := by decide

/-- Offsets of trip `k`, head `r`, as numbers. -/
theorem off5_eq : ∀ (k : Fin k0_t1_loop.trips) (r : Fin 5), k0_off5 k (BitVec.ofNat 32 r.val) = ![0, 5 * k.val + r.val, 0] := by decide

/-- Offsets of trip `k`, as numbers. -/
theorem off6_eq : ∀ k : Fin k0_t1_loop.trips, k0_off6 k = ![k.val, 0, 0] := by decide

/-- Offsets of trip `k`, as numbers. -/
theorem off7_eq : ∀ k : Fin k0_t1_loop.trips, k0_off7 k = ![k.val, 0, 0] := by decide

/-- Offsets of trip `k`, head `r`, as numbers. -/
theorem off8_eq : ∀ (k : Fin k0_t1_loop.trips) (r : Fin 5), k0_off8 k (BitVec.ofNat 32 r.val) = ![0, 0, (5 * k.val + r.val) * 128] := by decide

/-- The trips over 128 live keys, read back: the attention output. -/
theorem block1 (X : XArr) (K : KArr) (ks : KsArr) (Vv : KArr) (vs : VsArr) (P : PArr) (b : Fin 4) (q : Fin 3)
    (hn : ∀ s h, Normal (rowMax X b s h)) (hq : q.val + 1 ≤ 1) (hv1 : (P (ix1 b)).toInt ≤ 128 * 1) (hv2 : 128 * ((1 : ℤ) - 1) < (P (ix1 b)).toInt ∨ q.val + 1 = 1)
    (c : Dev nD) (i : grid0.Coords) (arg2 : Memref sig .tc .smem S4 .i32) (harg2 : arg2.IsWhole) (arg3 : Memref sig .tc .vmem S1x128x5120 .bf16) (harg3 : arg3.IsWhole) (arg4 : Memref sig .tc .vmem S1x8x384x128 .fp8e4m3) (harg4 : arg4.IsWhole) (arg5 : Memref sig .tc .vmem S1x8x384 .f32) (harg5 : arg5.IsWhole) (arg6 : Memref sig .tc .vmem S1x8x384x128 .fp8e4m3) (harg6 : arg6.IsWhole) (arg7 : Memref sig .tc .vmem S1x8x128 .f32) (harg7 : arg7.IsWhole) (arg8 : Memref sig .tc .vmem S1x128x5120 .bf16) (harg8 : arg8.IsWhole) (arg9 : Memref sig .tc .vmem S5120x128 .fp8e4m3) (harg9 : arg9.IsWhole) (arg10 : Memref sig .tc .vmem S1x40x128 .f32) (harg10 : arg10.IsWhole) (arg11 : Memref sig .tc .vmem S8x384x128 .f32) (harg11 : arg11.IsWhole) (arg12 : Memref sig .tc .vmem S8x128x128 .f32) (harg12 : arg12.IsWhole) (arg13 : Memref sig .tc .vmem S8x128x384 .fp8e4m3) (harg13 : arg13.IsWhole) (arg14 : Memref sig .tc .vmem S40x128x128 .fp8e4m3) (harg14 : arg14.IsWhole) (arg15 : Memref sig .tc .vmem S8x128 .f32) (harg15 : arg15.IsWhole) (arg16 : Memref sig .tc .vmem S128x128 .i32) (harg16 : arg16.IsWhole) (X4 : BufTy.Contents (Elt Ideal) arg4.view.ty) (X10 : BufTy.Contents (Elt Ideal) arg10.view.ty) (X11 : BufTy.Contents (Elt Ideal) arg11.view.ty) (X12 : BufTy.Contents (Elt Ideal) arg12.view.ty) (X13 : BufTy.Contents (Elt Ideal) arg13.view.ty) (X14 : BufTy.Contents (Elt Ideal) arg14.view.ty) (f8 : BufTy.Contents (Elt Ideal) arg8.view.ty)
    (h4 : ∀ g k j, arg4.view.read (Elt Ideal) X4 (ix4 0 g k j) = K (ix4 b g k j))
    (h10 : ∀ h p, arg10.view.read (Elt Ideal) X10 (ix3 0 h p) = scaleAt X b (qrow q p) h)
    (h11 : ∀ g k p, arg11.view.read (Elt Ideal) X11 (ix3 g k p) = ks (ix3 b g k) * (((Real.sqrt 128)⁻¹ * (Real.log 2)⁻¹ : ℝ) : EReal))
    (h12 : ∀ g d p, arg12.view.read (Elt Ideal) X12 (ix3 g d p) = vs (ix3 b g d))
    (h13 : ∀ g d k, arg13.view.read (Elt Ideal) X13 (ix3 g d k) = Vv (ix4 b g k d))
    (h14 : ∀ h j p, arg14.view.read (Elt Ideal) X14 (ix3 h j p) = codeAt X b (qrow q p) h j)
    (p : Fin 128) (h : Fin 40) (d : Fin 128) :
    arg8.view.read (Elt Ideal) (arg8.view.writes (Elt Ideal) f8 (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 q.val) (P (ix1 b)) X4 X10 X11 X12 X13 X14 k0_t1_loop.trips)) (ix3 0 p (col h d))
      = outAt X K ks Vv vs P b (qrow q p) h d := by
  refine read_heads arg8 f8 (fun p h d => outAt X K ks Vv vs P b (qrow q p) h d) _ _
    (mem_trips (n := k0_t1_loop.trips) (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 q.val) (P (ix1 b)) X4 X10 X11 X12 X13 X14) _ (pb_k0_t1.eq_1 ..) fun k => pb_k0_t1_succ ..)
    _ off8_eq k0_off8_inb _ (fun k => trip1 ..) (fun k r p d => ?_) p h d
  · have hk : k.val < 8 := k.isLt
    have hkv : kvh (qh ⟨k.val, hk⟩ r) = ⟨k.val, hk⟩ := kvh_qh _ _
    refine (attend1_apply _ _ _ _ p d).trans ?_
    have e4 : ∀ kk j, View.readAt (Elt Ideal) arg4.view (Rect.unit (s := S1x8x384x128) (k0_off2 k) S1x1x128x128.size (k0_off2_inb k)).toLoadRect X4 (ix4 0 0 kk j) = K (ix4 b (kvh (qh ⟨k.val, hk⟩ r)) (kk.castLE (by decide)) j) := fun kk j => by
      rw [hkv, ← h4, View.readAt_apply]
      exact congrArg _ (emb4o (off2_eq k) (k0_off2_inb k) 0 0 kk j 0 ⟨k.val, hk⟩ (kk.castLE (by decide)) j rfl rfl (Nat.zero_add _).symm (Nat.zero_add _).symm)
    have e14 : ∀ j p, View.readAt (Elt Ideal) arg14.view (Rect.unit (s := S40x128x128) (k0_off3 k (BitVec.ofNat 32 r.val)) S1x128x128.size (k0_off3_inb k r)).toLoadRect X14 (ix3 0 j p) = codeAt X b (qrow q p) (qh ⟨k.val, hk⟩ r) j := fun j p => by
      rw [← h14, View.readAt_apply]
      exact congrArg _ (emb3o (off3_eq k r) (k0_off3_inb k r) 0 j p (qh ⟨k.val, hk⟩ r) j p rfl (Nat.zero_add _).symm (Nat.zero_add _).symm)
    have e11 : ∀ kk p, View.readAt (Elt Ideal) arg11.view (Rect.unit (s := S8x384x128) (k0_off4 k) S1x128x128.size (k0_off4_inb k)).toLoadRect X11 (ix3 0 kk p) = ks (ix3 b (kvh (qh ⟨k.val, hk⟩ r)) (kk.castLE (by decide))) * (((Real.sqrt 128)⁻¹ * (Real.log 2)⁻¹ : ℝ) : EReal) := fun kk p => by
      rw [hkv, ← h11 _ _ p, View.readAt_apply]
      exact congrArg _ (emb3o (off4_eq k) (k0_off4_inb k) 0 kk p ⟨k.val, hk⟩ (kk.castLE (by decide)) p rfl (Nat.zero_add _).symm (Nat.zero_add _).symm)
    have e10 : ∀ p, View.readAt (Elt Ideal) arg10.view (Rect.unit (s := S1x40x128) (k0_off5 k (BitVec.ofNat 32 r.val)) S1x1x128.size (k0_off5_inb k r)).toLoadRect X10 (ix3 0 0 p) = scaleAt X b (qrow q p) (qh ⟨k.val, hk⟩ r) := fun p => by
      rw [← h10, View.readAt_apply]
      exact congrArg _ (emb3o (off5_eq k r) (k0_off5_inb k r) 0 0 p 0 (qh ⟨k.val, hk⟩ r) p rfl rfl (Nat.zero_add _).symm)
    have e13 : ∀ d kk, View.readAt (Elt Ideal) arg13.view (Rect.unit (s := S8x128x384) (k0_off6 k) S1x128x128.size (k0_off6_inb k)).toLoadRect X13 (ix3 0 d kk) = Vv (ix4 b (kvh (qh ⟨k.val, hk⟩ r)) (kk.castLE (by decide)) d) := fun d kk => by
      rw [hkv, ← h13, View.readAt_apply]
      exact congrArg _ (emb3o (off6_eq k) (k0_off6_inb k) 0 d kk ⟨k.val, hk⟩ d (kk.castLE (by decide)) rfl (Nat.zero_add _).symm (Nat.zero_add _).symm)
    have e12 : ∀ d p, View.readAt (Elt Ideal) arg12.view (Rect.unit (s := S8x128x128) (k0_off7 k) S1x128x128.size (k0_off7_inb k)).toLoadRect X12 (ix3 0 d p) = vs (ix3 b (kvh (qh ⟨k.val, hk⟩ r)) d) := fun d p => by
      rw [hkv, ← h12 _ _ p, View.readAt_apply]
      exact congrArg _ (emb3o (off7_eq k) (k0_off7_inb k) 0 d p ⟨k.val, hk⟩ d p rfl (Nat.zero_add _).symm (Nat.zero_add _).symm)
    rw [e10, e12]
    refine kattn_outAt (N := 128) (by decide) X K ks Vv vs P b (qrow q p) (qh ⟨k.val, hk⟩ r) d (hn _ _) _ _ (fun kk hkk => ?_) (fun kk => ?_) (fun kk => e13 d kk)
    · rw [vis_eq _ (by omega) (by omega), if_neg]
      show ¬ ((kk.val : ℤ) < _ ∨ kk.val ≤ q.val * 128 + p.val)
      omega
    · show scores1 (F := Ideal) _ _ _ _ (ix2 kk p) = _
      rw [scores1_apply]
      simp only [e4, e14, e11]
      unfold kscore
      rw [mask1_apply]
      show Scalar.select (vis _ (q.val * 128 + p.val) (0 + kk.val)) _ _ = Scalar.select (vis _ (q.val * 128 + p.val) kk.val) _ _
      rw [Nat.zero_add]

/-- Offsets of trip `k`, as numbers. -/
theorem off9_eq : ∀ k : Fin k0_t2_loop.trips, k0_off9 k = ![0, k.val, 0, 0] := by decide

/-- Offsets of trip `k`, head `r`, as numbers. -/
theorem off10_eq : ∀ (k : Fin k0_t2_loop.trips) (r : Fin 5), k0_off10 k (BitVec.ofNat 32 r.val) = ![5 * k.val + r.val, 0, 0] := by decide

/-- Offsets of trip `k`, as numbers. -/
theorem off11_eq : ∀ k : Fin k0_t2_loop.trips, k0_off11 k = ![k.val, 0, 0] := by decide

/-- Offsets of trip `k`, head `r`, as numbers. -/
theorem off12_eq : ∀ (k : Fin k0_t2_loop.trips) (r : Fin 5), k0_off12 k (BitVec.ofNat 32 r.val) = ![0, 5 * k.val + r.val, 0] := by decide

/-- Offsets of trip `k`, as numbers. -/
theorem off13_eq : ∀ k : Fin k0_t2_loop.trips, k0_off13 k = ![k.val, 0, 0] := by decide

/-- Offsets of trip `k`, as numbers. -/
theorem off14_eq : ∀ k : Fin k0_t2_loop.trips, k0_off14 k = ![k.val, 0, 0] := by decide

/-- Offsets of trip `k`, head `r`, as numbers. -/
theorem off15_eq : ∀ (k : Fin k0_t2_loop.trips) (r : Fin 5), k0_off15 k (BitVec.ofNat 32 r.val) = ![0, 0, (5 * k.val + r.val) * 128] := by decide

/-- The trips over 256 live keys, read back: the attention output. -/
theorem block2 (X : XArr) (K : KArr) (ks : KsArr) (Vv : KArr) (vs : VsArr) (P : PArr) (b : Fin 4) (q : Fin 3)
    (hn : ∀ s h, Normal (rowMax X b s h)) (hq : q.val + 1 ≤ 2) (hv1 : (P (ix1 b)).toInt ≤ 128 * 2) (hv2 : 128 * ((2 : ℤ) - 1) < (P (ix1 b)).toInt ∨ q.val + 1 = 2)
    (c : Dev nD) (i : grid0.Coords) (arg2 : Memref sig .tc .smem S4 .i32) (harg2 : arg2.IsWhole) (arg3 : Memref sig .tc .vmem S1x128x5120 .bf16) (harg3 : arg3.IsWhole) (arg4 : Memref sig .tc .vmem S1x8x384x128 .fp8e4m3) (harg4 : arg4.IsWhole) (arg5 : Memref sig .tc .vmem S1x8x384 .f32) (harg5 : arg5.IsWhole) (arg6 : Memref sig .tc .vmem S1x8x384x128 .fp8e4m3) (harg6 : arg6.IsWhole) (arg7 : Memref sig .tc .vmem S1x8x128 .f32) (harg7 : arg7.IsWhole) (arg8 : Memref sig .tc .vmem S1x128x5120 .bf16) (harg8 : arg8.IsWhole) (arg9 : Memref sig .tc .vmem S5120x128 .fp8e4m3) (harg9 : arg9.IsWhole) (arg10 : Memref sig .tc .vmem S1x40x128 .f32) (harg10 : arg10.IsWhole) (arg11 : Memref sig .tc .vmem S8x384x128 .f32) (harg11 : arg11.IsWhole) (arg12 : Memref sig .tc .vmem S8x128x128 .f32) (harg12 : arg12.IsWhole) (arg13 : Memref sig .tc .vmem S8x128x384 .fp8e4m3) (harg13 : arg13.IsWhole) (arg14 : Memref sig .tc .vmem S40x128x128 .fp8e4m3) (harg14 : arg14.IsWhole) (arg15 : Memref sig .tc .vmem S8x128 .f32) (harg15 : arg15.IsWhole) (arg16 : Memref sig .tc .vmem S128x128 .i32) (harg16 : arg16.IsWhole) (X4 : BufTy.Contents (Elt Ideal) arg4.view.ty) (X10 : BufTy.Contents (Elt Ideal) arg10.view.ty) (X11 : BufTy.Contents (Elt Ideal) arg11.view.ty) (X12 : BufTy.Contents (Elt Ideal) arg12.view.ty) (X13 : BufTy.Contents (Elt Ideal) arg13.view.ty) (X14 : BufTy.Contents (Elt Ideal) arg14.view.ty) (f8 : BufTy.Contents (Elt Ideal) arg8.view.ty)
    (h4 : ∀ g k j, arg4.view.read (Elt Ideal) X4 (ix4 0 g k j) = K (ix4 b g k j))
    (h10 : ∀ h p, arg10.view.read (Elt Ideal) X10 (ix3 0 h p) = scaleAt X b (qrow q p) h)
    (h11 : ∀ g k p, arg11.view.read (Elt Ideal) X11 (ix3 g k p) = ks (ix3 b g k) * (((Real.sqrt 128)⁻¹ * (Real.log 2)⁻¹ : ℝ) : EReal))
    (h12 : ∀ g d p, arg12.view.read (Elt Ideal) X12 (ix3 g d p) = vs (ix3 b g d))
    (h13 : ∀ g d k, arg13.view.read (Elt Ideal) X13 (ix3 g d k) = Vv (ix4 b g k d))
    (h14 : ∀ h j p, arg14.view.read (Elt Ideal) X14 (ix3 h j p) = codeAt X b (qrow q p) h j)
    (p : Fin 128) (h : Fin 40) (d : Fin 128) :
    arg8.view.read (Elt Ideal) (arg8.view.writes (Elt Ideal) f8 (pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 q.val) (P (ix1 b)) X4 X10 X11 X12 X13 X14 k0_t2_loop.trips)) (ix3 0 p (col h d))
      = outAt X K ks Vv vs P b (qrow q p) h d := by
  refine read_heads arg8 f8 (fun p h d => outAt X K ks Vv vs P b (qrow q p) h d) _ _
    (mem_trips (n := k0_t2_loop.trips) (pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 q.val) (P (ix1 b)) X4 X10 X11 X12 X13 X14) _ (pb_k0_t2.eq_1 ..) fun k => pb_k0_t2_succ ..)
    _ off15_eq k0_off15_inb _ (fun k => trip2 ..) (fun k r p d => ?_) p h d
  · have hk : k.val < 8 := k.isLt
    have hkv : kvh (qh ⟨k.val, hk⟩ r) = ⟨k.val, hk⟩ := kvh_qh _ _
    refine (attend2_apply _ _ _ _ p d).trans ?_
    have e4 : ∀ kk j, View.readAt (Elt Ideal) arg4.view (Rect.unit (s := S1x8x384x128) (k0_off9 k) S1x1x256x128.size (k0_off9_inb k)).toLoadRect X4 (ix4 0 0 kk j) = K (ix4 b (kvh (qh ⟨k.val, hk⟩ r)) (kk.castLE (by decide)) j) := fun kk j => by
      rw [hkv, ← h4, View.readAt_apply]
      exact congrArg _ (emb4o (off9_eq k) (k0_off9_inb k) 0 0 kk j 0 ⟨k.val, hk⟩ (kk.castLE (by decide)) j rfl rfl (Nat.zero_add _).symm (Nat.zero_add _).symm)
    have e14 : ∀ j p, View.readAt (Elt Ideal) arg14.view (Rect.unit (s := S40x128x128) (k0_off10 k (BitVec.ofNat 32 r.val)) S1x128x128.size (k0_off10_inb k r)).toLoadRect X14 (ix3 0 j p) = codeAt X b (qrow q p) (qh ⟨k.val, hk⟩ r) j := fun j p => by
      rw [← h14, View.readAt_apply]
      exact congrArg _ (emb3o (off10_eq k r) (k0_off10_inb k r) 0 j p (qh ⟨k.val, hk⟩ r) j p rfl (Nat.zero_add _).symm (Nat.zero_add _).symm)
    have e11 : ∀ kk p, View.readAt (Elt Ideal) arg11.view (Rect.unit (s := S8x384x128) (k0_off11 k) S1x256x128.size (k0_off11_inb k)).toLoadRect X11 (ix3 0 kk p) = ks (ix3 b (kvh (qh ⟨k.val, hk⟩ r)) (kk.castLE (by decide))) * (((Real.sqrt 128)⁻¹ * (Real.log 2)⁻¹ : ℝ) : EReal) := fun kk p => by
      rw [hkv, ← h11 _ _ p, View.readAt_apply]
      exact congrArg _ (emb3o (off11_eq k) (k0_off11_inb k) 0 kk p ⟨k.val, hk⟩ (kk.castLE (by decide)) p rfl (Nat.zero_add _).symm (Nat.zero_add _).symm)
    have e10 : ∀ p, View.readAt (Elt Ideal) arg10.view (Rect.unit (s := S1x40x128) (k0_off12 k (BitVec.ofNat 32 r.val)) S1x1x128.size (k0_off12_inb k r)).toLoadRect X10 (ix3 0 0 p) = scaleAt X b (qrow q p) (qh ⟨k.val, hk⟩ r) := fun p => by
      rw [← h10, View.readAt_apply]
      exact congrArg _ (emb3o (off12_eq k r) (k0_off12_inb k r) 0 0 p 0 (qh ⟨k.val, hk⟩ r) p rfl rfl (Nat.zero_add _).symm)
    have e13 : ∀ d kk, View.readAt (Elt Ideal) arg13.view (Rect.unit (s := S8x128x384) (k0_off13 k) S1x128x256.size (k0_off13_inb k)).toLoadRect X13 (ix3 0 d kk) = Vv (ix4 b (kvh (qh ⟨k.val, hk⟩ r)) (kk.castLE (by decide)) d) := fun d kk => by
      rw [hkv, ← h13, View.readAt_apply]
      exact congrArg _ (emb3o (off13_eq k) (k0_off13_inb k) 0 d kk ⟨k.val, hk⟩ d (kk.castLE (by decide)) rfl (Nat.zero_add _).symm (Nat.zero_add _).symm)
    have e12 : ∀ d p, View.readAt (Elt Ideal) arg12.view (Rect.unit (s := S8x128x128) (k0_off14 k) S1x128x128.size (k0_off14_inb k)).toLoadRect X12 (ix3 0 d p) = vs (ix3 b (kvh (qh ⟨k.val, hk⟩ r)) d) := fun d p => by
      rw [hkv, ← h12 _ _ p, View.readAt_apply]
      exact congrArg _ (emb3o (off14_eq k) (k0_off14_inb k) 0 d p ⟨k.val, hk⟩ d p rfl (Nat.zero_add _).symm (Nat.zero_add _).symm)
    rw [e10, e12]
    refine kattn_outAt (N := 256) (by decide) X K ks Vv vs P b (qrow q p) (qh ⟨k.val, hk⟩ r) d (hn _ _) _ _ (fun kk hkk => ?_) (fun kk => ?_) (fun kk => e13 d kk)
    · rw [vis_eq _ (by omega) (by omega), if_neg]
      show ¬ ((kk.val : ℤ) < _ ∨ kk.val ≤ q.val * 128 + p.val)
      omega
    · show scores2 (F := Ideal) _ _ _ _ (ix2 kk p) = _
      rw [scores2_apply]
      simp only [e4, e14, e11]
      unfold kscore
      split
      · rename_i hlt
        have hvis : vis (P (ix1 b)) (qrow q p).val (kk.castLE (by decide : 256 ≤ 384)).val = 1#1 := by
          rw [vis_eq _ (by omega) (by show kk.val ≤ 1000; omega), if_pos]
          show (kk.val : ℤ) < _ ∨ kk.val ≤ q.val * 128 + p.val
          omega
        rw [hvis, sel_one]
      · rename_i hlt
        rw [mask2_apply]
        show Scalar.select (vis _ (q.val * 128 + p.val) (128 + (kk.val - 128))) _ _ = Scalar.select (vis _ (q.val * 128 + p.val) kk.val) _ _
        rw [show 128 + (kk.val - 128) = kk.val by omega]

/-- Offsets of trip `k`, as numbers. -/
theorem off16_eq : ∀ k : Fin k0_t3_loop.trips, k0_off16 k = ![0, k.val, 0, 0] := by decide

/-- Offsets of trip `k`, head `r`, as numbers. -/
theorem off17_eq : ∀ (k : Fin k0_t3_loop.trips) (r : Fin 5), k0_off17 k (BitVec.ofNat 32 r.val) = ![5 * k.val + r.val, 0, 0] := by decide

/-- Offsets of trip `k`, as numbers. -/
theorem off18_eq : ∀ k : Fin k0_t3_loop.trips, k0_off18 k = ![k.val, 0, 0] := by decide

/-- Offsets of trip `k`, head `r`, as numbers. -/
theorem off19_eq : ∀ (k : Fin k0_t3_loop.trips) (r : Fin 5), k0_off19 k (BitVec.ofNat 32 r.val) = ![0, 5 * k.val + r.val, 0] := by decide

/-- Offsets of trip `k`, as numbers. -/
theorem off20_eq : ∀ k : Fin k0_t3_loop.trips, k0_off20 k = ![k.val, 0, 0] := by decide

/-- Offsets of trip `k`, as numbers. -/
theorem off21_eq : ∀ k : Fin k0_t3_loop.trips, k0_off21 k = ![k.val, 0, 0] := by decide

/-- Offsets of trip `k`, head `r`, as numbers. -/
theorem off22_eq : ∀ (k : Fin k0_t3_loop.trips) (r : Fin 5), k0_off22 k (BitVec.ofNat 32 r.val) = ![0, 0, (5 * k.val + r.val) * 128] := by decide

/-- The trips over 384 live keys, read back: the attention output. -/
theorem block3 (X : XArr) (K : KArr) (ks : KsArr) (Vv : KArr) (vs : VsArr) (P : PArr) (b : Fin 4) (q : Fin 3)
    (hn : ∀ s h, Normal (rowMax X b s h)) (hq : q.val + 1 ≤ 3) (hv1 : (P (ix1 b)).toInt ≤ 128 * 3) (hv2 : 128 * ((3 : ℤ) - 1) < (P (ix1 b)).toInt ∨ q.val + 1 = 3)
    (c : Dev nD) (i : grid0.Coords) (arg2 : Memref sig .tc .smem S4 .i32) (harg2 : arg2.IsWhole) (arg3 : Memref sig .tc .vmem S1x128x5120 .bf16) (harg3 : arg3.IsWhole) (arg4 : Memref sig .tc .vmem S1x8x384x128 .fp8e4m3) (harg4 : arg4.IsWhole) (arg5 : Memref sig .tc .vmem S1x8x384 .f32) (harg5 : arg5.IsWhole) (arg6 : Memref sig .tc .vmem S1x8x384x128 .fp8e4m3) (harg6 : arg6.IsWhole) (arg7 : Memref sig .tc .vmem S1x8x128 .f32) (harg7 : arg7.IsWhole) (arg8 : Memref sig .tc .vmem S1x128x5120 .bf16) (harg8 : arg8.IsWhole) (arg9 : Memref sig .tc .vmem S5120x128 .fp8e4m3) (harg9 : arg9.IsWhole) (arg10 : Memref sig .tc .vmem S1x40x128 .f32) (harg10 : arg10.IsWhole) (arg11 : Memref sig .tc .vmem S8x384x128 .f32) (harg11 : arg11.IsWhole) (arg12 : Memref sig .tc .vmem S8x128x128 .f32) (harg12 : arg12.IsWhole) (arg13 : Memref sig .tc .vmem S8x128x384 .fp8e4m3) (harg13 : arg13.IsWhole) (arg14 : Memref sig .tc .vmem S40x128x128 .fp8e4m3) (harg14 : arg14.IsWhole) (arg15 : Memref sig .tc .vmem S8x128 .f32) (harg15 : arg15.IsWhole) (arg16 : Memref sig .tc .vmem S128x128 .i32) (harg16 : arg16.IsWhole) (X4 : BufTy.Contents (Elt Ideal) arg4.view.ty) (X10 : BufTy.Contents (Elt Ideal) arg10.view.ty) (X11 : BufTy.Contents (Elt Ideal) arg11.view.ty) (X12 : BufTy.Contents (Elt Ideal) arg12.view.ty) (X13 : BufTy.Contents (Elt Ideal) arg13.view.ty) (X14 : BufTy.Contents (Elt Ideal) arg14.view.ty) (f8 : BufTy.Contents (Elt Ideal) arg8.view.ty)
    (h4 : ∀ g k j, arg4.view.read (Elt Ideal) X4 (ix4 0 g k j) = K (ix4 b g k j))
    (h10 : ∀ h p, arg10.view.read (Elt Ideal) X10 (ix3 0 h p) = scaleAt X b (qrow q p) h)
    (h11 : ∀ g k p, arg11.view.read (Elt Ideal) X11 (ix3 g k p) = ks (ix3 b g k) * (((Real.sqrt 128)⁻¹ * (Real.log 2)⁻¹ : ℝ) : EReal))
    (h12 : ∀ g d p, arg12.view.read (Elt Ideal) X12 (ix3 g d p) = vs (ix3 b g d))
    (h13 : ∀ g d k, arg13.view.read (Elt Ideal) X13 (ix3 g d k) = Vv (ix4 b g k d))
    (h14 : ∀ h j p, arg14.view.read (Elt Ideal) X14 (ix3 h j p) = codeAt X b (qrow q p) h j)
    (p : Fin 128) (h : Fin 40) (d : Fin 128) :
    arg8.view.read (Elt Ideal) (arg8.view.writes (Elt Ideal) f8 (pb_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 q.val) (P (ix1 b)) X4 X10 X11 X12 X13 X14 k0_t3_loop.trips)) (ix3 0 p (col h d))
      = outAt X K ks Vv vs P b (qrow q p) h d := by
  refine read_heads arg8 f8 (fun p h d => outAt X K ks Vv vs P b (qrow q p) h d) _ _
    (mem_trips (n := k0_t3_loop.trips) (pb_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 q.val) (P (ix1 b)) X4 X10 X11 X12 X13 X14) _ (pb_k0_t3.eq_1 ..) fun k => pb_k0_t3_succ ..)
    _ off22_eq k0_off22_inb _ (fun k => trip3 ..) (fun k r p d => ?_) p h d
  · have hk : k.val < 8 := k.isLt
    have hkv : kvh (qh ⟨k.val, hk⟩ r) = ⟨k.val, hk⟩ := kvh_qh _ _
    refine (attend3_apply _ _ _ _ p d).trans ?_
    have e4 : ∀ kk j, View.readAt (Elt Ideal) arg4.view (Rect.unit (s := S1x8x384x128) (k0_off16 k) S1x1x384x128.size (k0_off16_inb k)).toLoadRect X4 (ix4 0 0 kk j) = K (ix4 b (kvh (qh ⟨k.val, hk⟩ r)) (kk.castLE (by decide)) j) := fun kk j => by
      rw [hkv, ← h4, View.readAt_apply]
      exact congrArg _ (emb4o (off16_eq k) (k0_off16_inb k) 0 0 kk j 0 ⟨k.val, hk⟩ (kk.castLE (by decide)) j rfl rfl (Nat.zero_add _).symm (Nat.zero_add _).symm)
    have e14 : ∀ j p, View.readAt (Elt Ideal) arg14.view (Rect.unit (s := S40x128x128) (k0_off17 k (BitVec.ofNat 32 r.val)) S1x128x128.size (k0_off17_inb k r)).toLoadRect X14 (ix3 0 j p) = codeAt X b (qrow q p) (qh ⟨k.val, hk⟩ r) j := fun j p => by
      rw [← h14, View.readAt_apply]
      exact congrArg _ (emb3o (off17_eq k r) (k0_off17_inb k r) 0 j p (qh ⟨k.val, hk⟩ r) j p rfl (Nat.zero_add _).symm (Nat.zero_add _).symm)
    have e11 : ∀ kk p, View.readAt (Elt Ideal) arg11.view (Rect.unit (s := S8x384x128) (k0_off18 k) S1x384x128.size (k0_off18_inb k)).toLoadRect X11 (ix3 0 kk p) = ks (ix3 b (kvh (qh ⟨k.val, hk⟩ r)) (kk.castLE (by decide))) * (((Real.sqrt 128)⁻¹ * (Real.log 2)⁻¹ : ℝ) : EReal) := fun kk p => by
      rw [hkv, ← h11 _ _ p, View.readAt_apply]
      exact congrArg _ (emb3o (off18_eq k) (k0_off18_inb k) 0 kk p ⟨k.val, hk⟩ (kk.castLE (by decide)) p rfl (Nat.zero_add _).symm (Nat.zero_add _).symm)
    have e10 : ∀ p, View.readAt (Elt Ideal) arg10.view (Rect.unit (s := S1x40x128) (k0_off19 k (BitVec.ofNat 32 r.val)) S1x1x128.size (k0_off19_inb k r)).toLoadRect X10 (ix3 0 0 p) = scaleAt X b (qrow q p) (qh ⟨k.val, hk⟩ r) := fun p => by
      rw [← h10, View.readAt_apply]
      exact congrArg _ (emb3o (off19_eq k r) (k0_off19_inb k r) 0 0 p 0 (qh ⟨k.val, hk⟩ r) p rfl rfl (Nat.zero_add _).symm)
    have e13 : ∀ d kk, View.readAt (Elt Ideal) arg13.view (Rect.unit (s := S8x128x384) (k0_off20 k) S1x128x384.size (k0_off20_inb k)).toLoadRect X13 (ix3 0 d kk) = Vv (ix4 b (kvh (qh ⟨k.val, hk⟩ r)) (kk.castLE (by decide)) d) := fun d kk => by
      rw [hkv, ← h13, View.readAt_apply]
      exact congrArg _ (emb3o (off20_eq k) (k0_off20_inb k) 0 d kk ⟨k.val, hk⟩ d (kk.castLE (by decide)) rfl (Nat.zero_add _).symm (Nat.zero_add _).symm)
    have e12 : ∀ d p, View.readAt (Elt Ideal) arg12.view (Rect.unit (s := S8x128x128) (k0_off21 k) S1x128x128.size (k0_off21_inb k)).toLoadRect X12 (ix3 0 d p) = vs (ix3 b (kvh (qh ⟨k.val, hk⟩ r)) d) := fun d p => by
      rw [hkv, ← h12 _ _ p, View.readAt_apply]
      exact congrArg _ (emb3o (off21_eq k) (k0_off21_inb k) 0 d p ⟨k.val, hk⟩ d p rfl (Nat.zero_add _).symm (Nat.zero_add _).symm)
    rw [e10, e12]
    refine kattn_outAt (N := 384) (by decide) X K ks Vv vs P b (qrow q p) (qh ⟨k.val, hk⟩ r) d (hn _ _) _ _ (fun kk hkk => ?_) (fun kk => ?_) (fun kk => e13 d kk)
    · rw [vis_eq _ (by omega) (by omega), if_neg]
      show ¬ ((kk.val : ℤ) < _ ∨ kk.val ≤ q.val * 128 + p.val)
      omega
    · show scores3 (F := Ideal) _ _ _ _ (ix2 kk p) = _
      rw [scores3_apply]
      simp only [e4, e14, e11]
      unfold kscore
      split
      · rename_i hlt
        have hvis : vis (P (ix1 b)) (qrow q p).val (kk.castLE (by decide : 384 ≤ 384)).val = 1#1 := by
          rw [vis_eq _ (by omega) (by show kk.val ≤ 1000; omega), if_pos]
          show (kk.val : ℤ) < _ ∨ kk.val ≤ q.val * 128 + p.val
          omega
        rw [hvis, sel_one]
      · rename_i hlt
        rw [mask3_apply]
        show Scalar.select (vis _ (q.val * 128 + p.val) (256 + (kk.val - 256))) _ _ = Scalar.select (vis _ (q.val * 128 + p.val) kk.val) _ _
        rw [show 256 + (kk.val - 256) = kk.val by omega]

end Cert.KernelIdeal.Run
end
-- ==== Proof.IBlk.lean ====
module

public import proofs.«01_k».proof.Proof.IBlock
public import Idealize.ShloMosaic.Lib.Pipeline.ValueKit

/-
  The blocks of a grid point, index by index of their arrays.
-/

@[expose] public section
set_option maxRecDepth 16384

noncomputable section
namespace Cert.KernelIdeal.Run
open Cert.KernelIdeal Cert.KernelIdeal.Gen Cert.Attn
open Idealize.ShloMosaic

variable (m : (ℓ : Loc nD τ sig) → Buf (Elt Ideal) ℓ)

/-- The batch of a grid point. -/
abbrev bt (t : Fin grid0.N) : Fin 4 := grid0.coords t 0
/-- The query tile of a grid point. -/
abbrev qt (t : Fin grid0.N) : Fin 3 := grid0.coords t 1

/-- Window 0's block index at a grid point. -/
theorem idx0 (t : Fin grid0.N) : cc0_transform_0 (grid0.coords t) = ![(bt t).val, (qt t).val, 0] := by revert t; decide
/-- Window 1's block index at a grid point. -/
theorem idx1 (t : Fin grid0.N) : cc0_transform_1 (grid0.coords t) = ![(bt t).val, 0, 0, 0] := by revert t; decide
/-- Window 2's block index at a grid point. -/
theorem idx2 (t : Fin grid0.N) : cc0_transform_2 (grid0.coords t) = ![(bt t).val, 0, 0] := by revert t; decide
/-- Window 3's block index at a grid point. -/
theorem idx3 (t : Fin grid0.N) : cc0_transform_3 (grid0.coords t) = ![(bt t).val, 0, 0, 0] := by revert t; decide
/-- Window 4's block index at a grid point. -/
theorem idx4 (t : Fin grid0.N) : cc0_transform_4 (grid0.coords t) = ![(bt t).val, 0, 0] := by revert t; decide
/-- Window 5's block index at a grid point. -/
theorem idx5 (t : Fin grid0.N) : cc0_transform_5 (grid0.coords t) = ![(bt t).val, (qt t).val, 0] := by revert t; decide
/-- Window 6's block index at a grid point. -/
theorem idx6 (t : Fin grid0.N) : cc0_transform_6 (grid0.coords t) = ![(bt t).val * 3 + (qt t).val, 0] := by revert t; decide
/-- Window 7's block index at a grid point. -/
theorem idx7 (t : Fin grid0.N) : cc0_transform_7 (grid0.coords t) = ![(bt t).val, 0, (qt t).val] := by revert t; decide

/-- A row of the block of hidden rows. -/
theorem iblk0 (c : Dev nD) (t : Fin grid0.N) (p : Fin 128) (j : Fin 5120) : iblk m c 0 t (ix3 0 p j) = m ((c.tc : Thread nD τ).loc main_arg0) (ix3 (bt t) (qrow (qt t) p) j) := by
  show V m c main_arg0 ((((cfgA m).win 0).blk t).view.emb (ix3 0 p j)) = _
  refine congrArg (m ((c.tc : Thread nD τ).loc main_arg0)) (funext fun a => Fin.ext ?_)
  blk_simp
  show cc0_transform_0 (grid0.coords t) a * _ + _ = _
  rw [idx0]
  match a with
  | ⟨0, _⟩ => show (bt t).val * 1 + 0 = (bt t).val; omega
  | ⟨1, _⟩ => rfl
  | ⟨2, _⟩ => show 0 * 5120 + j.val = j.val; omega

/-- The keys of the batch. -/
theorem iblk1 (c : Dev nD) (t : Fin grid0.N) (g : Fin 8) (k : Fin 384) (j : Fin 128) : iblk m c 1 t (ix4 0 g k j) = m ((c.tc : Thread nD τ).loc main_arg1) (ix4 (bt t) g k j) := by
  show V m c main_arg1 ((((cfgA m).win 1).blk t).view.emb (ix4 0 g k j)) = _
  refine congrArg (m ((c.tc : Thread nD τ).loc main_arg1)) (funext fun a => Fin.ext ?_)
  blk_simp
  show cc0_transform_1 (grid0.coords t) a * _ + _ = _
  rw [idx1]
  match a with
  | ⟨0, _⟩ => show (bt t).val * 1 + 0 = (bt t).val; omega
  | ⟨1, _⟩ => show 0 * 8 + g.val = g.val; omega
  | ⟨2, _⟩ => show 0 * 384 + k.val = k.val; omega
  | ⟨3, _⟩ => show 0 * 128 + j.val = j.val; omega

/-- The key scales of the batch. -/
theorem iblk2 (c : Dev nD) (t : Fin grid0.N) (g : Fin 8) (k : Fin 384) : iblk m c 2 t (ix3 0 g k) = m ((c.tc : Thread nD τ).loc main_arg2) (ix3 (bt t) g k) := by
  show V m c main_arg2 ((((cfgA m).win 2).blk t).view.emb (ix3 0 g k)) = _
  refine congrArg (m ((c.tc : Thread nD τ).loc main_arg2)) (funext fun a => Fin.ext ?_)
  blk_simp
  show cc0_transform_2 (grid0.coords t) a * _ + _ = _
  rw [idx2]
  match a with
  | ⟨0, _⟩ => show (bt t).val * 1 + 0 = (bt t).val; omega
  | ⟨1, _⟩ => show 0 * 8 + g.val = g.val; omega
  | ⟨2, _⟩ => show 0 * 384 + k.val = k.val; omega

/-- The values of the batch. -/
theorem iblk3 (c : Dev nD) (t : Fin grid0.N) (g : Fin 8) (k : Fin 384) (j : Fin 128) : iblk m c 3 t (ix4 0 g k j) = m ((c.tc : Thread nD τ).loc main_arg3) (ix4 (bt t) g k j) := by
  show V m c main_arg3 ((((cfgA m).win 3).blk t).view.emb (ix4 0 g k j)) = _
  refine congrArg (m ((c.tc : Thread nD τ).loc main_arg3)) (funext fun a => Fin.ext ?_)
  blk_simp
  show cc0_transform_3 (grid0.coords t) a * _ + _ = _
  rw [idx3]
  match a with
  | ⟨0, _⟩ => show (bt t).val * 1 + 0 = (bt t).val; omega
  | ⟨1, _⟩ => show 0 * 8 + g.val = g.val; omega
  | ⟨2, _⟩ => show 0 * 384 + k.val = k.val; omega
  | ⟨3, _⟩ => show 0 * 128 + j.val = j.val; omega

/-- The value scales of the batch. -/
theorem iblk4 (c : Dev nD) (t : Fin grid0.N) (g : Fin 8) (k : Fin 128) : iblk m c 4 t (ix3 0 g k) = m ((c.tc : Thread nD τ).loc main_arg4) (ix3 (bt t) g k) := by
  show V m c main_arg4 ((((cfgA m).win 4).blk t).view.emb (ix3 0 g k)) = _
  refine congrArg (m ((c.tc : Thread nD τ).loc main_arg4)) (funext fun a => Fin.ext ?_)
  blk_simp
  show cc0_transform_4 (grid0.coords t) a * _ + _ = _
  rw [idx4]
  match a with
  | ⟨0, _⟩ => show (bt t).val * 1 + 0 = (bt t).val; omega
  | ⟨1, _⟩ => show 0 * 8 + g.val = g.val; omega
  | ⟨2, _⟩ => show 0 * 128 + k.val = k.val; omega

end Cert.KernelIdeal.Run
end
-- ==== Proof.IStep.lean ====
module

public import proofs.«01_k».proof.Proof.IBlk

/-
  The body, by values: what it leaves in its buffers at a grid point, at the extended reals.
-/

@[expose] public section
set_option maxRecDepth 16384

noncomputable section
namespace Cert.KernelIdeal.Run
open Cert.KernelIdeal Cert.KernelIdeal.Gen Cert.Attn
open Idealize.ShloMosaic Idealize.ShloMosaic.TcCoe Idealize.ShloMosaic.Tactic
open Idealize.SL Idealize.SL.RA Idealize.SL.BI

/-- An index of a rectangle that is the whole of a shape of two axes. -/
theorem emb2 {n0 n1 : ℕ} (inb) (x : Fin n0) (y : Fin n1) :
    (Rect.unit (s := (⟨2, ![n0, n1]⟩ : Shape)) ![0, 0] ![n0, n1] inb).emb (ix2 x y) = ix2 x y := by
  funext k
  apply Fin.ext
  match k with
  | ⟨0, _⟩ => show 0 + 1 * x.val = x.val; omega
  | ⟨1, _⟩ => show 0 + 1 * y.val = y.val; omega

/-- An index of a rectangle of one element in a shape of one axis. -/
theorem emb1 {n a : ℕ} {off : Fin 1 → ℕ} (ho : off = ![a]) (inb) (x : (⟨1, ![1]⟩ : Shape).Idx) (u : Fin n) (hu : u.val = a) :
    (Rect.unit (s := (⟨1, ![n]⟩ : Shape)) off ![1] inb).emb x = ix1 u := by
  subst ho
  funext k
  apply Fin.ext
  match k with
  | ⟨0, _⟩ =>
    have : (x 0).val = 0 := by have h : (x 0).val < 1 := (x 0).isLt; omega
    show a + 1 * (x 0).val = u.val
    omega

/-- The codes written out, read back. -/
theorem out_read (arg3 : Memref sig .tc .vmem S1x128x5120 .bf16) (X3 : BufTy.Contents (Elt Ideal) arg3.view.ty) (W : Fin 128 → Fin 5120 → EReal)
    (hW : ∀ p c, arg3.view.read (Elt Ideal) X3 (ix3 0 p c) = W p c) (arg9 : Memref sig .tc .vmem S5120x128 .fp8e4m3) (f9 : BufTy.Contents (Elt Ideal) arg9.view.ty)
    (arg14 : Memref sig .tc .vmem S40x128x128 .fp8e4m3) (p : Fin 128) (h : Fin 40) (j : Fin 128) (n : Fin 5120) (hn : n.val = p.val * 40 + h.val) :
    arg9.view.read (Elt Ideal) (arg9.view.writes (Elt Ideal) f9 [⟨Rect.unit ![0, 0] ![5120, 128] inb_S5120x128_S5120x128_0_0,
      k0_pay2 (arg14.view.readCov (codePieces arg3 X3) (Rect.unit ![0, 0, 0] S40x128x128.size inb_S40x128x128_S40x128x128_0_0_0).toLoadRect)⟩]) (ix2 n j)
      = min (Ideal.ofBits .f32 0x43E00000#32) (max (Ideal.ofBits .f32 0xC3E00000#32) (W p (col h j) * pow2 (IntOp.subi 0#32 (kexp (amax fun j => W p (col h j)))))) := by
  refine (View.read_writes_apply_of_pieces (v := arg9.view) (f := f9) (fun y => k0_pay2 (F := Ideal) (arg14.view.readCov (codePieces arg3 X3) (Rect.unit ![0, 0, 0] S40x128x128.size inb_S40x128x128_S40x128x128_0_0_0).toLoadRect) y) _ (fun x hx y => ?_) _ ?_).trans ?_
  · obtain rfl := List.mem_singleton.1 hx
    obtain ⟨a, b, rfl⟩ : ∃ (a : Fin 5120) (b : Fin 128), y = ix2 a b := ⟨y 0, y 1, eq_ix2 y⟩
    rw [emb2]
  · refine ⟨_, List.mem_singleton.2 rfl, ?_⟩
    rw [Rect.mem_set_unit]
    intro k
    match k with
    | ⟨0, _⟩ => exact ⟨Nat.zero_le _, by show n.val < 0 + 5120; omega⟩
    | ⟨1, _⟩ => exact ⟨Nat.zero_le _, by show j.val < 0 + 128; omega⟩
  · refine (pay2_apply _ h p j n hn).trans ?_
    rw [← code_read arg3 X3 W hW arg14.view arg14.view.junk]
    unfold View.readCov
    rw [View.readAt_apply]
    exact congrArg _ (emb3 inb_S40x128x128_S40x128x128_0_0_0 h j p h j p (Nat.zero_add _).symm (Nat.zero_add _).symm (Nat.zero_add _).symm)

/-- The offset of the prefix length in its table. -/
theorem off1_eq (i : grid0.Coords) : k0_off1 i = ![(i 0).val] := by
  have h : ∀ b : Fin 4, ![(Scalar.indexCast (BitVec.ofNat 32 b.val) : Index).toNat] = (![b.val] : Fin 1 → ℕ) := by decide
  exact h (i 0)

section
variable (X : XArr) (K : KArr) (ks : KsArr) (Vv : KArr) (vs : VsArr) (P : PArr) (hn : ∀ b s h, Normal (rowMax X b s h)) (hP : ∀ b, (P (ix1 b)).toInt ≤ 384)
variable (c : Dev nD) (i : grid0.Coords) (arg2 : Memref sig .tc .smem S4 .i32) (harg2 : arg2.IsWhole) (arg3 : Memref sig .tc .vmem S1x128x5120 .bf16) (harg3 : arg3.IsWhole) (arg4 : Memref sig .tc .vmem S1x8x384x128 .fp8e4m3) (harg4 : arg4.IsWhole) (arg5 : Memref sig .tc .vmem S1x8x384 .f32) (harg5 : arg5.IsWhole) (arg6 : Memref sig .tc .vmem S1x8x384x128 .fp8e4m3) (harg6 : arg6.IsWhole) (arg7 : Memref sig .tc .vmem S1x8x128 .f32) (harg7 : arg7.IsWhole) (arg8 : Memref sig .tc .vmem S1x128x5120 .bf16) (harg8 : arg8.IsWhole) (arg9 : Memref sig .tc .vmem S5120x128 .fp8e4m3) (harg9 : arg9.IsWhole) (arg10 : Memref sig .tc .vmem S1x40x128 .f32) (harg10 : arg10.IsWhole) (arg11 : Memref sig .tc .vmem S8x384x128 .f32) (harg11 : arg11.IsWhole) (arg12 : Memref sig .tc .vmem S8x128x128 .f32) (harg12 : arg12.IsWhole) (arg13 : Memref sig .tc .vmem S8x128x384 .fp8e4m3) (harg13 : arg13.IsWhole) (arg14 : Memref sig .tc .vmem S40x128x128 .fp8e4m3) (harg14 : arg14.IsWhole) (arg15 : Memref sig .tc .vmem S8x128 .f32) (harg15 : arg15.IsWhole) (arg16 : Memref sig .tc .vmem S128x128 .i32) (harg16 : arg16.IsWhole)
include hn hP

/-- The second half of the body leaves the attention output. -/
theorem tail_values (b : Fin 4) (X4 : BufTy.Contents (Elt Ideal) arg4.view.ty) (X10 : BufTy.Contents (Elt Ideal) arg10.view.ty) (X11 : BufTy.Contents (Elt Ideal) arg11.view.ty) (X12 : BufTy.Contents (Elt Ideal) arg12.view.ty) (X13 : BufTy.Contents (Elt Ideal) arg13.view.ty) (X14 : BufTy.Contents (Elt Ideal) arg14.view.ty) (f8 : BufTy.Contents (Elt Ideal) arg8.view.ty) (f8' : BufTy.Contents (Elt Ideal) arg8.view.ty)
    (h4 : ∀ g k j, arg4.view.read (Elt Ideal) X4 (ix4 0 g k j) = K (ix4 b g k j))
    (h10 : ∀ h p, arg10.view.read (Elt Ideal) X10 (ix3 0 h p) = scaleAt X b (qrow (i 1) p) h)
    (h11 : ∀ g k p, arg11.view.read (Elt Ideal) X11 (ix3 g k p) = ks (ix3 b g k) * (((Real.sqrt 128)⁻¹ * (Real.log 2)⁻¹ : ℝ) : EReal))
    (h12 : ∀ g d p, arg12.view.read (Elt Ideal) X12 (ix3 g d p) = vs (ix3 b g d))
    (h13 : ∀ g d k, arg13.view.read (Elt Ideal) X13 (ix3 g d k) = Vv (ix4 b g k d))
    (h14 : ∀ h j p, arg14.view.read (Elt Ideal) X14 (ix3 h j p) = codeAt X b (qrow (i 1) p) h j)
    (ht : TailPost c i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (P (ix1 b)) X4 X10 X11 X12 X13 X14 f8 f8') (p : Fin 128) (h : Fin 40) (d : Fin 128) :
    arg8.view.read (Elt Ideal) f8' (ix3 0 p (col h d)) = outAt X K ks Vv vs P b (qrow (i 1) p) h d := by
  obtain ⟨N, n1, n3, e, hq, hv1, hv2⟩ := tiles_spec (i 1) (P (ix1 b)) (hP b)
  obtain rfl | rfl | rfl : N = 1 ∨ N = 2 ∨ N = 3 := by omega
  · rw [ht.1 ((cond2_iff i _).2 e)]
    exact block1 X K ks Vv vs P b (i 1) (hn b) hq hv1 hv2 c i arg2 harg2 arg3 harg3 arg4 harg4 arg5 harg5 arg6 harg6 arg7 harg7 arg8 harg8 arg9 harg9 arg10 harg10 arg11 harg11 arg12 harg12 arg13 harg13 arg14 harg14 arg15 harg15 arg16 harg16 X4 X10 X11 X12 X13 X14 f8 h4 h10 h11 h12 h13 h14 p h d
  · rw [ht.2.1 ((cond3_iff i _).2 e)]
    exact block2 X K ks Vv vs P b (i 1) (hn b) hq hv1 hv2 c i arg2 harg2 arg3 harg3 arg4 harg4 arg5 harg5 arg6 harg6 arg7 harg7 arg8 harg8 arg9 harg9 arg10 harg10 arg11 harg11 arg12 harg12 arg13 harg13 arg14 harg14 arg15 harg15 arg16 harg16 X4 X10 X11 X12 X13 X14 f8 h4 h10 h11 h12 h13 h14 p h d
  · rw [ht.2.2 ((cond4_iff i _).2 e)]
    exact block3 X K ks Vv vs P b (i 1) (hn b) hq hv1 hv2 c i arg2 harg2 arg3 harg3 arg4 harg4 arg5 harg5 arg6 harg6 arg7 harg7 arg8 harg8 arg9 harg9 arg10 harg10 arg11 harg11 arg12 harg12 arg13 harg13 arg14 harg14 arg15 harg15 arg16 harg16 X4 X10 X11 X12 X13 X14 f8 h4 h10 h11 h12 h13 h14 p h d

/-- The body leaves the output, the codes and the scales of its rows, and the batch's scratch as laid out. -/
theorem body_values (q : PosShare TreeShare) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f8' : BufTy.Contents (Elt Ideal) arg8.view.ty) (f9' : BufTy.Contents (Elt Ideal) arg9.view.ty) (f10' : BufTy.Contents (Elt Ideal) arg10.view.ty) (f11' : BufTy.Contents (Elt Ideal) arg11.view.ty) (f12' : BufTy.Contents (Elt Ideal) arg12.view.ty) (f13' : BufTy.Contents (Elt Ideal) arg13.view.ty) (f14' : BufTy.Contents (Elt Ideal) arg14.view.ty)
    (h2 : arg2.view.read (Elt Ideal) X2 (ix1 (i 0)) = P (ix1 (i 0)))
    (h3 : ∀ p j, arg3.view.read (Elt Ideal) X3 (ix3 0 p j) = X (ix3 (i 0) (qrow (i 1) p) j))
    (h4 : ∀ g k j, arg4.view.read (Elt Ideal) X4 (ix4 0 g k j) = K (ix4 (i 0) g k j))
    (h5 : ∀ g k, arg5.view.read (Elt Ideal) X5 (ix3 0 g k) = ks (ix3 (i 0) g k))
    (h6 : ∀ g k j, arg6.view.read (Elt Ideal) X6 (ix4 0 g k j) = Vv (ix4 (i 0) g k j))
    (h7 : ∀ g d, arg7.view.read (Elt Ideal) X7 (ix3 0 g d) = vs (ix3 (i 0) g d))
    (hS : ¬ first i → (∀ g k p, arg11.view.read (Elt Ideal) f11 (ix3 g k p) = ks (ix3 (i 0) g k) * (((Real.sqrt 128)⁻¹ * (Real.log 2)⁻¹ : ℝ) : EReal))
      ∧ (∀ g d p, arg12.view.read (Elt Ideal) f12 (ix3 g d p) = vs (ix3 (i 0) g d)) ∧ ∀ g d k, arg13.view.read (Elt Ideal) f13 (ix3 g d k) = Vv (ix4 (i 0) g k d))
    (hb : BodyPost c i arg2 harg2 arg3 harg3 arg4 harg4 arg5 harg5 arg6 harg6 arg7 harg7 arg8 harg8 arg9 harg9 arg10 harg10 arg11 harg11 arg12 harg12 arg13 harg13 arg14 harg14 arg15 harg15 arg16 harg16 q X2 X3 X4 X5 X6 X7 f8 f9 f10 f11 f12 f13 f14 f8' f9' f10' f11' f12' f13' f14') :
    (∀ p h d, arg8.view.read (Elt Ideal) f8' (ix3 0 p (col h d)) = outAt X K ks Vv vs P (i 0) (qrow (i 1) p) h d)
      ∧ (∀ (p : Fin 128) (h : Fin 40) (j : Fin 128) (n : Fin 5120), n.val = p.val * 40 + h.val → arg9.view.read (Elt Ideal) f9' (ix2 n j) = codeAt X (i 0) (qrow (i 1) p) h j)
      ∧ (∀ h p, arg10.view.read (Elt Ideal) f10' (ix3 0 h p) = scaleAt X (i 0) (qrow (i 1) p) h)
      ∧ (∀ g k p, arg11.view.read (Elt Ideal) f11' (ix3 g k p) = ks (ix3 (i 0) g k) * (((Real.sqrt 128)⁻¹ * (Real.log 2)⁻¹ : ℝ) : EReal))
      ∧ (∀ g d p, arg12.view.read (Elt Ideal) f12' (ix3 g d p) = vs (ix3 (i 0) g d)) ∧ ∀ g d k, arg13.view.read (Elt Ideal) f13' (ix3 g d k) = Vv (ix4 (i 0) g k d) := by
  have word : View.readAt (Elt Ideal) arg2.view (Rect.unit (s := S4) (k0_off1 i) S1.size (k0_off1_inb i)).toLoadRect X2 (Shape.Idx.first numel_one) = P (ix1 (i 0)) := by
    rw [← h2, View.readAt_apply]
    exact congrArg _ (emb1 (off1_eq i) (k0_off1_inb i) _ (i 0) rfl)
  have scales : ∀ h p, arg10.view.read (Elt Ideal) (arg10.view.writes (Elt Ideal) f10 (scalePieces arg3 X3)) (ix3 0 h p) = scaleAt X (i 0) (qrow (i 1) p) h := fun h p =>
    (scale_read arg3 X3 _ h3 arg10.view f10 h p).trans (scale_eq (hn _ _ _))
  have codes : ∀ h j p, arg14.view.read (Elt Ideal) (arg14.view.writes (Elt Ideal) f14 (codePieces arg3 X3)) (ix3 h j p) = codeAt X (i 0) (qrow (i 1) p) h j := fun h j p => by
    refine (code_read arg3 X3 _ h3 arg14.view f14 h j p).trans ?_
    unfold codeAt
    rw [← scale_neg_eq (hn (i 0) (qrow (i 1) p) h)]
    rfl
  have outs : ∀ (p : Fin 128) (h : Fin 40) (j : Fin 128) (n : Fin 5120), n.val = p.val * 40 + h.val → arg9.view.read (Elt Ideal) (arg9.view.writes (Elt Ideal) f9 [⟨Rect.unit ![0, 0] ![5120, 128] inb_S5120x128_S5120x128_0_0,
      k0_pay2 (arg14.view.readCov (codePieces arg3 X3) (Rect.unit ![0, 0, 0] S40x128x128.size inb_S40x128x128_S40x128x128_0_0_0).toLoadRect)⟩]) (ix2 n j) = codeAt X (i 0) (qrow (i 1) p) h j := fun p h j n e => by
    refine (out_read arg3 X3 _ h3 arg9 f9 arg14 p h j n e).trans ?_
    unfold codeAt
    rw [← scale_neg_eq (hn (i 0) (qrow (i 1) p) h)]
    rfl
  unfold BodyPost at hb
  obtain ⟨hf, e9, e10, e11, e12, e13, e14, ht⟩ | ⟨hf, e9, e10, e11, e12, e13, e14, ht⟩ := hb
  · rw [wordTrue, word] at ht
    rw [outTrue] at e9
    rw [scaleTrue] at e10
    rw [kscTrue] at e11
    rw [vscTrue] at e12
    rw [vtTrue] at e13
    rw [codeTrue] at e14
    subst e9 e10 e11 e12 e13 e14
    have r11 := fun g k p => ksc_read arg5 X5 _ h5 arg11.view f11 g k p
    have r12 := fun g d p => vsc_read arg7 X7 _ h7 arg12.view f12 g d p
    have r13 := fun g d k => vt_read arg6 X6 _ h6 arg13.view f13 g d k
    exact ⟨tail_values X K ks Vv vs P hn hP c i arg2 harg2 arg3 harg3 arg4 harg4 arg5 harg5 arg6 harg6 arg7 harg7 arg8 harg8 arg9 harg9 arg10 harg10 arg11 harg11 arg12 harg12 arg13 harg13 arg14 harg14 arg15 harg15 arg16 harg16 (i 0) X4 _ _ _ _ _ f8 f8' h4 scales r11 r12 r13 codes ht, outs, scales, r11, r12, r13⟩
  · rw [wordFalse, word] at ht
    rw [outFalse] at e9
    rw [scaleFalse] at e10
    rw [codeFalse] at e14
    subst e9 e10 e11 e12 e13 e14
    obtain ⟨r11, r12, r13⟩ := hS hf
    exact ⟨tail_values X K ks Vv vs P hn hP c i arg2 harg2 arg3 harg3 arg4 harg4 arg5 harg5 arg6 harg6 arg7 harg7 arg8 harg8 arg9 harg9 arg10 harg10 arg11 harg11 arg12 harg12 arg13 harg13 arg14 harg14 arg15 harg15 arg16 harg16 (i 0) X4 _ _ _ _ _ f8 f8' h4 scales r11 r12 r13 codes ht, outs, scales, r11, r12, r13⟩
end

end Cert.KernelIdeal.Run
end
-- ==== Proof.IValue.lean ====
module

public import proofs.«01_k».proof.Proof.IStep
public import Idealize.ShloMosaic.Lib.Pipeline.ArrRel

/-
  The kernel's result arrays at the extended reals.
-/

@[expose] public section
set_option maxRecDepth 16384

noncomputable section
namespace Cert.KernelIdeal.Run
open Cert.KernelIdeal Cert.KernelIdeal.Gen Cert.Attn
open Idealize.ShloMosaic Idealize.ShloMosaic.TcCoe Idealize.ShloMosaic.Tactic
open Idealize.SL Idealize.SL.RA Idealize.SL.BI
open Idealize.SL.Sem

/-- What the proof says of the run: each output block holds the values wanted, and inside a batch the scratch buffers hold
    the batch's scales and values. -/
def specRel (X : XArr) (K : KArr) (ks : KsArr) (Vv : KArr) (vs : VsArr) (P : PArr) : Rel (F := Ideal) where
  A5 t Y := ∀ p h d, Y (ix3 0 p (col h d)) = outAt X K ks Vv vs P (bt t) (qrow (qt t) p) h d
  A6 t Y := ∀ (p : Fin 128) (h : Fin 40) (j : Fin 128) (n : Fin 5120), n.val = p.val * 40 + h.val → Y (ix2 n j) = codeAt X (bt t) (qrow (qt t) p) h j
  A7 t Y := ∀ h p, Y (ix3 0 h p) = scaleAt X (bt t) (qrow (qt t) p) h
  S n f11 f12 f13 := n % 3 ≠ 0 → ∀ b : Fin 4, b.val = n / 3 →
    (∀ g k p, f11 (ix3 g k p) = ks (ix3 b g k) * (((Real.sqrt 128)⁻¹ * (Real.log 2)⁻¹ : ℝ) : EReal))
      ∧ (∀ g d p, f12 (ix3 g d p) = vs (ix3 b g d)) ∧ ∀ g d k, f13 (ix3 g d k) = Vv (ix4 b g k d)

/-- A grid point's batch and query tile. -/
theorem coords_val : ∀ t : Fin grid0.N, (bt t).val = t.val / 3 ∧ (qt t).val = t.val % 3 := by decide

/-- A point that does not open a batch lies inside one. -/
theorem not_first : ∀ t : Fin grid0.N, ¬ first (grid0.coords t) → t.val % 3 ≠ 0 := by decide

variable (m : (ℓ : Loc nD τ sig) → Buf (Elt Ideal) ℓ)

/-- The relation at a memory's arguments. -/
abbrev memRel (c : Dev nD) : Rel (F := Ideal) :=
  specRel (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5))

/-- The body keeps the relation. -/
theorem spec_step (c : Dev nD) (hn : ∀ b s h, Normal (rowMax (m ((c.tc : Thread nD τ).loc main_arg0)) b s h)) (hP : ∀ b, (m ((c.tc : Thread nD τ).loc main_arg5) (ix1 b) : BitVec 32).toInt ≤ 384) :
    (memRel m c).Step m c := by
  unfold Rel.Step
  intro t s X3 X4 X5 X6 X7 f8 f9 f10 f11 f12 f13 f14 f8' f9' f10' f11' f12' f13' f14' e3 e4 e5 e6 e7 hS hb
  obtain ⟨tb, tq⟩ := coords_val t
  have hw : (Memref.whole main_arg5).view.read (Elt Ideal) (pf m 0) (ix1 (grid0.coords t 0)) = m ((c.tc : Thread nD τ).loc main_arg5) (ix1 (grid0.coords t 0)) := by
    obtain rfl : c = 0 := Subsingleton.elim _ _
    rfl
  obtain ⟨r8, r9, r10, r11, r12, r13⟩ := body_values (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) hn hP c (grid0.coords t) (Memref.whole main_arg5) (Memref.isWhole_whole _) _ _ _ _ _ _ _ _ _ _ _ _ _ _ _ _ _ _ _ _ _ _ _ _ (Memref.whole cc0_scratch4) (Memref.isWhole_whole _) (Memref.whole cc0_scratch5) (Memref.isWhole_whole _) _
    (pf m 0) X3 X4 X5 X6 X7 f8 f9 f10 f11 f12 f13 f14 f8' f9' f10' f11' f12' f13' f14'
    hw
    (fun p j => by rw [e3]; exact iblk0 m c t p j) (fun g k j => by rw [e4]; exact iblk1 m c t g k j) (fun g k => by rw [e5]; exact iblk2 m c t g k)
    (fun g k j => by rw [e6]; exact iblk3 m c t g k j) (fun g k => by rw [e7]; exact iblk4 m c t g k)
    (fun hf => hS (not_first t hf) (bt t) tb) hb
  refine ⟨r8, r9, r10, fun h b hbn => ?_⟩
  obtain rfl : b = bt t := Fin.ext (by omega)
  exact ⟨r11, r12, r13⟩

/-- The attention output, whole. -/
def outArr (X : XArr) (K : KArr) (ks : KsArr) (Vv : KArr) (vs : VsArr) (P : PArr) : S4x384x5120.Idx → EReal := fun y =>
  outAt X K ks Vv vs P (y 0) (y 1) ⟨(y 2).val / 128, by have h : (y 2).val < 5120 := (y 2).isLt; omega⟩ ⟨(y 2).val % 128, by omega⟩
/-- The codes, whole. -/
def codeArr (X : XArr) : S61440x128.Idx → EReal := fun y =>
  codeAt X ⟨(y 0).val / 15360, by have h : (y 0).val < 61440 := (y 0).isLt; omega⟩ ⟨(y 0).val / 40 % 384, by omega⟩ ⟨(y 0).val % 40, by omega⟩ (y 1)
/-- The scales, whole. -/
def scaleArr (X : XArr) : S4x40x384.Idx → EReal := fun y => scaleAt X (y 0) (y 2) (y 1)

/-- Some memory: the windows' schedules are the same at every one. -/
def mem0 (ℓ : Loc nD τ sig) : Buf (Elt Ideal) ℓ := fun _ => Classical.arbitrary _
/-- The output's blocks cover its array. -/
theorem covers5 : ((cfgA m).win 5).Covers := (by decide +kernel : ((cfgA mem0).win 5).Covers)
/-- The codes' blocks cover their array. -/
theorem covers6 : ((cfgA m).win 6).Covers := (by decide +kernel : ((cfgA mem0).win 6).Covers)
/-- The scales' blocks cover their array. -/
theorem covers7 : ((cfgA m).win 7).Covers := (by decide +kernel : ((cfgA mem0).win 7).Covers)

/-- Where every flushed block is as the relation says, the arrays are the whole results. -/
theorem arrays (X : XArr) (K : KArr) (ks : KsArr) (Vv : KArr) (vs : VsArr) (P : PArr) {r : PUnit × MemSt nD τ sig (Elt Ideal)}
    (h : Pipeline.RDat.FramePost (cfgA m) (rdat m (specRel X K ks Vv vs P)) (V m) r) (c : Dev nD) :
    r.2.mem ((c.tc : Thread nD τ).loc main_v0_0) = outArr X K ks Vv vs P
      ∧ r.2.mem ((c.tc : Thread nD τ).loc main_v0_1) = codeArr X
      ∧ r.2.mem ((c.tc : Thread nD τ).loc main_v0_2) = scaleArr X := by
  obtain ⟨after, hL, hA⟩ := Pipeline.RDat.FramePost.exists_exact h c
  refine ⟨(hA 5).trans (Pipeline.Dat.arrAt_eq_of_covers _ 5 _ (covers5 m) fun t hf y => ?_),
    (hA 6).trans (Pipeline.Dat.arrAt_eq_of_covers _ 6 _ (covers6 m) fun t hf y => ?_),
    (hA 7).trans (Pipeline.Dat.arrAt_eq_of_covers _ 7 _ (covers7 m) fun t hf y => ?_)⟩
  · obtain ⟨_, _, hl⟩ := hL 5 t hf
    obtain ⟨a, p, j, rfl⟩ : ∃ (a : Fin 1) (p : Fin 128) (j : Fin 5120), y = ix3 a p j := ⟨_, _, _, eq_ix3 (show (⟨3, ![1, 128, 5120]⟩ : Shape).Idx from y)⟩
    obtain rfl : a = 0 := Subsingleton.elim _ _
    refine (show _ = after 5 t (ix3 0 p (col ⟨j.val / 128, by omega⟩ ⟨j.val % 128, by omega⟩)) from congrArg (fun j => after 5 t (ix3 0 p j)) (Fin.ext (by show j.val = j.val / 128 * 128 + j.val % 128; omega))).trans ?_
    refine (hl p ⟨j.val / 128, by omega⟩ ⟨j.val % 128, by omega⟩).trans ?_
    have e : ((((cfgA m).win 5).blk t).view.emb (ix3 0 p j)) = ix3 (bt t) (qrow (qt t) p) j := by
      funext a
      apply Fin.ext
      blk_simp
      show cc0_transform_5 (grid0.coords t) a * _ + _ = _
      rw [idx5]
      match a with
      | ⟨0, _⟩ => show (bt t).val * 1 + 0 = (bt t).val; omega
      | ⟨1, _⟩ => rfl
      | ⟨2, _⟩ => show 0 * 5120 + j.val = j.val; omega
    rw [e]
    rfl
  · obtain ⟨_, _, hl⟩ := hL 6 t hf
    obtain ⟨n, j, rfl⟩ : ∃ (n : Fin 5120) (j : Fin 128), y = ix2 n j := ⟨_, _, eq_ix2 (show (⟨2, ![5120, 128]⟩ : Shape).Idx from y)⟩
    refine (hl ⟨n.val / 40, by omega⟩ ⟨n.val % 40, by omega⟩ j n (by show n.val = n.val / 40 * 40 + n.val % 40; omega)).trans ?_
    have hb := (bt t).isLt
    have hq := (qt t).isLt
    have e : ((((cfgA m).win 6).blk t).view.emb (ix2 n j)) = ix2 (⟨((bt t).val * 3 + (qt t).val) * 5120 + n.val, by omega⟩ : Fin 61440) j := by
      funext a
      apply Fin.ext
      blk_simp
      show cc0_transform_6 (grid0.coords t) a * _ + _ = _
      rw [idx6]
      match a with
      | ⟨0, _⟩ => rfl
      | ⟨1, _⟩ => show 0 * 128 + j.val = j.val; omega
    rw [e]
    show _ = codeAt X ⟨(((bt t).val * 3 + (qt t).val) * 5120 + n.val) / 15360, _⟩ ⟨(((bt t).val * 3 + (qt t).val) * 5120 + n.val) / 40 % 384, _⟩ ⟨(((bt t).val * 3 + (qt t).val) * 5120 + n.val) % 40, _⟩ j
    congr 1
    · exact Fin.ext (by show (bt t).val = (((bt t).val * 3 + (qt t).val) * 5120 + n.val) / 15360; omega)
    · exact Fin.ext (by show (qt t).val * 128 + n.val / 40 = (((bt t).val * 3 + (qt t).val) * 5120 + n.val) / 40 % 384; omega)
    · exact Fin.ext (by show n.val % 40 = (((bt t).val * 3 + (qt t).val) * 5120 + n.val) % 40; omega)
  · obtain ⟨_, _, hl⟩ := hL 7 t hf
    obtain ⟨a, h, p, rfl⟩ : ∃ (a : Fin 1) (h : Fin 40) (p : Fin 128), y = ix3 a h p := ⟨_, _, _, eq_ix3 (show (⟨3, ![1, 40, 128]⟩ : Shape).Idx from y)⟩
    obtain rfl : a = 0 := Subsingleton.elim _ _
    refine (hl h p).trans ?_
    have e : ((((cfgA m).win 7).blk t).view.emb (ix3 0 h p)) = ix3 (bt t) h (qrow (qt t) p) := by
      funext a
      apply Fin.ext
      blk_simp
      show cc0_transform_7 (grid0.coords t) a * _ + _ = _
      rw [idx7]
      match a with
      | ⟨0, _⟩ => show (bt t).val * 1 + 0 = (bt t).val; omega
      | ⟨1, _⟩ => show 0 * 40 + h.val = h.val; omega
      | ⟨2, _⟩ => rfl
    rw [e]
    rfl

/-- The kernel's run, by values. -/
theorem run_values (ρ : Dev nD → PrngReg) (hn : ∀ (c : Dev nD) b s h, Normal (rowMax (m ((c.tc : Thread nD τ).loc main_arg0)) b s h))
    (hP : ∀ (c : Dev nD) b, (m ((c.tc : Thread nD τ).loc main_arg5) (ix1 b) : BitVec 32).toInt ≤ 384) :
    θ_run defs (onTc (τ := τ) (main (F := Ideal))) ⟨m, fun _ => 0, ρ⟩ (fun r => ∀ c : Dev nD,
      (r.2.mem ((c.tc : Thread nD τ).loc main_v0_0) = outArr (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5))
      ∧ r.2.mem ((c.tc : Thread nD τ).loc main_v0_1) = codeArr (m ((c.tc : Thread nD τ).loc main_arg0))
      ∧ r.2.mem ((c.tc : Thread nD τ).loc main_v0_2) = scaleArr (m ((c.tc : Thread nD τ).loc main_arg0)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  have one : ∀ c : Dev nD, c = 0 := fun c => Subsingleton.elim _ _
  refine (θ_run defs _ _).mono (fun r h c => ?_) (run_main m ρ (memRel m 0) (fun _ _ _ h => absurd rfl h) fun c => by rw [one c]; exact spec_step m 0 (hn 0) (hP 0))
  rw [one c]
  exact ⟨arrays m _ _ _ _ _ _ h.1 0, unchanged m _ h.1 0⟩

end Cert.KernelIdeal.Run
end
-- ==== Proof.PreVals.lean ====
module

public import proofs.«01_k».proof.Pre_in_range
public import proofs.«01_k».proof.Proof.Spec
public import Idealize.ShloMosaic.Lib.ReduceAll
public import Idealize.ShloMosaic.Lib.Affine

/-
  What the precondition says, index by index, at the extended reals.
-/

@[expose] public section

noncomputable section
namespace Cert.Pre_in_range
open Cert.Attn
open Idealize.ShloMosaic

/-- The shape relations the precondition states. -/
instance facts : Facts where
  shapeCasts_S4x384x5120_S4x384x40x128 := by decide
  reducesTo_S4x384x40x128_S4x384x40_d3 := by decide
  h_S_ := by decide
  bitsLt_bf16_f32 := by decide
  bcast_S_S4x384x40 := by decide
  reducesTo_S4x384x40_S_d0_1_2 := by decide
  bcast_S_S4 := by decide
  reducesTo_S4_S_d0 := by decide

/-- The maxima of the rows, as the precondition computes them. -/
def maxima (X : FVec Ideal S4x384x5120 .bf16) : FVec Ideal S4x384x40 .bf16 :=
  Host.reduce FloatOps.maximumf (Host.absf (shapeCast S4x384x40x128 X facts.shapeCasts_S4x384x5120_S4x384x40x128)) (constant S_ .bf16 0xFF80#16)
    facts.reducesTo_S4x384x40x128_S4x384x40_d3 facts.h_S_

/-- They are the rows' largest absolute values. -/
theorem maxima_apply (X : FVec Ideal S4x384x5120 .bf16) (b : Fin 4) (s : Fin 384) (h : Fin 40) : maxima X (ix3 b s h) = rowMax X b s h := by
  pointwise [maxima]
  rw [bot_bf16_eq]
  rfl

/-- Where a maximum is zero or lies in the range, as the precondition computes it. -/
def inside (v : FVec Ideal S4x384x40 .bf16) : IVec S4x384x40 1 :=
  ori (cmpf .oeq (extf .f32 v facts.bitsLt_bf16_f32) (broadcastInDim S4x384x40 ![] facts.bcast_S_S4x384x40 (constant S_ .f32 0x00000000#32)))
    (andi (cmpf .oge (extf .f32 v facts.bitsLt_bf16_f32) (broadcastInDim S4x384x40 ![] facts.bcast_S_S4x384x40 (constant S_ .f32 0x05000000#32)))
      (cmpf .ole (extf .f32 v facts.bitsLt_bf16_f32) (broadcastInDim S4x384x40 ![] facts.bcast_S_S4x384x40 (constant S_ .f32 0x7F7F0000#32))))

/-- It is one only where the maximum is zero or lies in the range. -/
theorem inside_normal (v : FVec Ideal S4x384x40 .bf16) (i) (h : inside v i = 1#1) : Normal (v i) := by
  have e : inside v i = IntOp.ori (Ideal.cmp .oeq (v i) (Ideal.ofBits .f32 0x00000000#32))
      (IntOp.andi (Ideal.cmp .oge (v i) (Ideal.ofBits .f32 0x05000000#32)) (Ideal.cmp .ole (v i) (Ideal.ofBits .f32 0x7F7F0000#32))) := rfl
  rw [e] at h
  generalize v i = a at h ⊢
  rcases IntOp.ori_eq_one.1 h with h0 | h1
  · exact .inl (((Ideal.cmp_oeq_eq_one a _).1 h0).trans Ideal.ofBits_zero_f32)
  · obtain ⟨hl, hu⟩ := IntOp.andi_eq_one.1 h1
    exact .inr ⟨(Ideal.cmp_oge_eq_one a _).1 hl, (Ideal.cmp_ole_eq_one a _).1 hu⟩

/-- Where the precondition holds, every row's largest absolute value is zero or lies in the range, and no prefix is longer
    than the sequence. -/
theorem unpack (X K ks Vv vs P) (e : fn (F := Ideal) X K ks Vv vs P = fun _ => 1#1) :
    (∀ b s h, Normal (rowMax X b s h)) ∧ ∀ b, (P (ix1 b) : BitVec 32).toInt ≤ 384 := by
  obtain ⟨e1, e2⟩ := IntOp.andi_eq_one.1 (congrFun e ix0)
  refine ⟨fun b s h => ?_, fun b => ?_⟩
  · rw [← maxima_apply]
    exact inside_normal (maxima X) _ (Host.reduce_andi_all _ _ _ _ _ e1 (ix3 b s h))
  · exact IntOp.cmpi_sle.1 (Host.reduce_andi_all _ _ _ _ _ e2 (ix1 b))

end Cert.Pre_in_range
end
-- ==== Proof.RefVals.lean ====
module

public import proofs.«01_k».proof.Proof.Spec
public import proofs.«01_k».proof.Proof.Gen.ReferenceIdeal.Value

/-
  What the reference computes, index by index, at the extended reals.
-/

@[expose] public section

noncomputable section
namespace Cert.ReferenceIdeal.Read
open Cert.ReferenceIdeal Cert.ReferenceIdeal.Gen Cert.ReferenceIdeal.Value Cert.Attn
open Idealize.ShloMosaic

/-- The largest absolute value along the last axis, kept as an axis of one. -/
def rmax {F : FTy → Type} [FloatOps F] (v : FVec F S4x384x8x5x128 .f32) : FVec F S4x384x8x5x1 .f32 :=
  shapeCast S4x384x8x5x1 (multiReduction .maximumf [4] S4x384x8x5 (absf v) 0xFF800000#32 reduces_S4x384x8x5x128_S4x384x8x5 (.inl rfl) rfl) shapeCasts_S4x384x8x5_S4x384x8x5x1

theorem pay3_apply {F : FTy → Type} [FloatOps F] [Named F] (X : Vec F S4x384x5120 .bf16) (i) : k0_pay3 X i =
    Scalar.select (FloatOps.cmpf .oeq (rmax (k0_pay2 X) i) (Scalar.ofBits .f32 0x00000000#32)) (Scalar.ofBits .f32 0x00000000#32)
     (FloatOps.addf (FloatOps.floor (FloatOps.mulf (FloatOps.log (FloatOps.mulf (rmax (k0_pay2 X) i) (Scalar.ofBits .f32 0x3B124925#32))) (Named.named κ "log2e" 0x3FB8AA3B#32))) (Scalar.ofBits .f32 0x3F800000#32)) := rfl

variable (X : Vec Ideal S4x384x5120 .bf16)

theorem log2e_eq : (Named.named κ "log2e" 0x3FB8AA3B#32 : Ideal .f32) = (((Real.log 2)⁻¹ : ℝ) : EReal) := rfl
theorem sm_eq : (Named.named κ "sm_scale" 0x3DB504F3#32 : Ideal .f32) = (((Real.sqrt 128)⁻¹ : ℝ) : EReal) := rfl

theorem pay2_apply (b : Fin 4) (s : Fin 384) (g : Fin 8) (r : Fin 5) (j : Fin 128) (h : Fin 40) (hh : h.val = g.val * 5 + r.val) :
    k0_pay2 X (ix5 b s g r j) = X (ix3 b s (col h j)) := by
  pointwise [k0_pay2]
  congr 2
  apply Fin.ext
  show g.val * 640 + r.val * 128 + j.val = h.val * 128 + j.val
  omega

theorem rmax_apply (b : Fin 4) (s : Fin 384) (g : Fin 8) (r : Fin 5) (h : Fin 40) (hh : h.val = g.val * 5 + r.val) :
    rmax (k0_pay2 X) (ix5 b s g r 0) = rowMax X b s h := by
  have key (v : FVec Ideal S4x384x8x5x128 .f32) : rmax v (ix5 b s g r 0) = amax fun j => v (ix5 b s g r j) := by
    pointwise [rmax]
    rw [bot_eq]; rfl
  rw [key]
  unfold rowMax
  exact congrArg amax (funext fun j => pay2_apply X b s g r j h hh)

/-- The reference's exponent is the specification's. -/
theorem pay3_eq (b : Fin 4) (s : Fin 384) (g : Fin 8) (r : Fin 5) (h : Fin 40) (hh : h.val = g.val * 5 + r.val) :
    k0_pay3 X (ix5 b s g r 0) = qexp (rowMax X b s h) := by
  rw [pay3_apply, rmax_apply X b s g r h hh]
  generalize rowMax X b s h = a
  show Scalar.select (Ideal.cmp .oeq a (Ideal.ofBits .f32 0x00000000#32)) (Ideal.ofBits .f32 0x00000000#32) (Ideal.liftRound Int.floor (Ideal.log (a * rcp) * (((Real.log 2)⁻¹ : ℝ) : EReal)) + Ideal.ofBits .f32 0x3F800000#32) = _
  rw [Ideal.ofBits_zero_f32, Ideal.ofBits_one_f32]
  unfold qexp
  by_cases ha : a = 0
  · simp [ha, Ideal.cmp, Scalar.select]
  · simp [ha, Ideal.cmp, Scalar.select]

theorem pay4_apply {F : FTy → Type} [FloatOps F] [Named F] (X : Vec F S4x384x5120 .bf16) (i) : k0_pay4 X i = FloatOps.exp2 (k0_pay3 X i) := rfl

theorem pay4_eq (b : Fin 4) (s : Fin 384) (g : Fin 8) (r : Fin 5) (h : Fin 40) (hh : h.val = g.val * 5 + r.val) :
    k0_pay4 X (ix5 b s g r 0) = scaleAt X b s h := by
  rw [pay4_apply, pay3_eq X b s g r h hh]; rfl

theorem pay5_apply {F : FTy → Type} [FloatOps F] [Named F] (X : Vec F S4x384x5120 .bf16) (i) : k0_pay5 X i =
    FloatOps.truncf .fp8e4m3 bitsLt_fp8e4m3_f32 (FloatOps.minimumf (Scalar.ofBits .f32 0x43E00000#32) (FloatOps.maximumf (Scalar.ofBits .f32 0xC3E00000#32) (FloatOps.mulf (k0_pay2 X i)
      (broadcastTo S4x384x8x5x128 (exp2 (subf (broadcast S4x384x8x5x1 (Scalar.ofBits .f32 0x00000000#32)) (k0_pay3 X))) broadcasts_S4x384x8x5x1_S4x384x8x5x128 i)))) := rfl

theorem pay5_eq (b : Fin 4) (s : Fin 384) (g : Fin 8) (r : Fin 5) (j : Fin 128) (h : Fin 40) (hh : h.val = g.val * 5 + r.val) :
    k0_pay5 X (ix5 b s g r j) = codeAt X b s h j := by
  have key (v : FVec Ideal S4x384x8x5x1 .f32) : broadcastTo S4x384x8x5x128 (exp2 (subf (broadcast S4x384x8x5x1 (Scalar.ofBits .f32 0x00000000#32)) v)) broadcasts_S4x384x8x5x1_S4x384x8x5x128 (ix5 b s g r j) = Ideal.exp2 (0 - v (ix5 b s g r 0)) := by
    pointwise []
    rfl
  rw [pay5_apply, key, pay3_eq X b s g r h hh, pay2_apply X b s g r j h hh]; rfl

/-- The reference's codes, row by row. -/
theorem G7_apply (X) (K ks V vs P) (b : Fin 4) (s : Fin 384) (h : Fin 40) (j : Fin 128) (n : Fin 61440) (hn : n.val = (b.val * 384 + s.val) * 40 + h.val) :
    G7 (F := Ideal) X K ks V vs P (ix2 n j) = codeAt X b s h j := by
  show k0_pay6 X (ix2 n j) = _
  have e5 := fun b s g r => pay5_eq X b s g r j h
  unfold k0_pay6
  generalize k0_pay5 X = v at e5 ⊢
  pointwise []
  rw [show (⟨n.val / 15360, by omega⟩ : Fin 4) = b from Fin.ext (by show n.val / 15360 = b.val; omega),
    show (⟨n.val / 40 % 384, by omega⟩ : Fin 384) = s from Fin.ext (by show n.val / 40 % 384 = s.val; omega)]
  exact e5 b s _ _ (by show h.val = n.val / 5 % 8 * 5 + n.val % 5; omega)

/-- The reference's scales. -/
theorem G8_apply (X) (K ks V vs P) (b : Fin 4) (s : Fin 384) (h : Fin 40) :
    G8 (F := Ideal) X K ks V vs P (ix3 b h s) = scaleAt X b s h := by
  show k0_pay7 X (ix3 b h s) = _
  have e4 := fun g r => pay4_eq X b s g r h
  unfold k0_pay7
  generalize k0_pay4 X = v at e4 ⊢
  pointwise []
  exact e4 _ _ (by show h.val = h.val / 5 * 5 + h.val % 5; omega)

/-- The reference's codes laid out for the products. -/
theorem pay8_eq (b : Fin 4) (s : Fin 384) (g : Fin 8) (r : Fin 5) (j : Fin 128) (h : Fin 40) (hh : h.val = g.val * 5 + r.val) :
    k0_pay8 X (ix3 ⟨b.val * 8 + g.val, by omega⟩ ⟨r.val * 384 + s.val, by omega⟩ j) = codeAt X b s h j := by
  have e5 := pay5_eq X b s g r j h hh
  unfold k0_pay8
  generalize k0_pay5 X = v at e5 ⊢
  pointwise []
  exact e5

/-- The reference's softmax terms. -/
theorem pay9_eq (K : Vec Ideal S4x8x384x128 .fp8e4m3) (ks : Vec Ideal S4x8x384 .f32) (P : Vec Ideal S4 .i32)
    (b : Fin 4) (s t : Fin 384) (g : Fin 8) (r : Fin 5) (h : Fin 40) (hh : h.val = g.val * 5 + r.val) :
    k0_pay9 (k0_pay4 X) (k0_pay8 X) K ks P (ix5 b g r s t) = prob (score X K ks P b s h) t := by
  have hg : kvh h = g := Fin.ext (by show h.val / 5 = g.val; omega)
  have e : ∀ x, score X K ks P b s h x = Scalar.select
              (IntOp.ori (IntOp.cmpi CmpIPredicate.slt (BitVec.ofNat 32 x) (P (ix1 b)))
                (IntOp.cmpi CmpIPredicate.sle (BitVec.ofNat 32 x) (BitVec.ofNat 32 s)))
              ((∑ x_1, k0_pay8 X (ix3 ⟨b.val * 8 + g.val, by omega⟩ ⟨r.val * 384 + s.val, by omega⟩ x_1) * K (ix4 b g x x_1)) * k0_pay4 X (ix5 b s g r 0) *
                  ks (ix3 b g x) *
                (Named.named κ "sm_scale" 0x3DB504F3#32 : Ideal .f32))
              (Ideal.ofBits FTy.f32 0xFF800000#32) := fun x => by
    simp only [pay8_eq X b s g r _ h hh, pay4_eq X b s g r h hh, bot_eq, sm_eq]
    unfold score
    rw [hg]; rfl
  unfold prob
  rw [show score X K ks P b s h = _ from funext e]
  generalize k0_pay4 X = v18
  generalize k0_pay8 X = v35
  pointwise [k0_pay9]
  unfold top
  rw [bot_eq]

/-- The reference's output. -/
theorem G6_apply (X) (K ks V vs P) (b : Fin 4) (s : Fin 384) (h : Fin 40) (d : Fin 128) :
    G6 (F := Ideal) X K ks V vs P (ix3 b s (col h d)) = outAt X K ks V vs P b s h d := by
  have e13 : k0_pay13 (F := Ideal) X K ks V vs P = k0_pay4 X := by
    unfold k0_pay13
    rw [View.ld_unit_zero (S := S4x384x5120) hz0 _ X]
  have e14 : k0_pay14 (F := Ideal) X K ks V vs P = k0_pay8 X := by
    unfold k0_pay14
    rw [View.ld_unit_zero (S := S4x384x5120) hz0 _ X]
  unfold G6
  rw [e13, e14]
  have hg : (⟨(col h d).val / 640, by omega⟩ : Fin 8) = kvh h := Fin.ext (by show (h.val * 128 + d.val) / 640 = h.val / 5; omega)
  have hd : (⟨(col h d).val % 128, by omega⟩ : Fin 128) = d := Fin.ext (by show (h.val * 128 + d.val) % 128 = d.val; omega)
  have hr : (⟨(col h d).val / 128 % 5, by omega⟩ : Fin 5).val = h.val % 5 := by show (h.val * 128 + d.val) / 128 % 5 = h.val % 5; omega
  generalize ha : k0_pay10 (k0_pay4 X) (k0_pay8 X) K ks P = v67
  generalize hb : k0_pay11 (k0_pay4 X) (k0_pay8 X) K V ks P = v75
  pointwise [k0_pay1]
  rw [hg, hd, ← ha, ← hb]
  have hr' : h.val = (kvh h).val * 5 + (⟨(col h d).val / 128 % 5, by omega⟩ : Fin 5).val := by rw [hr]; show h.val = h.val / 5 * 5 + _; omega
  generalize (⟨(col h d).val / 128 % 5, by omega⟩ : Fin 5) = r at hr' ⊢
  have h10 : k0_pay10 (k0_pay4 X) (k0_pay8 X) K ks P (ix5 b (kvh h) r s 0) = ∑ t, prob (score X K ks P b s h) t := by
    pointwise [k0_pay10]
    exact Finset.sum_congr rfl fun t _ => pay9_eq X K ks P b s t _ r h hr'
  have h11 : k0_pay11 (k0_pay4 X) (k0_pay8 X) K V ks P (ix5 b (kvh h) r s d) = ∑ t, min (prob (score X K ks P b s h) t * ((256 : ℝ) : EReal)) ((448 : ℝ) : EReal) * V (ix4 b (kvh h) t d) := by
    pointwise [k0_pay11]
    refine Finset.sum_congr rfl fun t _ => ?_
    rw [pay9_eq X K ks P b s t _ r h hr', c256_eq, c448_eq]
  have h12 : k0_pay12 vs (ix5 b (kvh h) 0 0 d) = vs (ix3 b (kvh h) d) := by
    pointwise [k0_pay12]
  rw [h10, h11, h12, c256inv_eq]; rfl

end Cert.ReferenceIdeal.Read
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.KFrame
public import proofs.«01_k».proof.Proof.IFrame
public import proofs.«01_k».proof.Proof.IValue
public import proofs.«01_k».proof.Proof.PreVals
public import proofs.«01_k».proof.Proof.RefVals
public import Idealize.ShloMosaic.Adequacy
public import Idealize.ShloMosaic.Init

@[expose] public section

noncomputable section

namespace Cert.Proof

open Idealize.ShloMosaic Idealize.SL.Sem Cert.Kernel

/-- The ideal program's two named constants are what the kernel's words approximate. -/
theorem preserves : Cert.preserves_Kernel_KernelIdeal :=
  ⟨IdealRules.named_const.statement Cert.KernelIdeal.κ "sm_scale_log2e" .f32 0x3E0293EE#32 _ rfl,
    IdealRules.named_const.statement Cert.KernelIdeal.κ "log2e" .f32 0x3FB8AA3B#32 _ rfl⟩

/-- The reference's attention output is the specification's. -/
theorem ref_out (X K ks Vv vs P) : Cert.ReferenceIdeal.Value.G6 (F := Ideal) X K ks Vv vs P = Cert.KernelIdeal.Run.outArr X K ks Vv vs P := by
  funext y
  obtain ⟨b, s, c, rfl⟩ : ∃ (b : Fin 4) (s : Fin 384) (c : Fin 5120), y = ix3 b s c := ⟨_, _, _, eq_ix3 y⟩
  have e : c = Cert.Attn.col ⟨c.val / 128, by omega⟩ ⟨c.val % 128, by omega⟩ := Fin.ext (by show c.val = c.val / 128 * 128 + c.val % 128; omega)
  exact (congrArg (fun c => Cert.ReferenceIdeal.Value.G6 (F := Ideal) X K ks Vv vs P (ix3 b s c)) e).trans (Cert.ReferenceIdeal.Read.G6_apply X K ks Vv vs P b s _ _)

/-- The reference's codes are the specification's. -/
theorem ref_codes (X K ks Vv vs P) : Cert.ReferenceIdeal.Value.G7 (F := Ideal) X K ks Vv vs P = Cert.KernelIdeal.Run.codeArr X := by
  funext y
  obtain ⟨n, j, rfl⟩ : ∃ (n : Fin 61440) (j : Fin 128), y = ix2 n j := ⟨_, _, eq_ix2 y⟩
  exact Cert.ReferenceIdeal.Read.G7_apply X K ks Vv vs P _ _ _ j n (by show n.val = (n.val / 15360 * 384 + n.val / 40 % 384) * 40 + n.val % 40; omega)

/-- The reference's scales are the specification's. -/
theorem ref_scales (X K ks Vv vs P) : Cert.ReferenceIdeal.Value.G8 (F := Ideal) X K ks Vv vs P = Cert.KernelIdeal.Run.scaleArr X := by
  funext y
  obtain ⟨b, h, s, rfl⟩ : ∃ (b : Fin 4) (h : Fin 40) (s : Fin 384), y = ix3 b h s := ⟨_, _, _, eq_ix3 y⟩
  exact Cert.ReferenceIdeal.Read.G8_apply X K ks Vv vs P b s h

/-- At the extended reals, where the precondition holds, the kernel's three results are the reference's. -/
theorem algebraic : Cert.algebraic_KernelIdeal_ReferenceIdeal_pre_in_range := by
  intro m g m' g' hpre hargs
  refine ⟨fun c => Cert.KernelIdeal.Run.outArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.KernelIdeal.Run.codeArr (m ((c.tc : Thread Cert.KernelIdeal.nD Cert.KernelIdeal.τ).loc Cert.KernelIdeal.main_arg0)),
    fun c => Cert.KernelIdeal.Run.scaleArr (m ((c.tc : Thread Cert.KernelIdeal.nD Cert.KernelIdeal.τ).loc Cert.KernelIdeal.main_arg0)),
    (θ_run _ _ _).mono (fun r h c => ?_) (Cert.KernelIdeal.Run.run_values m g (fun c => (Cert.Pre_in_range.unpack _ _ _ _ _ _ (hpre c)).1)
      fun c => (Cert.Pre_in_range.unpack _ _ _ _ _ _ (hpre c)).2),
    (θ_run _ _ _).mono (fun r h c => ?_) (Cert.ReferenceIdeal.Value.run m' g')⟩
  · obtain ⟨⟨h0, h1, h2⟩, hk⟩ := h c
    exact ⟨h0, h1, h2, hk⟩
  · obtain ⟨h0, h1, h2, hk⟩ := h c
    obtain ⟨a0, a1, a2, a3, a4, a5⟩ := hargs c
    refine ⟨h0.trans ?_, h1.trans ?_, h2.trans ?_, hk⟩
    · rw [ref_out]
      exact congr (congr (congr (congr (congr (congrArg Cert.KernelIdeal.Run.outArr a0) a1) a2) a3) a4) a5
    · rw [ref_codes]
      exact congrArg Cert.KernelIdeal.Run.codeArr a0
    · rw [ref_scales]
      exact congrArg Cert.KernelIdeal.Run.scaleArr a0

/-- Every claim of the certificate. -/
theorem claim : Cert.Claim := ⟨Cert.Kernel.Gen.facts, Cert.KernelIdeal.Gen.facts, Cert.ReferenceIdeal.Gen.facts, Cert.Pre_in_range.facts,
  fun m g _ => Cert.Kernel.Run.frame m g, fun m g _ => Cert.KernelIdeal.Run.frame m g, fun m g _ => Cert.KernelIdeal.Run.frame m g,
  fun m g _ => Cert.ReferenceIdeal.Gen.frame m g, fun m g _ => Cert.ReferenceIdeal.Gen.frame m g, preserves, algebraic⟩

end Cert.Proof

end
